-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_from_pad [hPre_scores_from_pad : Cert.Pre_scores_from_pad.Facts] (m : (ℓ : Loc Cert.KernelIdeal.nD Cert.KernelIdeal.τ Cert.KernelIdeal.sig) → Buf (Elt Ideal) ℓ) : Prop :=
  ∀ c : Dev Cert.KernelIdeal.nD,
    (Cert.Pre_scores_from_pad.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_from_pad [hPre_scores_from_pad : Cert.Pre_scores_from_pad.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_from_pad.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_scores_from_pad [hKernelIdeal : Cert.KernelIdeal.Facts] [hPre_scores_from_pad : Cert.Pre_scores_from_pad.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_from_pad m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_scores_from_pad [hReferenceIdeal : Cert.ReferenceIdeal.Facts] [hPre_scores_from_pad : Cert.Pre_scores_from_pad.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_from_pad m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_scores_from_pad [hKernelIdeal : Cert.KernelIdeal.Facts] [hReferenceIdeal : Cert.ReferenceIdeal.Facts] [hPre_scores_from_pad : Cert.Pre_scores_from_pad.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_from_pad m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9_4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_scores_from_pad : Cert.Pre_scores_from_pad.Facts),
    quiescent_Kernel (hKernel := hKernel)
    ∧ quiescent_KernelIdeal (hKernelIdeal := hKernelIdeal)
    ∧ quiescent_KernelIdeal_pre_scores_from_pad (hKernelIdeal := hKernelIdeal) (hPre_scores_from_pad := hPre_scores_from_pad)
    ∧ quiescent_ReferenceIdeal (hReferenceIdeal := hReferenceIdeal)
    ∧ quiescent_ReferenceIdeal_pre_scores_from_pad (hReferenceIdeal := hReferenceIdeal) (hPre_scores_from_pad := hPre_scores_from_pad)
    ∧ preserves_Kernel_KernelIdeal
    ∧ algebraic_KernelIdeal_ReferenceIdeal_pre_scores_from_pad (hKernelIdeal := hKernelIdeal) (hReferenceIdeal := hReferenceIdeal) (hPre_scores_from_pad := hPre_scores_from_pad)
-- ==== Pre_scores_from_pad.lean ====
abbrev S20000x4 : Shape := ⟨2, ![20000, 4]⟩
abbrev S20000 : Shape := ⟨1, ![20000]⟩
abbrev S_ : Shape := ⟨0, ![]⟩

class Facts : Prop where
  bcast_S_S20000 : S_.BroadcastsInDim S20000 (![] : Fin 0 → Fin S20000.rank)
  reducesTo_S20000_S_d0 : S20000.ReducesTo [0] S_
  h_S_ : 0 < S_.numel

variable [Facts]

def fn {F : FTy → Type} [FloatOps F] (main_arg0 : FVec F S20000x4 .f32) (main_arg1 : FVec F S20000 .f32) : IVec S_ 1 :=
  let main_cst : FVec F S_ .f32 := constant S_ .f32 0xBF800000#32
  let main_v0 : FVec F S20000 .f32 := broadcastInDim S20000 ![] bcast_S_S20000 main_cst
  let main_v1 : IVec S20000 1 := cmpf .oge main_arg1 main_v0
  let main_c : IVec S_ 1 := constantI S_ 1 1#1
  let main_v2 : IVec S_ 1 := (fun x v => Host.reduce IntOp.andi x v reducesTo_S20000_S_d0 h_S_) main_v1 main_c
  main_v2
-- ==== Kernel.lean ====
abbrev S20000x4 : Shape := ⟨2, ![20000, 4]⟩
abbrev S20000 : Shape := ⟨1, ![20000]⟩
abbrev S_ : Shape := ⟨0, ![]⟩
abbrev S12768 : Shape := ⟨1, ![12768]⟩
abbrev S32768 : Shape := ⟨1, ![32768]⟩
abbrev S256x128 : Shape := ⟨2, ![256, 128]⟩
abbrev S20000x1 : Shape := ⟨2, ![20000, 1]⟩
abbrev S1000x128 : Shape := ⟨2, ![1000, 128]⟩
abbrev S48x128 : Shape := ⟨2, ![48, 128]⟩
abbrev S384x128 : Shape := ⟨2, ![384, 128]⟩
abbrev S1x128 : Shape := ⟨2, ![1, 128]⟩
abbrev S3x128 : Shape := ⟨2, ![3, 128]⟩
abbrev S8x128 : Shape := ⟨2, ![8, 128]⟩
abbrev S1x1 : Shape := ⟨2, ![1, 1]⟩
abbrev S8x1 : Shape := ⟨2, ![8, 1]⟩
abbrev S1x1x1 : Shape := ⟨3, ![1, 1, 1]⟩
abbrev S1 : Shape := ⟨1, ![1]⟩
abbrev S1000x5 : Shape := ⟨2, ![1000, 5]⟩

abbrev nBuf : Space → Nat
  | .hbm => 32
  | .vmem => 15
  | .smem => 0
  | _ => 0

abbrev bufTy : (tb : Table) → Fin (tcTables nBuf tb) → BufTy
  | .hbm, ⟨0, _⟩ => ⟨S20000x4, .f32⟩
  | .hbm, ⟨1, _⟩ => ⟨S20000, .f32⟩
  | .hbm, ⟨2, _⟩ => ⟨S_, .f32⟩
  | .hbm, ⟨3, _⟩ => ⟨S12768, .f32⟩
  | .hbm, ⟨4, _⟩ => ⟨S32768, .f32⟩
  | .hbm, ⟨5, _⟩ => ⟨S256x128, .f32⟩
  | .hbm, ⟨6, _⟩ => ⟨S20000x1, .f32⟩
  | .hbm, ⟨7, _⟩ => ⟨S20000, .f32⟩
  | .hbm, ⟨8, _⟩ => ⟨S_, .f32⟩
  | .hbm, ⟨9, _⟩ => ⟨S12768, .f32⟩
  | .hbm, ⟨10, _⟩ => ⟨S32768, .f32⟩
  | .hbm, ⟨11, _⟩ => ⟨S256x128, .f32⟩
  | .hbm, ⟨12, _⟩ => ⟨S20000x1, .f32⟩
  | .hbm, ⟨13, _⟩ => ⟨S20000, .f32⟩
  | .hbm, ⟨14, _⟩ => ⟨S_, .f32⟩
  | .hbm, ⟨15, _⟩ => ⟨S12768, .f32⟩
  | .hbm, ⟨16, _⟩ => ⟨S32768, .f32⟩
  | .hbm, ⟨17, _⟩ => ⟨S256x128, .f32⟩
  | .hbm, ⟨18, _⟩ => ⟨S20000x1, .f32⟩
  | .hbm, ⟨19, _⟩ => ⟨S20000, .f32⟩
  | .hbm, ⟨20, _⟩ => ⟨S_, .f32⟩
  | .hbm, ⟨21, _⟩ => ⟨S12768, .f32⟩
  | .hbm, ⟨22, _⟩ => ⟨S32768, .f32⟩
  | .hbm, ⟨23, _⟩ => ⟨S256x128, .f32⟩
  | .hbm, ⟨24, _⟩ => ⟨S20000x1, .f32⟩
  | .hbm, ⟨25, _⟩ => ⟨S20000, .f32⟩
  | .hbm, ⟨26, _⟩ => ⟨S_, .f32⟩
  | .hbm, ⟨27, _⟩ => ⟨S12768, .f32⟩
  | .hbm, ⟨28, _⟩ => ⟨S32768, .f32⟩
  | .hbm, ⟨29, _⟩ => ⟨S256x128, .f32⟩
  | .hbm, ⟨30, _⟩ => ⟨S1000x128, .f32⟩
  | .hbm, ⟨31, _⟩ => ⟨S1000x5, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S1000x128, .f32⟩
  | .local _ .vmem, ⟨6, _⟩ => ⟨S256x128, .f32⟩
  | .local _ .vmem, ⟨7, _⟩ => ⟨S256x128, .i32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S48x128, .f32⟩
  | .local _ .vmem, ⟨13, _⟩ => ⟨S48x128, .f32⟩
  | .local _ .vmem, ⟨14, _⟩ => ⟨S384x128, .f32⟩
  | _, _ => ⟨S20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c1_i32 : BitVec 32 := 1#32
  let c15_i32 : BitVec 32 := 15#32
  let v36 : BitVec 32 := Scalar.addi c1_i32 c15_i32
  let c1_i32_23 : BitVec 32 := 1#32
  ⟨c1_i32, v36, c1_i32_23⟩
@[reducible] def k0_t2_loop (k0_t1 : Fin k0_t1_loop.trips) : Scf.Loop 32 :=
  let c0_i32_42 : BitVec 32 := 0#32
  let c1_i32 : BitVec 32 := 1#32
  let c1_i32_23 : BitVec 32 := 1#32
  let arg15 : BitVec 32 := Scf.iv c1_i32 c1_i32_23 k0_t1
  let c7_i32 : BitVec 32 := 7#32
  let v57 : BitVec 32 := Scalar.subi arg15 c7_i32
  let c0_i32_41 : BitVec 32 := 0#32
  let v58 : BitVec 32 := Scalar.maxsi v57 c0_i32_41
  let v59 : BitVec 32 := Scalar.subi v58 c0_i32_42
  let c1_i32_43 : BitVec 32 := 1#32
  let v61 : BitVec 32 := Scalar.divsi v59 c1_i32_43
  let v62 : BitVec 32 := Scalar.muli v61 c1_i32_43
  let v63 : BitVec 32 := Scalar.addi c0_i32_42 v62
  let c1_i32_44 : BitVec 32 := 1#32
  ⟨c0_i32_42, v63, c1_i32_44⟩
@[reducible] def k0_t3_loop (k0_t1 : Fin k0_t1_loop.trips) : Scf.Loop 32 :=
  let c0_i32_42 : BitVec 32 := 0#32
  let c1_i32 : BitVec 32 := 1#32
  let c1_i32_23 : BitVec 32 := 1#32
  let arg15 : BitVec 32 := Scf.iv c1_i32 c1_i32_23 k0_t1
  let c7_i32 : BitVec 32 := 7#32
  let v57 : BitVec 32 := Scalar.subi arg15 c7_i32
  let c0_i32_41 : BitVec 32 := 0#32
  let v58 : BitVec 32 := Scalar.maxsi v57 c0_i32_41
  let v59 : BitVec 32 := Scalar.subi v58 c0_i32_42
  let c1_i32_43 : BitVec 32 := 1#32
  let v61 : BitVec 32 := Scalar.divsi v59 c1_i32_43
  let v62 : BitVec 32 := Scalar.muli v61 c1_i32_43
  let v63 : BitVec 32 := Scalar.addi c0_i32_42 v62
  let v60 : BitVec 32 := Scalar.addi c0_i32_42 v59
  let c1_i32_45 : BitVec 32 := 1#32
  ⟨v63, v60, c1_i32_45⟩
@[reducible] def k0_t4_loop (k0_t1 : Fin k0_t1_loop.trips) : Scf.Loop 32 :=
  let c1_i32 : BitVec 32 := 1#32
  let c1_i32_23 : BitVec 32 := 1#32
  let arg15 : BitVec 32 := Scf.iv c1_i32 c1_i32_23 k0_t1
  let c7_i32 : BitVec 32 := 7#32
  let v57 : BitVec 32 := Scalar.subi arg15 c7_i32
  let c0_i32_41 : BitVec 32 := 0#32
  let v58 : BitVec 32 := Scalar.maxsi v57 c0_i32_41
  let v64 : BitVec 32 := Scalar.subi arg15 v58
  let c1_i32_46 : BitVec 32 := 1#32
  let v66 : BitVec 32 := Scalar.divsi v64 c1_i32_46
  let v67 : BitVec 32 := Scalar.muli v66 c1_i32_46
  let v68 : BitVec 32 := Scalar.addi v58 v67
  let c1_i32_47 : BitVec 32 := 1#32
  ⟨v58, v68, c1_i32_47⟩
@[reducible] def k0_t5_loop (k0_t1 : Fin k0_t1_loop.trips) : Scf.Loop 32 :=
  let c1_i32 : BitVec 32 := 1#32
  let c1_i32_23 : BitVec 32 := 1#32
  let arg15 : BitVec 32 := Scf.iv c1_i32 c1_i32_23 k0_t1
  let c7_i32 : BitVec 32 := 7#32
  let v57 : BitVec 32 := Scalar.subi arg15 c7_i32
  let c0_i32_41 : BitVec 32 := 0#32
  let v58 : BitVec 32 := Scalar.maxsi v57 c0_i32_41
  let v64 : BitVec 32 := Scalar.subi arg15 v58
  let c1_i32_46 : BitVec 32 := 1#32
  let v66 : BitVec 32 := Scalar.divsi v64 c1_i32_46
  let v67 : BitVec 32 := Scalar.muli v66 c1_i32_46
  let v68 : BitVec 32 := Scalar.addi v58 v67
  let v65 : BitVec 32 := Scalar.addi v58 v64
  let c1_i32_48 : BitVec 32 := 1#32
  ⟨v68, v65, c1_i32_48⟩
@[reducible] def k0_t6_loop : Scf.Loop 32 :=
  let c0_i32 : BitVec 32 := 0#32
  let c48_i32 : BitVec 32 := 48#32
  let v55 : BitVec 32 := Scalar.addi c0_i32 c48_i32
  let c1_i32_37 : BitVec 32 := 1#32
  ⟨c0_i32, v55, c1_i32_37⟩
def k0_off1 (k0_t6 : Fin k0_t6_loop.trips) : Fin 2 → Nat :=
  let c0_i32 : BitVec 32 := 0#32
  let c1_i32_37 : BitVec 32 := 1#32
  let arg15 : BitVec 32 := Scf.iv c0_i32 c1_i32_37 k0_t6
  let v57 : Index := Scalar.indexCast arg15
  let c0_41 : Index := 0#32
  ![v57.toNat, 0]
def k0_off2 (k0_t6 : Fin k0_t6_loop.trips) : Fin 2 → Nat :=
  let c0_i32 : BitVec 32 := 0#32
  let c1_i32_37 : BitVec 32 := 1#32
  let arg15 : BitVec 32 := Scf.iv c0_i32 c1_i32_37 k0_t6
  let c8_i32 : BitVec 32 := 8#32
  let v69 : BitVec 32 := Scalar.muli arg15 c8_i32
  let v70 : Index := Scalar.indexCast v69
  let c0_47 : Index := 0#32
  ![v70.toNat, 0]
def k0_off3 (arg15 : BitVec 32) : Fin 2 → Nat :=
  let c7_i32 : BitVec 32 := 7#32
  let v59 : BitVec 32 := Scalar.shrsi arg15 c7_i32
  let v65 : Index := Scalar.indexCast v59
  let c0_42 : Index := 0#32
  ![v65.toNat, 0]

def k0_off4 (arg15 : BitVec 32) : Fin 2 → Nat :=
  let c7_i32 : BitVec 32 := 7#32
  let v59 : BitVec 32 := Scalar.shrsi arg15 c7_i32
  let c8_i32 : BitVec 32 := 8#32
  let v68 : BitVec 32 := Scalar.muli v59 c8_i32
  let v69 : Index := Scalar.indexCast v68
  let c0_44 : Index := 0#32
  ![v69.toNat, 0]
def k0_off5 (arg15 : BitVec 32) : Fin 2 → Nat :=
  let c1_i32_41 : BitVec 32 := 1#32
  let v57 : BitVec 32 := Scalar.addi arg15 c1_i32_41
  let c6143_i32 : BitVec 32 := 6143#32
  let v58 : BitVec 32 := Scalar.minsi v57 c6143_i32
  let c7_i32_49 : BitVec 32 := 7#32
  let v103 : BitVec 32 := Scalar.shrsi v58 c7_i32_49
  let v109 : Index := Scalar.indexCast v103
  let c0_51 : Index := 0#32
  ![v109.toNat, 0]
def k0_off6 (arg15 : BitVec 32) : Fin 2 → Nat :=
  let c1_i32_41 : BitVec 32 := 1#32
  let v57 : BitVec 32 := Scalar.addi arg15 c1_i32_41
  let c6143_i32 : BitVec 32 := 6143#32
  let v58 : BitVec 32 := Scalar.minsi v57 c6143_i32
  let c7_i32_49 : BitVec 32 := 7#32
  let v103 : BitVec 32 := Scalar.shrsi v58 c7_i32_49
  let c8_i32_53 : BitVec 32 := 8#32
  let v112 : BitVec 32 := Scalar.muli v103 c8_i32_53
  let v113 : Index := Scalar.indexCast v112
  let c0_54 : Index := 0#32
  ![v113.toNat, 0]

def k0_chk1 (arg15 : BitVec 32) : Prop :=
  (∀ a, (k0_off3 arg15) a + S1x128.size a ≤ S48x128.size a) ∧
  (∀ a, (k0_off4 arg15) a + S8x128.size a ≤ S384x128.size a) ∧
  (∀ a, (k0_off5 arg15) a + S1x128.size a ≤ S48x128.size a) ∧
  (∀ a, (k0_off6 arg15) a + S8x128.size a ≤ S384x128.size a)
theorem k0_off3_inb : ∀ (arg15 : BitVec 32) (k0_hw1 : k0_chk1 arg15), ∀ a, (k0_off3 arg15) a + S1x128.size a ≤ S48x128.size a := fun arg15 k0_hw1 => k0_hw1.1
theorem k0_off4_inb : ∀ (arg15 : BitVec 32) (k0_hw1 : k0_chk1 arg15), ∀ a, (k0_off4 arg15) a + S8x128.size a ≤ S384x128.size a := fun arg15 k0_hw1 => k0_hw1.2.1
theorem k0_off5_inb : ∀ (arg15 : BitVec 32) (k0_hw1 : k0_chk1 arg15), ∀ a, (k0_off5 arg15) a + S1x128.size a ≤ S48x128.size a := fun arg15 k0_hw1 => k0_hw1.2.2.1
theorem k0_off6_inb : ∀ (arg15 : BitVec 32) (k0_hw1 : k0_chk1 arg15), ∀ a, (k0_off6 arg15) a + S8x128.size a ≤ S384x128.size a := fun arg15 k0_hw1 => k0_hw1.2.2.2

def k0_off7 (arg16 : BitVec 32) : Fin 2 → Nat :=
  let v288 : Index := Scalar.indexCast arg16
  let c0_111 : Index := 0#32
  ![v288.toNat, 0]
def k0_cond1 (v182 : BitVec 1) : BitVec 1 :=
  let v278 : BitVec 32 := Scalar.extui v182
  let c0_i32_108 : BitVec 32 := 0#32
  let v279 : BitVec 1 := Scalar.cmpi .ne v278 c0_i32_108
  v279

def k0_chk2 (arg16 : BitVec 32) (v182 : BitVec 1) : Prop :=
  (∀ (k0_h1 : k0_cond1 v182 = 1#1), ∀ a, (k0_off7 arg16) a + S1x128.size a ≤ S1000x128.size a)
theorem k0_off7_inb : ∀ (arg16 : BitVec 32) (v182 : BitVec 1) (k0_hw2 : k0_chk2 arg16 v182), ∀ (k0_h1 : k0_cond1 v182 = 1#1), ∀ a, (k0_off7 arg16) a + S1x128.size a ≤ S1000x128.size a := fun arg16 v182 k0_hw2 k0_h1 => k0_hw2 k0_h1

def k0_off8 (arg16 : BitVec 32) (v182 : BitVec 1) : Fin 2 → Nat :=
  let v276 : BitVec 32 := Scalar.extui v182
  let v288 : BitVec 32 := Scalar.addi arg16 v276
  let v289 : Index := Scalar.indexCast v288
  let c0_111 : Index := 0#32
  ![v289.toNat, 0]
def k0_cond2 (arg15 : BitVec 32) (arg16 : BitVec 32) (v182 : BitVec 1) (v187 : BitVec 1) (v192 : BitVec 1) : BitVec 1 :=
  let c1_i32_71 : BitVec 32 := 1#32
  let v188 : BitVec 32 := Scalar.addi arg15 c1_i32_71
  let c6144_i32 : BitVec 32 := 6144#32
  let v189 : BitVec 1 := Scalar.cmpi .slt v188 c6144_i32
  let v190 : BitVec 1 := Scalar.andi v187 v189
  let v_true : BitVec 1 := 1#1
  let v191 : BitVec 1 := Scalar.xori v182 v_true
  let v193 : BitVec 1 := Scalar.ori v191 v192
  let v194 : BitVec 1 := Scalar.andi v190 v193
  let v276 : BitVec 32 := Scalar.extui v182
  let v280 : BitVec 32 := Scalar.addi arg16 v276
  let c1000_i32 : BitVec 32 := 1000#32
  let v281 : BitVec 1 := Scalar.cmpi .slt v280 c1000_i32
  let v282 : BitVec 1 := Scalar.andi v194 v281
  let v283 : BitVec 32 := Scalar.extui v282
  let c0_i32_109 : BitVec 32 := 0#32
  let v284 : BitVec 1 := Scalar.cmpi .ne v283 c0_i32_109
  v284

def k0_chk3 (arg15 : BitVec 32) (arg16 : BitVec 32) (v182 : BitVec 1) (v187 : BitVec 1) (v192 : BitVec 1) : Prop :=
  (∀ (k0_h2 : k0_cond2 arg15 arg16 v182 v187 v192 = 1#1), ∀ a, (k0_off8 arg16 v182) a + S1x128.size a ≤ S1000x128.size a)
theorem k0_off8_inb : ∀ (arg15 : BitVec 32) (arg16 : BitVec 32) (v182 : BitVec 1) (v187 : BitVec 1) (v192 : BitVec 1) (k0_hw3 : k0_chk3 arg15 arg16 v182 v187 v192), ∀ (k0_h2 : k0_cond2 arg15 arg16 v182 v187 v192 = 1#1), ∀ a, (k0_off8 arg16 v182) a + S1x128.size a ≤ S1000x128.size a := fun arg15 arg16 v182 v187 v192 k0_hw3 k0_h2 => k0_hw3 k0_h2

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1000x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S20000x4 : Shape := ⟨2, ![20000, 4]⟩
abbrev S20000 : Shape := ⟨1, ![20000]⟩
abbrev S6000 : Shape := ⟨1, ![6000]⟩
abbrev S_ : Shape := ⟨0, ![]⟩
abbrev S6000x1 : Shape := ⟨2, ![6000, 1]⟩
abbrev S6000x4 : Shape := ⟨2, ![6000, 4]⟩
abbrev S1000x5 : Shape := ⟨2, ![1000, 5]⟩
abbrev S1 : Shape := ⟨1, ![1]⟩
abbrev S1x4 : Shape := ⟨2, ![1, 4]⟩
abbrev S4 : Shape := ⟨1, ![4]⟩
abbrev S5 : Shape := ⟨1, ![5]⟩
abbrev S1x5 : Shape := ⟨2, ![1, 5]⟩

abbrev nBuf : Space → Nat
  | .hbm => 169
  | .vmem => 0
  | .smem => 0
  | _ => 0

abbrev hbmTy0_0 (i : Nat) : BufTy := match i % 128 with
  | 0 => ⟨S20000x4, .f32⟩
  | 1 => ⟨S20000, .f32⟩
  | 2 => ⟨S6000, .f32⟩
  | 3 => ⟨S6000, .i32⟩
  | 4 => ⟨S_, .i32⟩
  | 5 => ⟨S6000, .i32⟩
  | 6 => ⟨S6000, .i1⟩
  | 7 => ⟨S_, .i32⟩
  | 8 => ⟨S6000, .i32⟩
  | 9 => ⟨S6000, .i32⟩
  | 10 => ⟨S6000, .i32⟩
  | 11 => ⟨S6000x1, .i32⟩
  | 12 => ⟨S6000x4, .f32⟩
  | 13 => ⟨S_, .i1⟩
  | 14 => ⟨S6000, .i1⟩
  | 15 => ⟨S_, .f32⟩
  | 16 => ⟨S1000x5, .f32⟩
  | 17 => ⟨S_, .i32⟩
  | 18 => ⟨S6000, .f32⟩
  | 19 => ⟨S6000x4, .f32⟩
  | 20 => ⟨S_, .i32⟩
  | 21 => ⟨S6000, .i1⟩
  | 22 => ⟨S1000x5, .f32⟩
  | 23 => ⟨S_, .i32⟩
  | 24 => ⟨S_, .i1⟩
  | 25 => ⟨S_, .f32⟩
  | 26 => ⟨S_, .f32⟩
  | 27 => ⟨S6000, .f32⟩
  | 28 => ⟨S6000, .f32⟩
  | 29 => ⟨S_, .f32⟩
  | 30 => ⟨S_, .f32⟩
  | 31 => ⟨S6000, .f32⟩
  | 32 => ⟨S6000, .i1⟩
  | 33 => ⟨S6000, .i32⟩
  | 34 => ⟨S_, .i32⟩
  | 35 => ⟨S_, .i32⟩
  | 36 => ⟨S6000, .i32⟩
  | 37 => ⟨S6000, .i32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S_, .i32⟩
  | 45 => ⟨S1, .f32⟩
  | 46 => ⟨S_, .f32⟩
  | 47 => ⟨S_, .f32⟩
  | 48 => ⟨S_, .i1⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S_, .i32⟩
  | 60 => ⟨S_, .i32⟩
  | 61 => ⟨S_, .i32⟩
  | 62 => ⟨S1x4, .f32⟩
  | 63 => ⟨S4, .f32⟩
  | 64 => ⟨S1, .f32⟩
  | 65 => ⟨S_, .f32⟩
  | 66 => ⟨S6000x1, .f32⟩
  | 67 => ⟨S6000, .f32⟩
  | 68 => ⟨S6000, .f32⟩
  | 69 => ⟨S6000, .f32⟩
  | 70 => ⟨S1, .f32⟩
  | 71 => ⟨S_, .f32⟩
  | 72 => ⟨S6000x1, .f32⟩
  | 73 => ⟨S6000, .f32⟩
  | 74 => ⟨S6000, .f32⟩
  | 75 => ⟨S6000, .f32⟩
  | 76 => ⟨S1, .f32⟩
  | 77 => ⟨S_, .f32⟩
  | 78 => ⟨S6000x1, .f32⟩
  | 79 => ⟨S6000, .f32⟩
  | 80 => ⟨S6000, .f32⟩
  | 81 => ⟨S6000, .f32⟩
  | 82 => ⟨S1, .f32⟩
  | 83 => ⟨S_, .f32⟩
  | 84 => ⟨S6000x1, .f32⟩
  | 85 => ⟨S6000, .f32⟩
  | 86 => ⟨S6000, .f32⟩
  | 87 => ⟨S6000, .f32⟩
  | 88 => ⟨S6000, .f32⟩
  | 89 => ⟨S_, .f32⟩
  | 90 => ⟨S_, .f32⟩
  | 91 => ⟨S6000, .f32⟩
  | 92 => ⟨S6000, .f32⟩
  | 93 => ⟨S6000, .f32⟩
  | 94 => ⟨S_, .f32⟩
  | 95 => ⟨S_, .f32⟩
  | 96 => ⟨S6000, .f32⟩
  | 97 => ⟨S6000, .f32⟩
  | 98 => ⟨S6000, .f32⟩
  | 99 => ⟨S1, .f32⟩
  | 100 => ⟨S_, .f32⟩
  | 101 => ⟨S1, .f32⟩
  | 102 => ⟨S_, .f32⟩
  | 103 => ⟨S_, .f32⟩
  | 104 => ⟨S1, .f32⟩
  | 105 => ⟨S_, .f32⟩
  | 106 => ⟨S1, .f32⟩
  | 107 => ⟨S_, .f32⟩
  | 108 => ⟨S_, .f32⟩
  | 109 => ⟨S_, .f32⟩
  | 110 => ⟨S6000x1, .f32⟩
  | 111 => ⟨S6000, .f32⟩
  | 112 => ⟨S6000x1, .f32⟩
  | 113 => ⟨S6000, .f32⟩
  | 114 => ⟨S6000, .f32⟩
  | 115 => ⟨S6000x1, .f32⟩
  | 116 => ⟨S6000, .f32⟩
  | 117 => ⟨S6000x1, .f32⟩
  | 118 => ⟨S6000, .f32⟩
  | 119 => ⟨S6000, .f32⟩
  | 120 => ⟨S6000, .f32⟩
  | 121 => ⟨S6000, .f32⟩
  | 122 => ⟨S6000, .f32⟩
  | 123 => ⟨S6000, .f32⟩
  | 124 => ⟨S_, .f32⟩
  | 125 => ⟨S6000, .f32⟩
  | 126 => ⟨S6000, .f32⟩
  | 127 => ⟨S6000, .f32⟩
  | _ => ⟨S20000x4, .f32⟩

abbrev hbmTy0_1 (i : Nat) : BufTy := match i % 128 with
  | 0 => ⟨S_, .f32⟩
  | 1 => ⟨S6000, .f32⟩
  | 2 => ⟨S6000, .i1⟩
  | 3 => ⟨S6000, .i1⟩
  | 4 => ⟨S6000, .i32⟩
  | 5 => ⟨S6000, .i32⟩
  | 6 => ⟨S6000, .i1⟩
  | 7 => ⟨S6000, .i1⟩
  | 8 => ⟨S_, .i32⟩
  | 9 => ⟨S_, .i1⟩
  | 10 => ⟨S_, .i32⟩
  | 11 => ⟨S_, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S_, .i32⟩
  | 19 => ⟨S_, .i32⟩
  | 20 => ⟨S_, .i32⟩
  | 21 => ⟨S1x4, .f32⟩
  | 22 => ⟨S4, .f32⟩
  | 23 => ⟨S_, .i32⟩
  | 24 => ⟨S_, .i1⟩
  | 25 => ⟨S_, .i32⟩
  | 26 => ⟨S_, .i32⟩
  | 27 => ⟨S_, .i32⟩
  | 28 => ⟨S1, .f32⟩
  | 29 => ⟨S_, .f32⟩
  | 30 => ⟨S1, .f32⟩
  | 31 => ⟨S5, .f32⟩
  | 32 => ⟨S_, .f32⟩
  | 33 => ⟨S_, .f32⟩
  | 34 => ⟨S5, .f32⟩
  | 35 => ⟨S5, .f32⟩
  | 36 => ⟨S1x5, .f32⟩
  | 37 => ⟨S_, .i32⟩
  | 38 => ⟨S1000x5, .f32⟩
  | 39 => ⟨S_, .i32⟩
  | 40 => ⟨S_, .i32⟩
  | _ => ⟨S20000x4, .f32⟩

abbrev hbmTy (i : Nat) : BufTy := match i / 128 with
  | 0 => hbmTy0_0 i
  | 1 => hbmTy0_1 i
  | _ => ⟨S20000x4, .f32⟩

abbrev bufTy : (tb : Table) → Fin (tcTables nBuf tb) → BufTy
  | .hbm, ⟨i, _⟩ => hbmTy i
  | _, _ => ⟨S20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_values : Ref sig .tc := ⟨.hbm, 2, rfl⟩
abbrev main_indices : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_c_2 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev main_while0c_c_7 : Ref sig .tc := ⟨.hbm, 23, rfl⟩
abbrev main_while0c_v10 : Ref sig .tc := ⟨.hbm, 24, rfl⟩
abbrev main_while0b_cst_7 : Ref sig .tc := ⟨.hbm, 25, rfl⟩
abbrev main_while0b_call0_v0 : Ref sig .tc := ⟨.hbm, 26, rfl⟩
abbrev main_while0b_call0_v1 : Ref sig .tc := ⟨.hbm, 27, rfl⟩
abbrev main_while0b_v10 : Ref sig .tc := ⟨.hbm, 28, rfl⟩
abbrev main_while0b_cst_8 : Ref sig .tc := ⟨.hbm, 29, rfl⟩
abbrev main_while0b_v11 : Ref sig .tc := ⟨.hbm, 30, rfl⟩
abbrev main_while0b_v12 : Ref sig .tc := ⟨.hbm, 31, rfl⟩
abbrev main_while0b_v13 : Ref sig .tc := ⟨.hbm, 32, rfl⟩
abbrev main_while0b_v14 : Ref sig .tc := ⟨.hbm, 33, rfl⟩
abbrev main_while0b_c_9 : Ref sig .tc := ⟨.hbm, 34, rfl⟩
abbrev main_while0b_call1_v0 : Ref sig .tc := ⟨.hbm, 35, rfl⟩
abbrev main_while0b_call1_v1 : Ref sig .tc := ⟨.hbm, 36, rfl⟩
abbrev main_while0b_v15 : Ref sig .tc := ⟨.hbm, 37, rfl⟩
abbrev main_while0b_c_10 : Ref sig .tc := ⟨.hbm, 38, rfl⟩
abbrev main_while0b_v16 : Ref sig .tc := ⟨.hbm, 39, rfl⟩
abbrev main_while0b_c_11 : Ref sig .tc := ⟨.hbm, 40, rfl⟩
abbrev main_while0b_v17 : Ref sig .tc := ⟨.hbm, 41, rfl⟩
abbrev main_while0b_c_12 : Ref sig .tc := ⟨.hbm, 42, rfl⟩
abbrev main_while0b_v18 : Ref sig .tc := ⟨.hbm, 43, rfl⟩
abbrev main_while0b_v19 : Ref sig .tc := ⟨.hbm, 44, rfl⟩
abbrev main_while0b_v20 : Ref sig .tc := ⟨.hbm, 45, rfl⟩
abbrev main_while0b_v21 : Ref sig .tc := ⟨.hbm, 46, rfl⟩
abbrev main_while0b_cst_13 : Ref sig .tc := ⟨.hbm, 47, rfl⟩
abbrev main_while0b_v22 : Ref sig .tc := ⟨.hbm, 48, rfl⟩
abbrev main_while0b_c_14 : Ref sig .tc := ⟨.hbm, 49, rfl⟩
abbrev main_while0b_v23 : Ref sig .tc := ⟨.hbm, 50, rfl⟩
abbrev main_while0b_c_15 : Ref sig .tc := ⟨.hbm, 51, rfl⟩
abbrev main_while0b_v24 : Ref sig .tc := ⟨.hbm, 52, rfl⟩
abbrev main_while0b_v25 : Ref sig .tc := ⟨.hbm, 53, rfl⟩
abbrev main_while0b_c_16 : Ref sig .tc := ⟨.hbm, 54, rfl⟩
abbrev main_while0b_c_17 : Ref sig .tc := ⟨.hbm, 55, rfl⟩
abbrev main_while0b_v26 : Ref sig .tc := ⟨.hbm, 56, rfl⟩
abbrev main_while0b_c_18 : Ref sig .tc := ⟨.hbm, 57, rfl⟩
abbrev main_while0b_c_19 : Ref sig .tc := ⟨.hbm, 58, rfl⟩
abbrev main_while0b_v27 : Ref sig .tc := ⟨.hbm, 59, rfl⟩
abbrev main_while0b_c_20 : Ref sig .tc := ⟨.hbm, 60, rfl⟩
abbrev main_while0b_v28 : Ref sig .tc := ⟨.hbm, 61, rfl⟩
abbrev main_while0b_v29 : Ref sig .tc := ⟨.hbm, 62, rfl⟩
abbrev main_while0b_v30 : Ref sig .tc := ⟨.hbm, 63, rfl⟩
abbrev main_while0b_v31 : Ref sig .tc := ⟨.hbm, 64, rfl⟩
abbrev main_while0b_v32 : Ref sig .tc := ⟨.hbm, 65, rfl⟩
abbrev main_while0b_v33 : Ref sig .tc := ⟨.hbm, 66, rfl⟩
abbrev main_while0b_v34 : Ref sig .tc := ⟨.hbm, 67, rfl⟩
abbrev main_while0b_v35 : Ref sig .tc := ⟨.hbm, 68, rfl⟩
abbrev main_while0b_v36 : Ref sig .tc := ⟨.hbm, 69, rfl⟩
abbrev main_while0b_v37 : Ref sig .tc := ⟨.hbm, 70, rfl⟩
abbrev main_while0b_v38 : Ref sig .tc := ⟨.hbm, 71, rfl⟩
abbrev main_while0b_v39 : Ref sig .tc := ⟨.hbm, 72, rfl⟩
abbrev main_while0b_v40 : Ref sig .tc := ⟨.hbm, 73, rfl⟩
abbrev main_while0b_v41 : Ref sig .tc := ⟨.hbm, 74, rfl⟩
abbrev main_while0b_v42 : Ref sig .tc := ⟨.hbm, 75, rfl⟩
abbrev main_while0b_v43 : Ref sig .tc := ⟨.hbm, 76, rfl⟩
abbrev main_while0b_v44 : Ref sig .tc := ⟨.hbm, 77, rfl⟩
abbrev main_while0b_v45 : Ref sig .tc := ⟨.hbm, 78, rfl⟩
abbrev main_while0b_v46 : Ref sig .tc := ⟨.hbm, 79, rfl⟩
abbrev main_while0b_v47 : Ref sig .tc := ⟨.hbm, 80, rfl⟩
abbrev main_while0b_v48 : Ref sig .tc := ⟨.hbm, 81, rfl⟩
abbrev main_while0b_v49 : Ref sig .tc := ⟨.hbm, 82, rfl⟩
abbrev main_while0b_v50 : Ref sig .tc := ⟨.hbm, 83, rfl⟩
abbrev main_while0b_v51 : Ref sig .tc := ⟨.hbm, 84, rfl⟩
abbrev main_while0b_v52 : Ref sig .tc := ⟨.hbm, 85, rfl⟩
abbrev main_while0b_v53 : Ref sig .tc := ⟨.hbm, 86, rfl⟩
abbrev main_while0b_v54 : Ref sig .tc := ⟨.hbm, 87, rfl⟩
abbrev main_while0b_v55 : Ref sig .tc := ⟨.hbm, 88, rfl⟩
abbrev main_while0b_cst_21 : Ref sig .tc := ⟨.hbm, 89, rfl⟩
abbrev main_while0b_call2_v0 : Ref sig .tc := ⟨.hbm, 90, rfl⟩
abbrev main_while0b_call2_v1 : Ref sig .tc := ⟨.hbm, 91, rfl⟩
abbrev main_while0b_v56 : Ref sig .tc := ⟨.hbm, 92, rfl⟩
abbrev main_while0b_v57 : Ref sig .tc := ⟨.hbm, 93, rfl⟩
abbrev main_while0b_cst_22 : Ref sig .tc := ⟨.hbm, 94, rfl⟩
abbrev main_while0b_call3_v0 : Ref sig .tc := ⟨.hbm, 95, rfl⟩
abbrev main_while0b_call3_v1 : Ref sig .tc := ⟨.hbm, 96, rfl⟩
abbrev main_while0b_v58 : Ref sig .tc := ⟨.hbm, 97, rfl⟩
abbrev main_while0b_v59 : Ref sig .tc := ⟨.hbm, 98, rfl⟩
abbrev main_while0b_v60 : Ref sig .tc := ⟨.hbm, 99, rfl⟩
abbrev main_while0b_v61 : Ref sig .tc := ⟨.hbm, 100, rfl⟩
abbrev main_while0b_v62 : Ref sig .tc := ⟨.hbm, 101, rfl⟩
abbrev main_while0b_v63 : Ref sig .tc := ⟨.hbm, 102, rfl⟩
abbrev main_while0b_v64 : Ref sig .tc := ⟨.hbm, 103, rfl⟩
abbrev main_while0b_v65 : Ref sig .tc := ⟨.hbm, 104, rfl⟩
abbrev main_while0b_v66 : Ref sig .tc := ⟨.hbm, 105, rfl⟩
abbrev main_while0b_v67 : Ref sig .tc := ⟨.hbm, 106, rfl⟩
abbrev main_while0b_v68 : Ref sig .tc := ⟨.hbm, 107, rfl⟩
abbrev main_while0b_v69 : Ref sig .tc := ⟨.hbm, 108, rfl⟩
abbrev main_while0b_v70 : Ref sig .tc := ⟨.hbm, 109, rfl⟩
abbrev main_while0b_v71 : Ref sig .tc := ⟨.hbm, 110, rfl⟩
abbrev main_while0b_v72 : Ref sig .tc := ⟨.hbm, 111, rfl⟩
abbrev main_while0b_v73 : Ref sig .tc := ⟨.hbm, 112, rfl⟩
abbrev main_while0b_v74 : Ref sig .tc := ⟨.hbm, 113, rfl⟩
abbrev main_while0b_v75 : Ref sig .tc := ⟨.hbm, 114, rfl⟩
abbrev main_while0b_v76 : Ref sig .tc := ⟨.hbm, 115, rfl⟩
abbrev main_while0b_v77 : Ref sig .tc := ⟨.hbm, 116, rfl⟩
abbrev main_while0b_v78 : Ref sig .tc := ⟨.hbm, 117, rfl⟩
abbrev main_while0b_v79 : Ref sig .tc := ⟨.hbm, 118, rfl⟩
abbrev main_while0b_v80 : Ref sig .tc := ⟨.hbm, 119, rfl⟩
abbrev main_while0b_v81 : Ref sig .tc := ⟨.hbm, 120, rfl⟩
abbrev main_while0b_v82 : Ref sig .tc := ⟨.hbm, 121, rfl⟩
abbrev main_while0b_v83 : Ref sig .tc := ⟨.hbm, 122, rfl⟩
abbrev main_while0b_v84 : Ref sig .tc := ⟨.hbm, 123, rfl⟩
abbrev main_while0b_cst_23 : Ref sig .tc := ⟨.hbm, 124, rfl⟩
abbrev main_while0b_v85 : Ref sig .tc := ⟨.hbm, 125, rfl⟩
abbrev main_while0b_v86 : Ref sig .tc := ⟨.hbm, 126, rfl⟩
abbrev main_while0b_v87 : Ref sig .tc := ⟨.hbm, 127, rfl⟩
abbrev main_while0b_cst_24 : Ref sig .tc := ⟨.hbm, 128, rfl⟩
abbrev main_while0b_v88 : Ref sig .tc := ⟨.hbm, 129, rfl⟩
abbrev main_while0b_v89 : Ref sig .tc := ⟨.hbm, 130, rfl⟩
abbrev main_while0b_v90 : Ref sig .tc := ⟨.hbm, 131, rfl⟩
abbrev main_while0b_v91 : Ref sig .tc := ⟨.hbm, 132, rfl⟩
abbrev main_while0b_v92 : Ref sig .tc := ⟨.hbm, 133, rfl⟩
abbrev main_while0b_v93 : Ref sig .tc := ⟨.hbm, 134, rfl⟩
abbrev main_while0b_v94 : Ref sig .tc := ⟨.hbm, 135, rfl⟩
abbrev main_while0b_c_25 : Ref sig .tc := ⟨.hbm, 136, rfl⟩
abbrev main_while0b_v95 : Ref sig .tc := ⟨.hbm, 137, rfl⟩
abbrev main_while0b_c_26 : Ref sig .tc := ⟨.hbm, 138, rfl⟩
abbrev main_while0b_v96 : Ref sig .tc := ⟨.hbm, 139, rfl⟩
abbrev main_while0b_v97 : Ref sig .tc := ⟨.hbm, 140, rfl⟩
abbrev main_while0b_c_27 : Ref sig .tc := ⟨.hbm, 141, rfl⟩
abbrev main_while0b_c_28 : Ref sig .tc := ⟨.hbm, 142, rfl⟩
abbrev main_while0b_v98 : Ref sig .tc := ⟨.hbm, 143, rfl⟩
abbrev main_while0b_c_29 : Ref sig .tc := ⟨.hbm, 144, rfl⟩
abbrev main_while0b_c_30 : Ref sig .tc := ⟨.hbm, 145, rfl⟩
abbrev main_while0b_v99 : Ref sig .tc := ⟨.hbm, 146, rfl⟩
abbrev main_while0b_c_31 : Ref sig .tc := ⟨.hbm, 147, rfl⟩
abbrev main_while0b_v100 : Ref sig .tc := ⟨.hbm, 148, rfl⟩
abbrev main_while0b_v101 : Ref sig .tc := ⟨.hbm, 149, rfl⟩
abbrev main_while0b_v102 : Ref sig .tc := ⟨.hbm, 150, rfl⟩
abbrev main_while0b_c_32 : Ref sig .tc := ⟨.hbm, 151, rfl⟩
abbrev main_while0b_v103 : Ref sig .tc := ⟨.hbm, 152, rfl⟩
abbrev main_while0b_c_33 : Ref sig .tc := ⟨.hbm, 153, rfl⟩
abbrev main_while0b_v104 : Ref sig .tc := ⟨.hbm, 154, rfl⟩
abbrev main_while0b_v105 : Ref sig .tc := ⟨.hbm, 155, rfl⟩
abbrev main_while0b_v106 : Ref sig .tc := ⟨.hbm, 156, rfl⟩
abbrev main_while0b_v107 : Ref sig .tc := ⟨.hbm, 157, rfl⟩
abbrev main_while0b_v108 : Ref sig .tc := ⟨.hbm, 158, rfl⟩
abbrev main_while0b_v109 : Ref sig .tc := ⟨.hbm, 159, rfl⟩
abbrev main_while0b_cst_34 : Ref sig .tc := ⟨.hbm, 160, rfl⟩
abbrev main_while0b_call4_v0 : Ref sig .tc := ⟨.hbm, 161, rfl⟩
abbrev main_while0b_call4_v1 : Ref sig .tc := ⟨.hbm, 162, rfl⟩
abbrev main_while0b_v110 : Ref sig .tc := ⟨.hbm, 163, rfl⟩
abbrev main_while0b_call5_v0 : Ref sig .tc := ⟨.hbm, 164, rfl⟩
abbrev main_while0b_call5_c : Ref sig .tc := ⟨.hbm, 165, rfl⟩
abbrev main_while0b_v111 : Ref sig .tc := ⟨.hbm, 166, rfl⟩
abbrev main_while0b_c_35 : Ref sig .tc := ⟨.hbm, 167, rfl⟩
abbrev main_while0b_v112 : Ref sig .tc := ⟨.hbm, 168, rfl⟩

abbrev nD : Nat := 1
abbrev τ : Topo := Topo.v7x

variable {F : FTy → Type} [FloatOps F]

abbrev main_while0_count : Scf.Loop 32 := ⟨0#32, 1000#32, 1#32⟩
-- ==== Proof.KI.Loops.lean ====
/-
  The sort of the kernel, trip by trip: the six arrays the compare-exchange passes move together (score, index and
  the four box coordinates), what one trip of the row passes and one trip of the lane passes makes of them, and the
  counted loops' invariants that say the arrays hold exactly that after each trip.
-/
module

public import proofs.«01_k».proof.KernelIdeal
public import Idealize.ShloMosaic.Lib.Tactic
public import Idealize.ShloMosaic.Lib.LoopRemainder
public import Idealize.ShloMosaic.Lib.Pipeline.FrameSuffix
public import proofs.«01_k».proof.Proof.Gen.KernelIdeal.Loops

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The variants the kernel's own recursion descends along: the naturals. -/
abbrev 𝒱₀ : Variants := Variants.nat

/-- Following `n` trips of a step that knows its trip number, from a start: `iterTrips f k x` is the state before trip `k`. -/
def iterTrips {α : Type} {n : ℕ} (f : Fin n → α → α) : ℕ → α → α
  | 0, x => x
  | k + 1, x => if h : k < n then f ⟨k, h⟩ (iterTrips f k x) else iterTrips f k x

theorem iterTrips_succ {α : Type} {n : ℕ} (f : Fin n → α → α) (k : Fin n) (x : α) :
    iterTrips f (k.val + 1) x = f k (iterTrips f k.val x) := by
  rw [iterTrips, dif_pos k.isLt]

/-- What an array holds before trip `k`: the start before trip 0, then what the trips made of it -/
def heldLane {X : Type} (x : X) : ℕ → X → X
  | 0, _ => x
  | _ + 1, y => y

/-- The six arrays the sort moves together. -/
structure Arrs (F : FTy → Type) [FloatOps F] where
  /-- the scores -/
  s : Vec F S256x128 .f32
  /-- the original positions -/
  i : Vec F S256x128 .i32
  /-- the left edges -/
  x1 : Vec F S256x128 .f32
  /-- the top edges -/
  y1 : Vec F S256x128 .f32
  /-- the right edges -/
  x2 : Vec F S256x128 .f32
  /-- the bottom edges -/
  y2 : Vec F S256x128 .f32

/-- One trip of the row passes. -/
def rowTrip (v4 : IVec S256x128 32) (k0_t1 : Fin k0_t1_loop.trips) (arg15 : BitVec 32)
    (k : Fin (k0_t2_loop k0_t1).trips) (a : Arrs F) : Arrs F :=
  let v71 : BitVec 32 := Scalar.shli 1#32 (Scalar.subi (Scalar.subi arg15 1#32) (Scf.iv 0#32 1#32 k))
  let v73 : BitVec 32 := Scalar.shrsi v71 7#32
  let v75 : BitVec 32 := Scalar.andi (Scalar.subi 256#32 v73) 255#32
  let v79 : IVec S256x128 1 := k0_pay22 v4 k0_t1 arg15 0#32 1#32 k
  let v98 : IVec S256x128 1 := k0_pay25 v4 k0_t1 arg15 0#32 1#32 k a.s a.i
  { s := k0_pay26 v4 k0_t1 arg15 0#32 1#32 k a.s a.i
    i := k0_pay27 v4 k0_t1 arg15 0#32 1#32 k a.s a.i
    x1 := k0_pay2 v73 v75 v79 v98 a.x1
    y1 := k0_pay3 v73 v75 v79 v98 a.y1
    x2 := k0_pay4 v73 v75 v79 v98 a.x2
    y2 := k0_pay5 v73 v75 v79 v98 a.y2 }

/-- One trip of the lane passes. -/
def laneTrip (v4 : IVec S256x128 32) (k0_t1 : Fin k0_t1_loop.trips) (arg15 v58 : BitVec 32)
    (k : Fin (k0_t4_loop k0_t1).trips) (a : Arrs F) : Arrs F :=
  let v71 : BitVec 32 := Scalar.shli 1#32 (Scalar.subi (Scalar.subi arg15 1#32) (Scf.iv v58 1#32 k))
  let v74 : BitVec 32 := Scalar.andi (Scalar.subi 128#32 v71) 127#32
  let v78 : IVec S256x128 1 := k0_pay34 v4 k0_t1 arg15 v58 1#32 k
  let v97 : IVec S256x128 1 := k0_pay37 v4 k0_t1 arg15 v58 1#32 k a.s a.i
  { s := k0_pay38 v4 k0_t1 arg15 v58 1#32 k a.s a.i
    i := k0_pay39 v4 k0_t1 arg15 v58 1#32 k a.s a.i
    x1 := k0_pay10 v78 v97 a.x1 (k0_pay40 k0_t1 arg15 v58 1#32 k a.x1) (k0_pay41 k0_t1 arg15 v58 1#32 k a.x1)
    y1 := k0_pay11 v71 v74 v78 v97 a.y1
    x2 := k0_pay12 v71 v74 v78 v97 a.x2
    y2 := k0_pay13 v71 v74 v78 v97 a.y2 }

/-- The number `max(j - 7, 0)` of row passes of stage `j`, as the kernel computes it. -/
def rowCount (k0_t1 : Fin k0_t1_loop.trips) : BitVec 32 :=
  Scalar.maxsi (Scalar.subi (Scf.iv 1#32 1#32 k0_t1) 7#32) 0#32

/-- One stage of the sort: its row passes, then its lane passes. -/
def stageTrip (v4 : IVec S256x128 32) (k0_t1 : Fin k0_t1_loop.trips) (a : Arrs F) : Arrs F :=
  iterTrips (laneTrip v4 k0_t1 (Scf.iv 1#32 1#32 k0_t1) (rowCount k0_t1)) (k0_t4_loop k0_t1).trips
    (iterTrips (rowTrip v4 k0_t1 (Scf.iv 1#32 1#32 k0_t1)) (k0_t2_loop k0_t1).trips a)

/-- The six arrays held whole at the contents `a`. -/
def heldArrs (c : Dev nD) (a : Arrs F) : sProp 𝕄 :=
  iprop((∃ f : Buf (Elt F) ((Memref.whole cc0_scratch0).view.loc (c : Thread nD τ)), ⌜f = a.s⌝ ∗ (((Memref.whole cc0_scratch0).view.loc (c : Thread nD τ)) ↦{fullShare} f))
    ∗ (∃ f : Buf (Elt F) ((Memref.whole cc0_scratch1).view.loc (c : Thread nD τ)), ⌜f = a.i⌝ ∗ (((Memref.whole cc0_scratch1).view.loc (c : Thread nD τ)) ↦{fullShare} f))
    ∗ (∃ f : Buf (Elt F) ((Memref.whole cc0_scratch2).view.loc (c : Thread nD τ)), ⌜f = a.x1⌝ ∗ (((Memref.whole cc0_scratch2).view.loc (c : Thread nD τ)) ↦{fullShare} f))
    ∗ (∃ f : Buf (Elt F) ((Memref.whole cc0_scratch3).view.loc (c : Thread nD τ)), ⌜f = a.y1⌝ ∗ (((Memref.whole cc0_scratch3).view.loc (c : Thread nD τ)) ↦{fullShare} f))
    ∗ (∃ f : Buf (Elt F) ((Memref.whole cc0_scratch4).view.loc (c : Thread nD τ)), ⌜f = a.x2⌝ ∗ (((Memref.whole cc0_scratch4).view.loc (c : Thread nD τ)) ↦{fullShare} f))
    ∗ (∃ f : Buf (Elt F) ((Memref.whole cc0_scratch5).view.loc (c : Thread nD τ)), ⌜f = a.y2⌝ ∗ (((Memref.whole cc0_scratch5).view.loc (c : Thread nD τ)) ↦{fullShare} f)))

/-- The six arrays held whole, before trip `k`, from the contents `b` on and at the contents `a` -/
def heldLanes (c : Dev nD) (s : Vec F S256x128 .f32) (i : Vec F S256x128 .i32) (x1 y1 x2 y2 : Vec F S256x128 .f32) (k : ℕ) (a : Arrs F) : sProp 𝕄 :=
  iprop((∃ f : Buf (Elt F) ((Memref.whole cc0_scratch0).view.loc (c : Thread nD τ)), ⌜f = heldLane s k a.s⌝ ∗ (((Memref.whole cc0_scratch0).view.loc (c : Thread nD τ)) ↦{fullShare} f))
    ∗ (∃ f : Buf (Elt F) ((Memref.whole cc0_scratch1).view.loc (c : Thread nD τ)), ⌜f = heldLane i k a.i⌝ ∗ (((Memref.whole cc0_scratch1).view.loc (c : Thread nD τ)) ↦{fullShare} f))
    ∗ (∃ f : Buf (Elt F) ((Memref.whole cc0_scratch2).view.loc (c : Thread nD τ)), ⌜f = heldLane x1 k a.x1⌝ ∗ (((Memref.whole cc0_scratch2).view.loc (c : Thread nD τ)) ↦{fullShare} f))
    ∗ (∃ f : Buf (Elt F) ((Memref.whole cc0_scratch3).view.loc (c : Thread nD τ)), ⌜f = heldLane y1 k a.y1⌝ ∗ (((Memref.whole cc0_scratch3).view.loc (c : Thread nD τ)) ↦{fullShare} f))
    ∗ (∃ f : Buf (Elt F) ((Memref.whole cc0_scratch4).view.loc (c : Thread nD τ)), ⌜f = heldLane x2 k a.x2⌝ ∗ (((Memref.whole cc0_scratch4).view.loc (c : Thread nD τ)) ↦{fullShare} f))
    ∗ (∃ f : Buf (Elt F) ((Memref.whole cc0_scratch5).view.loc (c : Thread nD τ)), ⌜f = heldLane y2 k a.y2⌝ ∗ (((Memref.whole cc0_scratch5).view.loc (c : Thread nD τ)) ↦{fullShare} f)))

theorem heldLane_s {n : ℕ} (f : Fin n → Arrs F → Arrs F) (s : Vec F S256x128 .f32) (i : Vec F S256x128 .i32) (x1 y1 x2 y2 : Vec F S256x128 .f32) (k : ℕ) :
    heldLane s k (iterTrips f k ⟨s, i, x1, y1, x2, y2⟩).s = (iterTrips f k ⟨s, i, x1, y1, x2, y2⟩).s := by cases k <;> rfl

theorem heldLane_i {n : ℕ} (f : Fin n → Arrs F → Arrs F) (s : Vec F S256x128 .f32) (i : Vec F S256x128 .i32) (x1 y1 x2 y2 : Vec F S256x128 .f32) (k : ℕ) :
    heldLane i k (iterTrips f k ⟨s, i, x1, y1, x2, y2⟩).i = (iterTrips f k ⟨s, i, x1, y1, x2, y2⟩).i := by cases k <;> rfl

theorem heldLane_x1 {n : ℕ} (f : Fin n → Arrs F → Arrs F) (s : Vec F S256x128 .f32) (i : Vec F S256x128 .i32) (x1 y1 x2 y2 : Vec F S256x128 .f32) (k : ℕ) :
    heldLane x1 k (iterTrips f k ⟨s, i, x1, y1, x2, y2⟩).x1 = (iterTrips f k ⟨s, i, x1, y1, x2, y2⟩).x1 := by cases k <;> rfl

theorem heldLane_y1 {n : ℕ} (f : Fin n → Arrs F → Arrs F) (s : Vec F S256x128 .f32) (i : Vec F S256x128 .i32) (x1 y1 x2 y2 : Vec F S256x128 .f32) (k : ℕ) :
    heldLane y1 k (iterTrips f k ⟨s, i, x1, y1, x2, y2⟩).y1 = (iterTrips f k ⟨s, i, x1, y1, x2, y2⟩).y1 := by cases k <;> rfl

theorem heldLane_x2 {n : ℕ} (f : Fin n → Arrs F → Arrs F) (s : Vec F S256x128 .f32) (i : Vec F S256x128 .i32) (x1 y1 x2 y2 : Vec F S256x128 .f32) (k : ℕ) :
    heldLane x2 k (iterTrips f k ⟨s, i, x1, y1, x2, y2⟩).x2 = (iterTrips f k ⟨s, i, x1, y1, x2, y2⟩).x2 := by cases k <;> rfl

theorem heldLane_y2 {n : ℕ} (f : Fin n → Arrs F → Arrs F) (s : Vec F S256x128 .f32) (i : Vec F S256x128 .i32) (x1 y1 x2 y2 : Vec F S256x128 .f32) (k : ℕ) :
    heldLane y2 k (iterTrips f k ⟨s, i, x1, y1, x2, y2⟩).y2 = (iterTrips f k ⟨s, i, x1, y1, x2, y2⟩).y2 := by cases k <;> rfl

theorem off2_zero : (![0, 0] : Fin 2 → ℕ) = fun _ => 0 := funext fun a => by fin_cases a <;> rfl

/-- One store through the rectangle at zero offsets of a buffer's own sizes leaves the stored value. -/
theorem writes_whole (b : Ref sig .tc) {off : Fin b.ty.shape.rank → ℕ} (h : off = fun _ => 0)
    (inb : ∀ a, off a + b.ty.shape.size a ≤ b.ty.shape.size a) (f w : b.ty.Contents (Elt F)) :
    (Memref.whole b : Memref sig .tc _ _ _).view.writes (Elt F) f [⟨Rect.unit off b.ty.shape.size inb, w⟩] = w :=
  Memref.write_access_unit_zero_univ (Elt F) b h inb f w

theorem rd_stg0_0 (f : cc0_stg0_0.ty.Contents (Elt F)) :
    View.readAt (Elt F) (View.whole cc0_stg0_0) (Rect.unit ![0, 0] ![256, 128] inb_S256x128_S256x128_0_0).toLoadRect f = f :=
  Memref.readAt_unit_zero (Elt F) cc0_stg0_0 off2_zero inb_S256x128_S256x128_0_0 f

theorem rd_stg1_0 (f : cc0_stg1_0.ty.Contents (Elt F)) :
    View.readAt (Elt F) (View.whole cc0_stg1_0) (Rect.unit ![0, 0] ![256, 128] inb_S256x128_S256x128_0_0).toLoadRect f = f :=
  Memref.readAt_unit_zero (Elt F) cc0_stg1_0 off2_zero inb_S256x128_S256x128_0_0 f

theorem rd_stg2_0 (f : cc0_stg2_0.ty.Contents (Elt F)) :
    View.readAt (Elt F) (View.whole cc0_stg2_0) (Rect.unit ![0, 0] ![256, 128] inb_S256x128_S256x128_0_0).toLoadRect f = f :=
  Memref.readAt_unit_zero (Elt F) cc0_stg2_0 off2_zero inb_S256x128_S256x128_0_0 f

theorem rd_stg3_0 (f : cc0_stg3_0.ty.Contents (Elt F)) :
    View.readAt (Elt F) (View.whole cc0_stg3_0) (Rect.unit ![0, 0] ![256, 128] inb_S256x128_S256x128_0_0).toLoadRect f = f :=
  Memref.readAt_unit_zero (Elt F) cc0_stg3_0 off2_zero inb_S256x128_S256x128_0_0 f

theorem rd_stg4_0 (f : cc0_stg4_0.ty.Contents (Elt F)) :
    View.readAt (Elt F) (View.whole cc0_stg4_0) (Rect.unit ![0, 0] ![256, 128] inb_S256x128_S256x128_0_0).toLoadRect f = f :=
  Memref.readAt_unit_zero (Elt F) cc0_stg4_0 off2_zero inb_S256x128_S256x128_0_0 f

theorem rd_stg5_0 (f : cc0_stg5_0.ty.Contents (Elt F)) :
    View.readAt (Elt F) (View.whole cc0_stg5_0) (Rect.unit ![0, 0] ![1000, 128] inb_S1000x128_S1000x128_0_0).toLoadRect f = f :=
  Memref.readAt_unit_zero (Elt F) cc0_stg5_0 off2_zero inb_S1000x128_S1000x128_0_0 f

theorem rd_scratch0 (f : cc0_scratch0.ty.Contents (Elt F)) :
    View.readAt (Elt F) (View.whole cc0_scratch0) (Rect.unit ![0, 0] ![256, 128] inb_S256x128_S256x128_0_0).toLoadRect f = f :=
  Memref.readAt_unit_zero (Elt F) cc0_scratch0 off2_zero inb_S256x128_S256x128_0_0 f

theorem rd_scratch1 (f : cc0_scratch1.ty.Contents (Elt F)) :
    View.readAt (Elt F) (View.whole cc0_scratch1) (Rect.unit ![0, 0] ![256, 128] inb_S256x128_S256x128_0_0).toLoadRect f = f :=
  Memref.readAt_unit_zero (Elt F) cc0_scratch1 off2_zero inb_S256x128_S256x128_0_0 f

theorem rd_scratch2 (f : cc0_scratch2.ty.Contents (Elt F)) :
    View.readAt (Elt F) (View.whole cc0_scratch2) (Rect.unit ![0, 0] ![256, 128] inb_S256x128_S256x128_0_0).toLoadRect f = f :=
  Memref.readAt_unit_zero (Elt F) cc0_scratch2 off2_zero inb_S256x128_S256x128_0_0 f

theorem rd_scratch3 (f : cc0_scratch3.ty.Contents (Elt F)) :
    View.readAt (Elt F) (View.whole cc0_scratch3) (Rect.unit ![0, 0] ![256, 128] inb_S256x128_S256x128_0_0).toLoadRect f = f :=
  Memref.readAt_unit_zero (Elt F) cc0_scratch3 off2_zero inb_S256x128_S256x128_0_0 f

theorem rd_scratch4 (f : cc0_scratch4.ty.Contents (Elt F)) :
    View.readAt (Elt F) (View.whole cc0_scratch4) (Rect.unit ![0, 0] ![256, 128] inb_S256x128_S256x128_0_0).toLoadRect f = f :=
  Memref.readAt_unit_zero (Elt F) cc0_scratch4 off2_zero inb_S256x128_S256x128_0_0 f

theorem rd_scratch5 (f : cc0_scratch5.ty.Contents (Elt F)) :
    View.readAt (Elt F) (View.whole cc0_scratch5) (Rect.unit ![0, 0] ![256, 128] inb_S256x128_S256x128_0_0).toLoadRect f = f :=
  Memref.readAt_unit_zero (Elt F) cc0_scratch5 off2_zero inb_S256x128_S256x128_0_0 f

theorem rd_scratch6 (f : cc0_scratch6.ty.Contents (Elt F)) :
    View.readAt (Elt F) (View.whole cc0_scratch6) (Rect.unit ![0, 0] ![48, 128] inb_S48x128_S48x128_0_0).toLoadRect f = f :=
  Memref.readAt_unit_zero (Elt F) cc0_scratch6 off2_zero inb_S48x128_S48x128_0_0 f

theorem rd_scratch7 (f : cc0_scratch7.ty.Contents (Elt F)) :
    View.readAt (Elt F) (View.whole cc0_scratch7) (Rect.unit ![0, 0] ![48, 128] inb_S48x128_S48x128_0_0).toLoadRect f = f :=
  Memref.readAt_unit_zero (Elt F) cc0_scratch7 off2_zero inb_S48x128_S48x128_0_0 f

set_option warn.classDefReducibility false in
@[sl_loop] def loopInv_k0_t2 (c : Dev nD) (bd : Option 𝒱₀.V) (v4 : IVec S256x128 32) (k0_t1 : Fin k0_t1_loop.trips) (arg15 : BitVec 32) (s : Vec F S256x128 .f32) (i : Vec F S256x128 .i32) (x1 y1 x2 y2 : Vec F S256x128 .f32) :
    LoopInvTy_k0_t2 (F := F) Unit ℕ (UR sig nD τ) ℕ 𝒱₀ c bd Set.univ (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) v4 k0_t1 arg15 where
  inv := fun k _ => heldArrs c (iterTrips (rowTrip v4 k0_t1 arg15) k ⟨s, i, x1, y1, x2, y2⟩)
  step := fun k acc => by
    unfold heldArrs
    rw [iterTrips_succ]
    generalize iterTrips _ k.val _ = b
    iintro ⟨⟨%f0, %h0, H0⟩, ⟨%f1, %h1, H1⟩, ⟨%f2, %h2, H2⟩, ⟨%f3, %h3, H3⟩, ⟨%f4, %h4, H4⟩, ⟨%f5, %h5, H5⟩⟩
    subst h0 h1 h2 h3 h4 h5
    unfold k0_t2_body
    sl_exec
    sl_step
    isplitl [H0]
    · iexists _; isplitr; swap; · iexact H0
      ipureintro; refine (writes_whole cc0_scratch0 off2_zero inb_S256x128_S256x128_0_0 _ _).trans ?_; (try delta loopInv_k0_t2.sl.v73); (try delta loopInv_k0_t2.sl.v75); (try delta loopInv_k0_t2.sl.r); (try delta loopInv_k0_t2.sl.r_1); (try delta loopInv_k0_t2.sl.r_2); simp only [rd_scratch0, rd_scratch1, rd_scratch2, rd_scratch3, rd_scratch4, rd_scratch5]; rfl
    isplitl [H1]
    · iexists _; isplitr; swap; · iexact H1
      ipureintro; refine (writes_whole cc0_scratch1 off2_zero inb_S256x128_S256x128_0_0 _ _).trans ?_; (try delta loopInv_k0_t2.sl.v73); (try delta loopInv_k0_t2.sl.v75); (try delta loopInv_k0_t2.sl.r); (try delta loopInv_k0_t2.sl.r_1); (try delta loopInv_k0_t2.sl.r_2); simp only [rd_scratch0, rd_scratch1, rd_scratch2, rd_scratch3, rd_scratch4, rd_scratch5]; rfl
    isplitl [H2]
    · iexists _; isplitr; swap; · iexact H2
      ipureintro; refine (writes_whole cc0_scratch2 off2_zero inb_S256x128_S256x128_0_0 _ _).trans ?_; (try delta loopInv_k0_t2.sl.v73); (try delta loopInv_k0_t2.sl.v75); (try delta loopInv_k0_t2.sl.r); (try delta loopInv_k0_t2.sl.r_1); (try delta loopInv_k0_t2.sl.r_2); simp only [rd_scratch0, rd_scratch1, rd_scratch2, rd_scratch3, rd_scratch4, rd_scratch5]; rfl
    isplitl [H3]
    · iexists _; isplitr; swap; · iexact H3
      ipureintro; refine (writes_whole cc0_scratch3 off2_zero inb_S256x128_S256x128_0_0 _ _).trans ?_; (try delta loopInv_k0_t2.sl.v73); (try delta loopInv_k0_t2.sl.v75); (try delta loopInv_k0_t2.sl.r); (try delta loopInv_k0_t2.sl.r_1); (try delta loopInv_k0_t2.sl.r_2); simp only [rd_scratch0, rd_scratch1, rd_scratch2, rd_scratch3, rd_scratch4, rd_scratch5]; rfl
    isplitl [H4]
    · iexists _; isplitr; swap; · iexact H4
      ipureintro; refine (writes_whole cc0_scratch4 off2_zero inb_S256x128_S256x128_0_0 _ _).trans ?_; (try delta loopInv_k0_t2.sl.v73); (try delta loopInv_k0_t2.sl.v75); (try delta loopInv_k0_t2.sl.r); (try delta loopInv_k0_t2.sl.r_1); (try delta loopInv_k0_t2.sl.r_2); simp only [rd_scratch0, rd_scratch1, rd_scratch2, rd_scratch3, rd_scratch4, rd_scratch5]; rfl
    iexists _; isplitr; swap; · iexact H5
    ipureintro; refine (writes_whole cc0_scratch5 off2_zero inb_S256x128_S256x128_0_0 _ _).trans ?_; (try delta loopInv_k0_t2.sl.v73); (try delta loopInv_k0_t2.sl.v75); (try delta loopInv_k0_t2.sl.r); (try delta loopInv_k0_t2.sl.r_1); (try delta loopInv_k0_t2.sl.r_2); simp only [rd_scratch0, rd_scratch1, rd_scratch2, rd_scratch3, rd_scratch4, rd_scratch5]; rfl

set_option warn.classDefReducibility false in
@[sl_loop] def loopInv_k0_t4 (c : Dev nD) (bd : Option 𝒱₀.V) (v4 : IVec S256x128 32) (k0_t1 : Fin k0_t1_loop.trips) (arg15 v58 : BitVec 32) (s : Vec F S256x128 .f32) (i : Vec F S256x128 .i32) (x1 y1 x2 y2 : Vec F S256x128 .f32) :
    LoopInvTy_k0_t4 (F := F) Unit ℕ (UR sig nD τ) ℕ 𝒱₀ c bd Set.univ (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) v4 k0_t1 arg15 v58 where
  inv := fun k _ => heldLanes c s i x1 y1 x2 y2 k (iterTrips (laneTrip v4 k0_t1 arg15 v58) k ⟨s, i, x1, y1, x2, y2⟩)
  step := fun k acc => by
    unfold heldLanes
    rw [heldLane_s, heldLane_i, heldLane_x1, heldLane_y1, heldLane_x2, heldLane_y2, iterTrips_succ]
    generalize iterTrips _ k.val _ = b
    iintro ⟨⟨%f0, %h0, H0⟩, ⟨%f1, %h1, H1⟩, ⟨%f2, %h2, H2⟩, ⟨%f3, %h3, H3⟩, ⟨%f4, %h4, H4⟩, ⟨%f5, %h5, H5⟩⟩
    subst h0 h1 h2 h3 h4 h5
    unfold k0_t4_body
    sl_exec
    sl_step
    isplitl [H0]
    · iexists _; isplitr; swap; · iexact H0
      ipureintro; refine (writes_whole cc0_scratch0 off2_zero inb_S256x128_S256x128_0_0 _ _).trans ?_; (try delta loopInv_k0_t4.sl.v71); (try delta loopInv_k0_t4.sl.v74); (try delta loopInv_k0_t4.sl.r); (try delta loopInv_k0_t4.sl.r_1); (try delta loopInv_k0_t4.sl.r_2); (try delta loopInv_k0_t4.sl.r_3); (try delta loopInv_k0_t4.sl.r_4); simp only [rd_scratch0, rd_scratch1, rd_scratch2, rd_scratch3, rd_scratch4, rd_scratch5]; rfl
    isplitl [H1]
    · iexists _; isplitr; swap; · iexact H1
      ipureintro; refine (writes_whole cc0_scratch1 off2_zero inb_S256x128_S256x128_0_0 _ _).trans ?_; (try delta loopInv_k0_t4.sl.v71); (try delta loopInv_k0_t4.sl.v74); (try delta loopInv_k0_t4.sl.r); (try delta loopInv_k0_t4.sl.r_1); (try delta loopInv_k0_t4.sl.r_2); (try delta loopInv_k0_t4.sl.r_3); (try delta loopInv_k0_t4.sl.r_4); simp only [rd_scratch0, rd_scratch1, rd_scratch2, rd_scratch3, rd_scratch4, rd_scratch5]; rfl
    isplitl [H2]
    · iexists _; isplitr; swap; · iexact H2
      ipureintro; refine (writes_whole cc0_scratch2 off2_zero inb_S256x128_S256x128_0_0 _ _).trans ?_; (try delta loopInv_k0_t4.sl.v71); (try delta loopInv_k0_t4.sl.v74); (try delta loopInv_k0_t4.sl.r); (try delta loopInv_k0_t4.sl.r_1); (try delta loopInv_k0_t4.sl.r_2); (try delta loopInv_k0_t4.sl.r_3); (try delta loopInv_k0_t4.sl.r_4); simp only [rd_scratch0, rd_scratch1, rd_scratch2, rd_scratch3, rd_scratch4, rd_scratch5]; rfl
    isplitl [H3]
    · iexists _; isplitr; swap; · iexact H3
      ipureintro; refine (writes_whole cc0_scratch3 off2_zero inb_S256x128_S256x128_0_0 _ _).trans ?_; (try delta loopInv_k0_t4.sl.v71); (try delta loopInv_k0_t4.sl.v74); (try delta loopInv_k0_t4.sl.r); (try delta loopInv_k0_t4.sl.r_1); (try delta loopInv_k0_t4.sl.r_2); (try delta loopInv_k0_t4.sl.r_3); (try delta loopInv_k0_t4.sl.r_4); simp only [rd_scratch0, rd_scratch1, rd_scratch2, rd_scratch3, rd_scratch4, rd_scratch5]; rfl
    isplitl [H4]
    · iexists _; isplitr; swap; · iexact H4
      ipureintro; refine (writes_whole cc0_scratch4 off2_zero inb_S256x128_S256x128_0_0 _ _).trans ?_; (try delta loopInv_k0_t4.sl.v71); (try delta loopInv_k0_t4.sl.v74); (try delta loopInv_k0_t4.sl.r); (try delta loopInv_k0_t4.sl.r_1); (try delta loopInv_k0_t4.sl.r_2); (try delta loopInv_k0_t4.sl.r_3); (try delta loopInv_k0_t4.sl.r_4); simp only [rd_scratch0, rd_scratch1, rd_scratch2, rd_scratch3, rd_scratch4, rd_scratch5]; rfl
    iexists _; isplitr; swap; · iexact H5
    ipureintro; refine (writes_whole cc0_scratch5 off2_zero inb_S256x128_S256x128_0_0 _ _).trans ?_; (try delta loopInv_k0_t4.sl.v71); (try delta loopInv_k0_t4.sl.v74); (try delta loopInv_k0_t4.sl.r); (try delta loopInv_k0_t4.sl.r_1); (try delta loopInv_k0_t4.sl.r_2); (try delta loopInv_k0_t4.sl.r_3); (try delta loopInv_k0_t4.sl.r_4); simp only [rd_scratch0, rd_scratch1, rd_scratch2, rd_scratch3, rd_scratch4, rd_scratch5]; rfl

set_option maxHeartbeats 2000000 in
set_option warn.classDefReducibility false in
@[sl_loop] def loopInv_k0_t1 (c : Dev nD) (bd : Option 𝒱₀.V) (v4 : IVec S256x128 32) (s : Vec F S256x128 .f32) (i : Vec F S256x128 .i32) (x1 y1 x2 y2 : Vec F S256x128 .f32) :
    LoopInvTy_k0_t1 (F := F) Unit ℕ (UR sig nD τ) ℕ 𝒱₀ c bd Set.univ (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) v4 where
  inv := fun k _ => heldArrs c (iterTrips (stageTrip v4) k ⟨s, i, x1, y1, x2, y2⟩)
  step := fun k acc => by
    unfold heldArrs
    rw [iterTrips_succ]
    generalize iterTrips _ k.val _ = b
    iintro ⟨⟨%f0, %h0, H0⟩, ⟨%f1, %h1, H1⟩, ⟨%f2, %h2, H2⟩, ⟨%f3, %h3, H3⟩, ⟨%f4, %h4, H4⟩, ⟨%f5, %h5, H5⟩⟩
    subst h0 h1 h2 h3 h4 h5
    unfold k0_t1_body
    sl_exec
    sl_step
    isplitl [H0]
    · iexists _; isplitr; swap; · iexact H0
      ipureintro; exact (heldLane_s _ _ _ _ _ _ _ _).trans rfl
    isplitl [H1]
    · iexists _; isplitr; swap; · iexact H1
      ipureintro; exact (heldLane_i _ _ _ _ _ _ _ _).trans rfl
    isplitl [H2]
    · iexists _; isplitr; swap; · iexact H2
      ipureintro; exact (heldLane_x1 _ _ _ _ _ _ _ _).trans rfl
    isplitl [H3]
    · iexists _; isplitr; swap; · iexact H3
      ipureintro; exact (heldLane_y1 _ _ _ _ _ _ _ _).trans rfl
    isplitl [H4]
    · iexists _; isplitr; swap; · iexact H4
      ipureintro; exact (heldLane_x2 _ _ _ _ _ _ _ _).trans rfl
    iexists _; isplitr; swap; · iexact H5
    ipureintro; exact (heldLane_y2 _ _ _ _ _ _ _ _).trans rfl

end Cert.Proof.KI
-- ==== Proof.KI.While.lean ====
/-
  The selection loop of the kernel: the state its trips carry (the two counters, the suppression mask and the
  rows emitted so far), what one trip makes of it, and the loop's specification by induction on the trips left.
-/
module

public import proofs.«01_k».proof.Proof.KI.Loops
public import Idealize.ShloMosaic.Lib.WordCmp

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the selection reads and never writes: the four coordinate arrays of the sorted boxes, the areas of the first 48 rows, and
    the candidates' rows packed by eights. -/
structure Fixed (F : FTy → Type) [FloatOps F] where
  /-- the left edges -/
  x1 : Vec F S256x128 .f32
  /-- the top edges -/
  y1 : Vec F S256x128 .f32
  /-- the right edges -/
  x2 : Vec F S256x128 .f32
  /-- the bottom edges -/
  y2 : Vec F S256x128 .f32
  /-- the areas -/
  area : Vec F S48x128 .f32
  /-- the candidates' packed rows -/
  pack : Vec F S384x128 .f32

/-- What the selection carries from trip to trip. -/
structure Sel (F : FTy → Type) [FloatOps F] where
  /-- the next candidate -/
  j : BitVec 32
  /-- the rows emitted -/
  n : BitVec 32
  /-- the mask: one where a candidate is still eligible -/
  mask : Vec F S48x128 .f32
  /-- the result's rows -/
  out : Vec F S1000x128 .f32

/-- A trip runs: candidates are left and the result has room. -/
def Live (s : Sel F) : Prop := s.j.toNat < 6144 ∧ s.n.toNat < 1000

instance (s : Sel F) : Decidable (Live s) := inferInstanceAs (Decidable (_ ∧ _))

theorem msb_false_of_lt {x : BitVec 32} (h : x.toNat < 2 ^ 31) : x.msb = false := by
  rw [BitVec.msb_eq_false_iff_two_mul_lt]; omega

theorem toNat_shrsi7 (x : BitVec 32) (h : x.toNat < 2 ^ 31) : (Scalar.shrsi x 7#32).toNat = x.toNat / 128 := by
  show (IntOp.shrsi _ x 7#32).toNat = _
  unfold IntOp.shrsi
  rw [if_pos (by decide)]
  show (BitVec.sshiftRight x 7).toNat = _
  rw [BitVec.sshiftRight_eq_of_msb_false (msb_false_of_lt h), BitVec.toNat_ushiftRight, Nat.shiftRight_eq_div_pow]

theorem slt_iff {x y : BitVec 32} (hx : x.toNat < 2 ^ 31) (hy : y.toNat < 2 ^ 31) :
    Scalar.cmpi .slt x y = 1#1 ↔ x.toNat < y.toNat := by
  show IntOp.cmpi .slt x y = 1#1 ↔ _
  rw [WordCmp.cmpi_slt_of_lt hx hy, WordCmp.ofBool_decide_eq_one_iff]

/-- The word of the second candidate of a trip. -/
theorem toNat_second (j : BitVec 32) (h : j.toNat < 6144) :
    (Scalar.minsi (Scalar.addi j 1#32) 6143#32).toNat = min (j.toNat + 1) 6143 := by
  have e : (j + 1#32).toNat = j.toNat + 1 := by rw [BitVec.toNat_add]; show (j.toNat + 1) % 2 ^ 32 = _; omega
  have hs := slt_iff (x := j + 1#32) (y := 6143#32) (by omega) (by decide)
  show (IntOp.minsi (j + 1#32) 6143#32).toNat = _
  unfold IntOp.minsi
  have h6 : (6143#32 : BitVec 32).toNat = 6143 := rfl
  by_cases hlt : (j + 1#32).slt 6143#32
  · rw [if_pos hlt, e]
    have := hs.1 (by show BitVec.ofBool ((j + 1#32).slt 6143#32) = 1#1; rw [hlt]; rfl)
    omega
  · rw [if_neg hlt, h6]
    have : ¬ (j + 1#32).toNat < (6143#32 : BitVec 32).toNat := fun hh => by
      have h1 := hs.2 hh
      have h2 : BitVec.ofBool ((j + 1#32).slt 6143#32) = 1#1 := h1
      cases hb : (j + 1#32).slt 6143#32
      · rw [hb] at h2; exact absurd h2 (by decide)
      · exact hlt hb
    omega

theorem toNat_muli8 (x : BitVec 32) (h : x.toNat < 48) : (Scalar.muli x 8#32).toNat = x.toNat * 8 := by
  show (x * 8#32).toNat = _
  rw [BitVec.toNat_mul]; show x.toNat * 8 % 2 ^ 32 = _; omega

/-- Every row the trip reads of the mask and of the packed rows is inside them. -/
theorem chk1_of (j : BitVec 32) (h : j.toNat < 6144) : k0_chk1 j := by
  have h2 := toNat_second j h
  have e1 := toNat_shrsi7 j (by omega)
  have e2 := toNat_shrsi7 (Scalar.minsi (Scalar.addi j 1#32) 6143#32) (by omega)
  have e3 := toNat_muli8 (Scalar.shrsi j 7#32) (by omega)
  have e4 := toNat_muli8 (Scalar.shrsi (Scalar.minsi (Scalar.addi j 1#32) 6143#32) 7#32) (by omega)
  refine ⟨fun a => ?_, fun a => ?_, fun a => ?_, fun a => ?_⟩ <;> fin_cases a
  · show (Scalar.shrsi j 7#32).toNat + 1 ≤ 48; omega
  · show 0 + 128 ≤ 128; omega
  · show (Scalar.muli (Scalar.shrsi j 7#32) 8#32).toNat + 8 ≤ 384; omega
  · show 0 + 128 ≤ 128; omega
  · show (Scalar.shrsi (Scalar.minsi (Scalar.addi j 1#32) 6143#32) 7#32).toNat + 1 ≤ 48; omega
  · show 0 + 128 ≤ 128; omega
  · show (Scalar.muli (Scalar.shrsi (Scalar.minsi (Scalar.addi j 1#32) 6143#32) 7#32) 8#32).toNat + 8 ≤ 384; omega
  · show 0 + 128 ≤ 128; omega

/-- The row of the first candidate is inside the result. -/
theorem chk2_of (n : BitVec 32) (v : BitVec 1) (h : n.toNat < 1000) : k0_chk2 n v := by
  intro _ a
  fin_cases a
  · show n.toNat + 1 ≤ 1000; omega
  · show 0 + 128 ≤ 128; omega

theorem toNat_extui1 (v : BitVec 1) : (Scalar.extui v : BitVec 32).toNat ≤ 1 := by
  rcases BitVec.eq_zero_or_eq_one v with h | h <;> subst h <;> decide

theorem toNat_add_extui (n : BitVec 32) (v : BitVec 1) (h : n.toNat < 2000) :
    (Scalar.addi n (Scalar.extui v)).toNat = n.toNat + (Scalar.extui v : BitVec 32).toNat := by
  have := toNat_extui1 v
  show (n + _).toNat = _
  rw [BitVec.toNat_add]; omega

/-- The second store is made only where there is room. -/
theorem cond2_room {j n : BitVec 32} {u v w : BitVec 1} (h : k0_cond2 j n u v w = 1#1) :
    Scalar.cmpi .slt (Scalar.addi n (Scalar.extui u)) 1000#32 = 1#1 := by
  unfold k0_cond2 at h
  generalize hc : Scalar.cmpi .slt (Scalar.addi n (Scalar.extui u)) 1000#32 = c at h ⊢
  rcases BitVec.eq_zero_or_eq_one c with h' | h'
  · subst h'
    exfalso; revert h
    have e : ∀ x : BitVec 1, Scalar.andi x 0#1 = 0#1 := by decide
    simp only [hc, e]
    decide
  · exact h'

theorem chk3_of (j n : BitVec 32) (u v w : BitVec 1) (h : n.toNat < 1000) : k0_chk3 j n u v w := by
  intro hc a
  have hr := cond2_room hc
  have e := toNat_add_extui n u (by omega)
  have hu := toNat_extui1 u
  rw [slt_iff (by omega) (by decide)] at hr
  have hk : (1000#32 : BitVec 32).toNat = 1000 := rfl
  fin_cases a
  · show (Scalar.addi n (Scalar.extui u)).toNat + 1 ≤ 1000; omega
  · show 0 + 128 ≤ 128; omega

section Step

variable (v5 : IVec S1x128 32) (v37 : IVec S48x128 32) (X : Fixed F)

/-- The mask's row holding the first candidate. -/
def maskRow (s : Sel F) (h : k0_chk1 s.j) : Vec F S1x128 .f32 :=
  View.readAt (Elt F) (Memref.whole cc0_scratch7 : Memref sig .tc _ _ _).view (Rect.unit (s := S48x128) (k0_off3 s.j) S1x128.size (k0_off3_inb s.j h)).toLoadRect s.mask

/-- The packed rows holding the first candidate. -/
def packRow (s : Sel F) (h : k0_chk1 s.j) : Vec F S8x128 .f32 :=
  View.readAt (Elt F) (Memref.whole cc0_scratch8 : Memref sig .tc _ _ _).view (Rect.unit (s := S384x128) (k0_off4 s.j) S8x128.size (k0_off4_inb s.j h)).toLoadRect X.pack

/-- The mask's row holding the second candidate. -/
def maskRow2 (s : Sel F) (h : k0_chk1 s.j) : Vec F S1x128 .f32 :=
  View.readAt (Elt F) (Memref.whole cc0_scratch7 : Memref sig .tc _ _ _).view (Rect.unit (s := S48x128) (k0_off5 s.j) S1x128.size (k0_off5_inb s.j h)).toLoadRect s.mask

/-- The packed rows holding the second candidate. -/
def packRow2 (s : Sel F) (h : k0_chk1 s.j) : Vec F S8x128 .f32 :=
  View.readAt (Elt F) (Memref.whole cc0_scratch8 : Memref sig .tc _ _ _).view (Rect.unit (s := S384x128) (k0_off6 s.j) S8x128.size (k0_off6_inb s.j h)).toLoadRect X.pack

/-- The left edges of the first 48 rows. -/
def topX1 : Vec F S48x128 .f32 :=
  View.readAt (Elt F) (Memref.whole cc0_scratch2 : Memref sig .tc _ _ _).view (Rect.unit (s := S256x128) ![0, 0] S48x128.size inb_S256x128_S48x128_0_0).toLoadRect X.x1

/-- The top edges of the first 48 rows. -/
def topY1 : Vec F S48x128 .f32 :=
  View.readAt (Elt F) (Memref.whole cc0_scratch3 : Memref sig .tc _ _ _).view (Rect.unit (s := S256x128) ![0, 0] S48x128.size inb_S256x128_S48x128_0_0).toLoadRect X.y1

/-- The right edges of the first 48 rows. -/
def topX2 : Vec F S48x128 .f32 :=
  View.readAt (Elt F) (Memref.whole cc0_scratch4 : Memref sig .tc _ _ _).view (Rect.unit (s := S256x128) ![0, 0] S48x128.size inb_S256x128_S48x128_0_0).toLoadRect X.x2

/-- The bottom edges of the first 48 rows. -/
def topY2 : Vec F S48x128 .f32 :=
  View.readAt (Elt F) (Memref.whole cc0_scratch5 : Memref sig .tc _ _ _).view (Rect.unit (s := S256x128) ![0, 0] S48x128.size inb_S256x128_S48x128_0_0).toLoadRect X.y2

/-- The areas, as the trip reads them. -/
def areaRead : Vec F S48x128 .f32 :=
  View.readAt (Elt F) (Memref.whole cc0_scratch6 : Memref sig .tc _ _ _).view (Rect.unit (s := S48x128) ![0, 0] S48x128.size inb_S48x128_S48x128_0_0).toLoadRect X.area

/-- The whole mask, as the trip reads it. -/
def maskRead (s : Sel F) : Vec F S48x128 .f32 :=
  View.readAt (Elt F) (Memref.whole cc0_scratch7 : Memref sig .tc _ _ _).view (Rect.unit (s := S48x128) ![0, 0] S48x128.size inb_S48x128_S48x128_0_0).toLoadRect s.mask

/-- The second candidate's word. -/
def second (s : Sel F) : BitVec 32 := Scalar.minsi (Scalar.addi s.j 1#32) 6143#32

/-- The first candidate is eligible. -/
def take1 (s : Sel F) (h : k0_chk1 s.j) : BitVec 1 :=
  Scalar.cmpf .ogt (k0_pay78 (k0_pay58 v5 s.j (maskRow s h))) (Scalar.ofBits .f32 0x3F000000#32)

/-- The second candidate's mask entry. -/
def mask2 (s : Sel F) (h : k0_chk1 s.j) : BitVec 1 :=
  Scalar.cmpf .ogt (k0_pay79 (k0_pay69 v5 (second s) (maskRow2 s h))) (Scalar.ofBits .f32 0x3F000000#32)

/-- The two candidates do not overlap too much. -/
def apart (s : Sel F) (h : k0_chk1 s.j) : BitVec 1 :=
  Scalar.cmpf .ogt (k0_pay77 (k0_pay60 v5 s.j (packRow X s h)) (k0_pay61 v5 s.j (packRow X s h)) (k0_pay62 v5 s.j (packRow X s h)) (k0_pay63 v5 s.j (packRow X s h))
    (k0_pay71 v5 (second s) (packRow2 X s h)) (k0_pay72 v5 (second s) (packRow2 X s h)) (k0_pay73 v5 (second s) (packRow2 X s h)) (k0_pay74 v5 (second s) (packRow2 X s h))
    (k0_pay76 v5 (second s) (k0_pay60 v5 s.j (packRow X s h)) (packRow2 X s h))) (Scalar.ofBits .f32 0x3F000000#32)

/-- The second candidate is eligible after the first. -/
def take2 (s : Sel F) (h : k0_chk1 s.j) : BitVec 1 :=
  Scalar.andi (Scalar.andi (mask2 v5 s h) (Scalar.cmpi .slt (Scalar.addi s.j 1#32) 6144#32))
    (Scalar.ori (Scalar.xori (take1 v5 s h) 1#1) (apart v5 X s h))

/-- The mask after the trip. -/
def nextMask (s : Sel F) (h : k0_chk1 s.j) : Vec F S48x128 .f32 :=
  k0_pay83 v37 (second s) (k0_pay71 v5 (second s) (packRow2 X s h)) (k0_pay72 v5 (second s) (packRow2 X s h)) (k0_pay73 v5 (second s) (packRow2 X s h)) (k0_pay74 v5 (second s) (packRow2 X s h))
    (take1 v5 s h) (take2 v5 X s h)
    (k0_pay80 v37 s.j (k0_pay60 v5 s.j (packRow X s h)) (k0_pay61 v5 s.j (packRow X s h)) (k0_pay62 v5 s.j (packRow X s h)) (k0_pay63 v5 s.j (packRow X s h))
      (topX1 X) (topY1 X) (topX2 X) (topY2 X) (areaRead X))
    (k0_pay81 (k0_pay71 v5 (second s) (packRow2 X s h)) (topX1 X))
    (k0_pay82 (k0_pay72 v5 (second s) (packRow2 X s h)) (topY1 X))
    (topX2 X) (topY2 X) (areaRead X) (maskRead s)

/-- The row emitted for the first candidate. -/
def row1 (s : Sel F) (h : k0_chk1 s.j) : Vec F S1x128 .f32 :=
  k0_pay67 (k0_pay60 v5 s.j (packRow X s h)) (k0_pay61 v5 s.j (packRow X s h)) (k0_pay64 v5) (k0_pay65 v5) (k0_pay66 v5 s.j (packRow X s h))

/-- The row emitted for the second candidate. -/
def row2 (s : Sel F) (h : k0_chk1 s.j) : Vec F S1x128 .f32 := k0_pay75 v5 (second s) (packRow2 X s h)

/-- The rows after the first store. -/
def out1 (s : Sel F) (h : Live s) : Vec F S1000x128 .f32 :=
  if hc : k0_cond1 (take1 v5 s (chk1_of _ h.1)) = 1#1 then
    View.writes (Memref.whole cc0_stg5_0 : Memref sig .tc _ _ _).view (Elt F) s.out
      [⟨Rect.unit (s := S1000x128) (k0_off7 s.n) S1x128.size (k0_off7_inb s.n (take1 v5 s (chk1_of _ h.1)) (chk2_of _ _ h.2) hc), row1 v5 X s (chk1_of _ h.1)⟩]
  else s.out

/-- The rows after the second store. -/
def out2 (s : Sel F) (h : Live s) : Vec F S1000x128 .f32 :=
  if hc : k0_cond2 s.j s.n (take1 v5 s (chk1_of _ h.1)) (mask2 v5 s (chk1_of _ h.1)) (apart v5 X s (chk1_of _ h.1)) = 1#1 then
    View.writes (Memref.whole cc0_stg5_0 : Memref sig .tc _ _ _).view (Elt F) (out1 v5 X s h)
      [⟨Rect.unit (s := S1000x128) (k0_off8 s.n (take1 v5 s (chk1_of _ h.1))) S1x128.size
        (k0_off8_inb s.j s.n (take1 v5 s (chk1_of _ h.1)) (mask2 v5 s (chk1_of _ h.1)) (apart v5 X s (chk1_of _ h.1)) (chk3_of _ _ _ _ _ h.2) hc), row2 v5 X s (chk1_of _ h.1)⟩]
  else out1 v5 X s h

/-- One trip of the selection. -/
def selStep (s : Sel F) (h : Live s) : Sel F where
  j := Scalar.addi s.j 2#32
  n := Scalar.addi (Scalar.addi s.n (Scalar.extui (take1 v5 s (chk1_of _ h.1)))) (Scalar.extui (take2 v5 X s (chk1_of _ h.1)))
  mask := nextMask v5 v37 X s (chk1_of _ h.1)
  out := out2 v5 X s h

/-- At most `k` trips of the selection. -/
def selRun : ℕ → Sel F → Sel F
  | 0, s => s
  | k + 1, s => if h : Live s then selRun k (selStep v5 v37 X s h) else s

end Step

/-- What the loop holds: the coordinate arrays, the areas, the mask, the packed rows and the result's rows. -/
def heldSel (c : Dev nD) (X : Fixed F) (mask : Vec F S48x128 .f32) (out : Vec F S1000x128 .f32) : sProp 𝕄 :=
  iprop((((Memref.whole cc0_scratch2).view.loc (c : Thread nD τ)) ↦{fullShare} X.x1)
    ∗ (((Memref.whole cc0_scratch3).view.loc (c : Thread nD τ)) ↦{fullShare} X.y1)
    ∗ (((Memref.whole cc0_scratch4).view.loc (c : Thread nD τ)) ↦{fullShare} X.x2)
    ∗ (((Memref.whole cc0_scratch5).view.loc (c : Thread nD τ)) ↦{fullShare} X.y2)
    ∗ (((Memref.whole cc0_scratch6).view.loc (c : Thread nD τ)) ↦{fullShare} X.area)
    ∗ (((Memref.whole cc0_scratch8).view.loc (c : Thread nD τ)) ↦{fullShare} X.pack)
    ∗ (((Memref.whole cc0_scratch7).view.loc (c : Thread nD τ)) ↦{fullShare} mask)
    ∗ (((Memref.whole cc0_stg5_0).view.loc (c : Thread nD τ)) ↦{fullShare} out))

section Label

variable (c : Dev nD) (v5 : IVec S1x128 32) (v37 : IVec S48x128 32) (X : Fixed F)

/-- The loop's specification with at most `k` trips left from `s`: it consumes what it holds, returns some pair of counters and
    gives back what it holds after the trips. -/
def spec (k : ℕ) (s : Sel F) : sWPT 𝕄 (BitVec 32 × BitVec 32) := do
  sWPT.consume (heldSel c X s.mask s.out)
  let r ← sWPT.arbitrary
  sWPT.produce (heldSel c X (selRun v5 v37 X k s).mask (selRun v5 v37 X k s).out)
  pure r

theorem spec_apply (k : ℕ) (s : Sel F) (K : BitVec 32 × BitVec 32 → sProp 𝕄) :
    spec c v5 v37 X k s K
      = iprop(heldSel c X s.mask s.out ∗ ∀ r : BitVec 32 × BitVec 32,
          (heldSel c X (selRun v5 v37 X k s).mask (selRun v5 v37 X k s).out -∗ K r)) := rfl

/-- The loop's arguments at a state. -/
abbrev labelArgs (s : Sel F) : Cc0While1 F :=
  ⟨v5, Memref.whole cc0_scratch7, Memref.isWhole_whole _, Memref.whole cc0_scratch8, Memref.isWhole_whole _,
    Memref.whole cc0_scratch2, Memref.isWhole_whole _, Memref.whole cc0_scratch3, Memref.isWhole_whole _, Memref.whole cc0_scratch4, Memref.isWhole_whole _,
    Memref.whole cc0_scratch5, Memref.isWhole_whole _, Memref.whole cc0_scratch6, Memref.isWhole_whole _, v37, Memref.whole cc0_stg5_0, Memref.isWhole_whole _, s.j, s.n⟩

/-- The loop's test, where the counters are small. -/
theorem test_iff (s : Sel F) (hj : s.j.toNat ≤ 6144) (hn : s.n.toNat ≤ 1001) :
    Scalar.andi (Scalar.cmpi .slt s.j 6144#32) (Scalar.cmpi .slt s.n 1000#32) = 1#1 ↔ Live s := by
  have e : ∀ x y : BitVec 1, Scalar.andi x y = 1#1 ↔ x = 1#1 ∧ y = 1#1 := by decide
  rw [e, slt_iff (by omega) (by decide), slt_iff (by omega) (by decide)]
  exact Iff.rfl

theorem selStep_j (s : Sel F) (h : Live s) : (selStep v5 v37 X s h).j.toNat = s.j.toNat + 2 := by
  have := h.1
  show (s.j + 2#32).toNat = _
  rw [BitVec.toNat_add]; show (s.j.toNat + 2) % 2 ^ 32 = _; omega

theorem selStep_n (s : Sel F) (h : Live s) : (selStep v5 v37 X s h).n.toNat ≤ 1001 := by
  have h2 := h.2
  show (Scalar.addi (Scalar.addi s.n (Scalar.extui _)) (Scalar.extui _)).toNat ≤ _
  have e1 := toNat_extui1 (take1 v5 s (chk1_of _ h.1))
  have e2 := toNat_extui1 (take2 v5 X s (chk1_of _ h.1))
  have e3 := toNat_add_extui s.n (take1 v5 s (chk1_of _ h.1)) (by omega)
  rw [toNat_add_extui _ _ (by omega)]
  omega

/-- What the trip stores over the whole mask is the trip's mask. -/
theorem eq_ofMask (s : Sel F) (h : Live s) :
    (Memref.whole cc0_scratch7 : Memref sig .tc _ _ _).view.writes (Elt F) s.mask
          [⟨Rect.unit (s := S48x128) ![0, 0] S48x128.size inb_S48x128_S48x128_0_0, nextMask v5 v37 X s (chk1_of _ h.1)⟩]
      = (selStep v5 v37 X s h).mask :=
  writes_whole cc0_scratch7 off2_zero inb_S48x128_S48x128_0_0 s.mask (nextMask v5 v37 X s (chk1_of _ h.1))

theorem spec_le (E : Set ℕ) :
    ∀ k (s : Sel F), s.j.toNat + 2 * k = 6144 → s.n.toNat ≤ 1001 → ∀ K, spec c v5 v37 X k s K
      ⊢ wp frame (wpE (defs₀ (F := F)) 𝒱₀ (c : Thread nD τ) (some k)) Set.univ
          (defs₀ (F := F) .tc 1 (labelArgs v5 v37 s)) K := by
  intro k
  induction k with
  | zero =>
    intro s hj hn K
    rw [spec_apply]
    show _ ⊢ wp frame (wpE (defs₀ (F := F)) 𝒱₀ (c : Thread nD τ) (some 0)) Set.univ
      (cc0_while1 v5 (Memref.whole cc0_scratch7) (Memref.isWhole_whole _) (Memref.whole cc0_scratch8) (Memref.isWhole_whole _)
        (Memref.whole cc0_scratch2) (Memref.isWhole_whole _) (Memref.whole cc0_scratch3) (Memref.isWhole_whole _) (Memref.whole cc0_scratch4) (Memref.isWhole_whole _)
        (Memref.whole cc0_scratch5) (Memref.isWhole_whole _) (Memref.whole cc0_scratch6) (Memref.isWhole_whole _) v37 (Memref.whole cc0_stg5_0) (Memref.isWhole_whole _) s.j s.n) K
    have ht : ¬ Scalar.andi (Scalar.cmpi .slt s.j 6144#32) (Scalar.cmpi .slt s.n 1000#32) = 1#1 := by
      rw [test_iff s (by omega) hn]; intro h; have := h.1; omega
    simp only [cc0_while1_eq_skeleton]; unfold cc0_while1_skel
    simp only [ht, ↓reduceIte, Prog.pure_eq_ret]
    iintro ⟨H, Hk⟩
    rw [wp_ret]; imodintro
    iapply Hk
    iexact H
  | succ k ih =>
    intro s hj hn K
    rw [spec_apply]
    show _ ⊢ wp frame (wpE (defs₀ (F := F)) 𝒱₀ (c : Thread nD τ) (some (k + 1))) Set.univ
      (cc0_while1 v5 (Memref.whole cc0_scratch7) (Memref.isWhole_whole _) (Memref.whole cc0_scratch8) (Memref.isWhole_whole _)
        (Memref.whole cc0_scratch2) (Memref.isWhole_whole _) (Memref.whole cc0_scratch3) (Memref.isWhole_whole _) (Memref.whole cc0_scratch4) (Memref.isWhole_whole _)
        (Memref.whole cc0_scratch5) (Memref.isWhole_whole _) (Memref.whole cc0_scratch6) (Memref.isWhole_whole _) v37 (Memref.whole cc0_stg5_0) (Memref.isWhole_whole _) s.j s.n) K
    simp only [cc0_while1_eq_skeleton]; unfold cc0_while1_skel
    by_cases hl : Live s
    · have ht : Scalar.andi (Scalar.cmpi .slt s.j 6144#32) (Scalar.cmpi .slt s.n 1000#32) = 1#1 := (test_iff s (by omega) hn).2 hl
      simp only [ht, ↓reduceIte]
      have hc1 : k0_chk1 s.j := chk1_of s.j hl.1
      have hc2 : ∀ v, k0_chk2 s.n v := fun v => chk2_of s.n v hl.2
      have hc3 : ∀ u v w, k0_chk3 s.j s.n u v w := fun u v w => chk3_of s.j s.n u v w hl.2
      unfold heldSel
      iintro ⟨⟨H2, H3, H4, H5, H6, H8, H7, Ho⟩, Hk⟩
      sl_exec
      iapply (wp_call_spec 𝒱₀ (c : Thread nD τ) (some (k + 1)) Set.univ (spec c v5 v37 X k (selStep v5 v37 X s hl)) k
        (fun u hu => by cases hu; exact Nat.lt_succ_self k)
        (ih (selStep v5 v37 X s hl) (by rw [selStep_j]; omega) (selStep_n v5 v37 X s hl)))
      have e : selRun v5 v37 X (k + 1) s = selRun v5 v37 X k (selStep v5 v37 X s hl) := by rw [selRun, dif_pos hl]
      rw [e]
      rw [spec_apply]
      unfold heldSel
      isplitr [Hk]
      · isplitl [H2]
        · iexact H2
        isplitl [H3]
        · iexact H3
        isplitl [H4]
        · iexact H4
        isplitl [H5]
        · iexact H5
        isplitl [H6]
        · iexact H6
        isplitl [H8]
        · iexact H8
        isplitl [H7]
        · rw [← eq_ofMask v5 v37 X s hl]
          iexact H7
        · iexact Ho
      · iintro %r H
        rw [wp_ret]; imodintro
        iapply Hk
        iexact H
    · have ht : ¬ Scalar.andi (Scalar.cmpi .slt s.j 6144#32) (Scalar.cmpi .slt s.n 1000#32) = 1#1 := by
        rw [test_iff s (by omega) hn]; exact hl
      simp only [ht, ↓reduceIte, Prog.pure_eq_ret]
      have e : selRun v5 v37 X (k + 1) s = s := by rw [selRun, dif_neg hl]
      rw [e]
      iintro ⟨H, Hk⟩
      rw [wp_ret]; imodintro
      iapply Hk
      iexact H

end Label

end Cert.Proof.KI
-- ==== Proof.KI.Body.lean ====
/-
  The kernel's body: the packing of the candidates' rows, the result as a function of the five staged arrays, and the
  body run from end to end.
-/
module

public import proofs.«01_k».proof.Proof.KI.While
public import proofs.«01_k».proof.Proof.Gen.KernelIdeal.Launch
public import Idealize.ShloMosaic.Lib.WritesUnit
public import Idealize.ShloMosaic.Lib.ValueIdxCore

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Pack

variable (a : Arrs F)

/-- One trip of the packing: rows 8 t to 8 t + 7 of the packed array are the coordinates and the score of row t. -/
def packTrip (t : Fin k0_t6_loop.trips) (f : Vec F S384x128 .f32) : Vec F S384x128 .f32 :=
  View.writes (Memref.whole cc0_scratch8 : Memref sig .tc _ _ _).view (Elt F) f
    [⟨Rect.unit (s := S384x128) (k0_off2 t) S8x128.size (k0_off2_inb t),
      k0_pay21
        (View.readAt (Elt F) (Memref.whole cc0_scratch2 : Memref sig .tc _ _ _).view (Rect.unit (s := S256x128) (k0_off1 t) S1x128.size (k0_off1_inb t)).toLoadRect a.x1)
        (View.readAt (Elt F) (Memref.whole cc0_scratch3 : Memref sig .tc _ _ _).view (Rect.unit (s := S256x128) (k0_off1 t) S1x128.size (k0_off1_inb t)).toLoadRect a.y1)
        (View.readAt (Elt F) (Memref.whole cc0_scratch4 : Memref sig .tc _ _ _).view (Rect.unit (s := S256x128) (k0_off1 t) S1x128.size (k0_off1_inb t)).toLoadRect a.x2)
        (View.readAt (Elt F) (Memref.whole cc0_scratch5 : Memref sig .tc _ _ _).view (Rect.unit (s := S256x128) (k0_off1 t) S1x128.size (k0_off1_inb t)).toLoadRect a.y2)
        (View.readAt (Elt F) (Memref.whole cc0_scratch0 : Memref sig .tc _ _ _).view (Rect.unit (s := S256x128) (k0_off1 t) S1x128.size (k0_off1_inb t)).toLoadRect a.s)⟩]

/-- Row `r` of an array, as a single row. -/
def rowOf (f : Vec F S256x128 .f32) (r : Fin 256) : Vec F S1x128 .f32 := fun x => f (ValueIdx.ix2 r (x 1))

/-- The packed array: rows 8 t to 8 t + 7 from row t. -/
def packOf : Vec F S384x128 .f32 := fun y =>
  have h : (y 0).val < 384 := (y 0).isLt
  k0_pay21 (rowOf a.x1 ⟨(y 0).val / 8, by omega⟩) (rowOf a.y1 ⟨(y 0).val / 8, by omega⟩) (rowOf a.x2 ⟨(y 0).val / 8, by omega⟩)
    (rowOf a.y2 ⟨(y 0).val / 8, by omega⟩) (rowOf a.s ⟨(y 0).val / 8, by omega⟩) (ValueIdx.ix2 ⟨(y 0).val % 8, Nat.mod_lt _ (by decide)⟩ (y 1))

theorem off1_eq : ∀ t : Fin k0_t6_loop.trips, k0_off1 t = ![t.val, 0] := by decide +kernel
theorem off2_eq : ∀ t : Fin k0_t6_loop.trips, k0_off2 t = ![8 * t.val, 0] := by decide +kernel
theorem trips6 : k0_t6_loop.trips = 48 := by decide +kernel

theorem row_read_x1 (t : Fin k0_t6_loop.trips) (r : Fin 256) (h : r.val = t.val) (f : Vec F S256x128 .f32) :
    View.readAt (Elt F) (Memref.whole cc0_scratch2 : Memref sig .tc _ _ _).view (Rect.unit (s := S256x128) (k0_off1 t) S1x128.size (k0_off1_inb t)).toLoadRect f
      = rowOf f r := by
  funext x
  show f _ = f _
  congr 1
  funext q
  fin_cases q
  · apply Fin.ext
    show k0_off1 t (0 : Fin 2) + 1 * (x 0).val = r.val
    have h0 : (x 0).val < 1 := (x 0).isLt
    have e0 : k0_off1 t (0 : Fin 2) = t.val := congrFun (off1_eq t) 0
    omega
  · apply Fin.ext
    show k0_off1 t (1 : Fin 2) + 1 * (x 1).val = (x 1).val
    have e0 : k0_off1 t (1 : Fin 2) = 0 := congrFun (off1_eq t) 1
    omega

theorem row_read_y1 (t : Fin k0_t6_loop.trips) (r : Fin 256) (h : r.val = t.val) (f : Vec F S256x128 .f32) :
    View.readAt (Elt F) (Memref.whole cc0_scratch3 : Memref sig .tc _ _ _).view (Rect.unit (s := S256x128) (k0_off1 t) S1x128.size (k0_off1_inb t)).toLoadRect f
      = rowOf f r := by
  funext x
  show f _ = f _
  congr 1
  funext q
  fin_cases q
  · apply Fin.ext
    show k0_off1 t (0 : Fin 2) + 1 * (x 0).val = r.val
    have h0 : (x 0).val < 1 := (x 0).isLt
    have e0 : k0_off1 t (0 : Fin 2) = t.val := congrFun (off1_eq t) 0
    omega
  · apply Fin.ext
    show k0_off1 t (1 : Fin 2) + 1 * (x 1).val = (x 1).val
    have e0 : k0_off1 t (1 : Fin 2) = 0 := congrFun (off1_eq t) 1
    omega

theorem row_read_x2 (t : Fin k0_t6_loop.trips) (r : Fin 256) (h : r.val = t.val) (f : Vec F S256x128 .f32) :
    View.readAt (Elt F) (Memref.whole cc0_scratch4 : Memref sig .tc _ _ _).view (Rect.unit (s := S256x128) (k0_off1 t) S1x128.size (k0_off1_inb t)).toLoadRect f
      = rowOf f r := by
  funext x
  show f _ = f _
  congr 1
  funext q
  fin_cases q
  · apply Fin.ext
    show k0_off1 t (0 : Fin 2) + 1 * (x 0).val = r.val
    have h0 : (x 0).val < 1 := (x 0).isLt
    have e0 : k0_off1 t (0 : Fin 2) = t.val := congrFun (off1_eq t) 0
    omega
  · apply Fin.ext
    show k0_off1 t (1 : Fin 2) + 1 * (x 1).val = (x 1).val
    have e0 : k0_off1 t (1 : Fin 2) = 0 := congrFun (off1_eq t) 1
    omega

theorem row_read_y2 (t : Fin k0_t6_loop.trips) (r : Fin 256) (h : r.val = t.val) (f : Vec F S256x128 .f32) :
    View.readAt (Elt F) (Memref.whole cc0_scratch5 : Memref sig .tc _ _ _).view (Rect.unit (s := S256x128) (k0_off1 t) S1x128.size (k0_off1_inb t)).toLoadRect f
      = rowOf f r := by
  funext x
  show f _ = f _
  congr 1
  funext q
  fin_cases q
  · apply Fin.ext
    show k0_off1 t (0 : Fin 2) + 1 * (x 0).val = r.val
    have h0 : (x 0).val < 1 := (x 0).isLt
    have e0 : k0_off1 t (0 : Fin 2) = t.val := congrFun (off1_eq t) 0
    omega
  · apply Fin.ext
    show k0_off1 t (1 : Fin 2) + 1 * (x 1).val = (x 1).val
    have e0 : k0_off1 t (1 : Fin 2) = 0 := congrFun (off1_eq t) 1
    omega

theorem row_read_s (t : Fin k0_t6_loop.trips) (r : Fin 256) (h : r.val = t.val) (f : Vec F S256x128 .f32) :
    View.readAt (Elt F) (Memref.whole cc0_scratch0 : Memref sig .tc _ _ _).view (Rect.unit (s := S256x128) (k0_off1 t) S1x128.size (k0_off1_inb t)).toLoadRect f
      = rowOf f r := by
  funext x
  show f _ = f _
  congr 1
  funext q
  fin_cases q
  · apply Fin.ext
    show k0_off1 t (0 : Fin 2) + 1 * (x 0).val = r.val
    have h0 : (x 0).val < 1 := (x 0).isLt
    have e0 : k0_off1 t (0 : Fin 2) = t.val := congrFun (off1_eq t) 0
    omega
  · apply Fin.ext
    show k0_off1 t (1 : Fin 2) + 1 * (x 1).val = (x 1).val
    have e0 : k0_off1 t (1 : Fin 2) = 0 := congrFun (off1_eq t) 1
    omega

/-- After `k` trips the first `8 k` rows are packed, whatever was there before. -/
theorem packTrips_apply (g : Vec F S384x128 .f32) : ∀ k, k ≤ k0_t6_loop.trips → ∀ y : S384x128.Idx, (y 0).val < 8 * k →
    iterTrips (packTrip a) k g y = packOf a y := by
  intro k
  induction k with
  | zero => intro _ y hy; omega
  | succ k ih =>
    intro hk y hy
    have e := iterTrips_succ (packTrip a) ⟨k, hk⟩ g
    rw [show k + 1 = (⟨k, hk⟩ : Fin k0_t6_loop.trips).val + 1 from rfl, e]
    generalize hf : iterTrips (packTrip a) (⟨k, hk⟩ : Fin k0_t6_loop.trips).val g = f at *
    have h384 : (y 0).val < 384 := (y 0).isLt
    have hr : ∀ G : Vec F S384x128 .f32, (Memref.whole cc0_scratch8 : Memref sig .tc _ _ _).view.read (Elt F) G = G := fun G => rfl
    rw [← hr (packTrip a ⟨k, hk⟩ f)]
    unfold packTrip
    by_cases hlt : (y 0).val < 8 * k
    · refine (View.read_writes_cons_rows_of_not_mem (Val := Elt F) (d := ![384, 128]) (v := (Memref.whole cc0_scratch8 : Memref sig .tc .vmem S384x128 .f32).view) (size := ![8, 128]) (o := 8 * k) (W := 8) (f := f) (inb := k0_off2_inb ⟨k, hk⟩) (w := _) (L := []) (y := y) (off2_eq _) rfl (Or.inl hlt)).trans ?_
      rw [View.writes_nil, hr]
      exact ih (by omega) y hlt
    · refine (View.read_writes_cons_rows_of_mem (Val := Elt F) (d := ![384, 128]) (v := (Memref.whole cc0_scratch8 : Memref sig .tc .vmem S384x128 .f32).view) (size := ![8, 128]) (o := 8 * k) (f := f) (inb := k0_off2_inb ⟨k, hk⟩) (w := _) (L := []) (y := y)
        (x := ValueIdx.ix2 (n0 := 8) (n1 := 128) ⟨(y 0).val % 8, Nat.mod_lt _ (by decide)⟩ (y 1)) (off2_eq _)
        (by show (y 0).val = 8 * k + (y 0).val % 8; omega) rfl).trans ?_
      have hd : (y 0).val / 8 = k := by omega
      rw [row_read_x1 _ ⟨(y 0).val / 8, by omega⟩ hd, row_read_y1 _ ⟨(y 0).val / 8, by omega⟩ hd, row_read_x2 _ ⟨(y 0).val / 8, by omega⟩ hd,
        row_read_y2 _ ⟨(y 0).val / 8, by omega⟩ hd, row_read_s _ ⟨(y 0).val / 8, by omega⟩ hd]
      rfl

/-- The packing's trips leave the packed array. -/
theorem packTrips_eq (g : Vec F S384x128 .f32) : iterTrips (packTrip a) k0_t6_loop.trips g = packOf a := by
  funext y
  exact packTrips_apply a g _ le_rfl y (by rw [trips6]; exact (y 0).isLt)

/-- The packed rows do not depend on the indices. -/
theorem packOf_congr (i : Vec F S256x128 .i32) : packOf ⟨a.s, i, a.x1, a.y1, a.x2, a.y2⟩ = packOf a := rfl

end Pack

set_option warn.classDefReducibility false in
@[sl_loop] def loopInv_k0_t6 (c : Dev nD) (bd : Option 𝒱₀.V) (s x1 y1 x2 y2 : Vec F S256x128 .f32) (g : Vec F S384x128 .f32) :
    LoopInvTy_k0_t6 (F := F) Unit ℕ (UR sig nD τ) ℕ 𝒱₀ c bd Set.univ (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) where
  inv := fun k _ => iprop((((Memref.whole cc0_scratch0).view.loc (c : Thread nD τ)) ↦{fullShare} s)
    ∗ (((Memref.whole cc0_scratch2).view.loc (c : Thread nD τ)) ↦{fullShare} x1)
    ∗ (((Memref.whole cc0_scratch3).view.loc (c : Thread nD τ)) ↦{fullShare} y1)
    ∗ (((Memref.whole cc0_scratch4).view.loc (c : Thread nD τ)) ↦{fullShare} x2)
    ∗ (((Memref.whole cc0_scratch5).view.loc (c : Thread nD τ)) ↦{fullShare} y2)
    ∗ (∃ f, ⌜f = iterTrips (packTrip ⟨s, fun _ => 0#32, x1, y1, x2, y2⟩) k g⌝ ∗ (((Memref.whole cc0_scratch8).view.loc (c : Thread nD τ)) ↦{fullShare} f)))
  step := fun k acc => by
    rw [iterTrips_succ]
    generalize iterTrips _ k.val _ = b
    iintro ⟨H0, H2, H3, H4, H5, ⟨%f, %h, H8⟩⟩
    subst h
    unfold k0_t6_body
    sl_exec
    sl_step
    isplitl [H0]; · iexact H0
    isplitl [H2]; · iexact H2
    isplitl [H3]; · iexact H3
    isplitl [H4]; · iexact H4
    isplitl [H5]; · iexact H5
    iexists _; isplitr; swap; · iexact H8
    ipureintro; rfl

section Result

variable (x0 x1 x2 x3 x4 : Vec F S256x128 .f32)

/-- The arrays before the sort: the scores, the positions, the four coordinates. -/
def startArrs : Arrs F := ⟨k0_pay52 x0, k0_pay53, k0_pay54 x1, k0_pay55 x2, k0_pay56 x3, k0_pay1 x4⟩

/-- The arrays after the sort. -/
def sortedArrs : Arrs F := iterTrips (stageTrip k0_pay50) k0_t1_loop.trips (startArrs x0 x1 x2 x3 x4)

/-- What the selection reads, from the sorted arrays. -/
def fixedOf (a : Arrs F) : Fixed F where
  x1 := a.x1
  y1 := a.y1
  x2 := a.x2
  y2 := a.y2
  area := k0_pay19
    (View.readAt (Elt F) (Memref.whole cc0_scratch2 : Memref sig .tc _ _ _).view (Rect.unit (s := S256x128) ![0, 0] S48x128.size inb_S256x128_S48x128_0_0).toLoadRect a.x1)
    (View.readAt (Elt F) (Memref.whole cc0_scratch3 : Memref sig .tc _ _ _).view (Rect.unit (s := S256x128) ![0, 0] S48x128.size inb_S256x128_S48x128_0_0).toLoadRect a.y1)
    (View.readAt (Elt F) (Memref.whole cc0_scratch4 : Memref sig .tc _ _ _).view (Rect.unit (s := S256x128) ![0, 0] S48x128.size inb_S256x128_S48x128_0_0).toLoadRect a.x2)
    (View.readAt (Elt F) (Memref.whole cc0_scratch5 : Memref sig .tc _ _ _).view (Rect.unit (s := S256x128) ![0, 0] S48x128.size inb_S256x128_S48x128_0_0).toLoadRect a.y2)
  pack := packOf a

/-- The lane numbers. -/
def lanes : IVec S1x128 32 := iota .tc S1x128 32 [1] iota_S1x128_d1_w32

/-- The selection's first state. -/
def startSel : Sel F := ⟨0#32, 0#32, k0_pay20 k0_pay50, k0_pay51⟩

/-- The rows the kernel leaves, from the five staged arrays. -/
def resultOf : Vec F S1000x128 .f32 :=
  (selRun lanes (k0_pay18 k0_pay50) (fixedOf (sortedArrs x0 x1 x2 x3 x4)) 3072 startSel).out

end Result

/-- A staging buffer at contents equal to `X`. -/
abbrev stg (c : Dev nD) (b : Ref sig .tc) (X : b.ty.Contents (Elt F)) : sProp 𝕄 :=
  iprop(∃ f, ⌜f = X⌝ ∗ (((Memref.whole b).view.loc (c : Thread nD τ)) ↦{fullShare} f))

/-- The scratch buffers at any contents. -/
def anyScratch (c : Dev nD) : sProp 𝕄 :=
  iprop((∃ f, ((Memref.whole cc0_scratch0).view.loc (c : Thread nD τ)) ↦{fullShare} f)
    ∗ (∃ f, ((Memref.whole cc0_scratch1).view.loc (c : Thread nD τ)) ↦{fullShare} f)
    ∗ (∃ f, ((Memref.whole cc0_scratch2).view.loc (c : Thread nD τ)) ↦{fullShare} f)
    ∗ (∃ f, ((Memref.whole cc0_scratch3).view.loc (c : Thread nD τ)) ↦{fullShare} f)
    ∗ (∃ f, ((Memref.whole cc0_scratch4).view.loc (c : Thread nD τ)) ↦{fullShare} f)
    ∗ (∃ f, ((Memref.whole cc0_scratch5).view.loc (c : Thread nD τ)) ↦{fullShare} f)
    ∗ (∃ f, ((Memref.whole cc0_scratch6).view.loc (c : Thread nD τ)) ↦{fullShare} f)
    ∗ (∃ f, ((Memref.whole cc0_scratch7).view.loc (c : Thread nD τ)) ↦{fullShare} f)
    ∗ (∃ f, ((Memref.whole cc0_scratch8).view.loc (c : Thread nD τ)) ↦{fullShare} f))

/-- What the body holds: the staged arrays, the rows, the scratch buffers. -/
def heldBody (c : Dev nD) (x0 x1 x2 x3 x4 : Vec F S256x128 .f32) (o : Vec F S1000x128 .f32) : sProp 𝕄 :=
  iprop((((Memref.whole cc0_stg0_0).view.loc (c : Thread nD τ)) ↦{fullShare} x0)
        ∗ (((Memref.whole cc0_stg1_0).view.loc (c : Thread nD τ)) ↦{fullShare} x1)
        ∗ (((Memref.whole cc0_stg2_0).view.loc (c : Thread nD τ)) ↦{fullShare} x2)
        ∗ (((Memref.whole cc0_stg3_0).view.loc (c : Thread nD τ)) ↦{fullShare} x3)
        ∗ (((Memref.whole cc0_stg4_0).view.loc (c : Thread nD τ)) ↦{fullShare} x4)
        ∗ (((Memref.whole cc0_stg5_0).view.loc (c : Thread nD τ)) ↦{fullShare} o)
        ∗ anyScratch c)

/-- The loop's first arguments. -/
theorem startArgs : (labelArgs lanes (k0_pay18 k0_pay50) startSel : Cc0While1 F) = ⟨lanes, Memref.whole cc0_scratch7, Memref.isWhole_whole _, Memref.whole cc0_scratch8, Memref.isWhole_whole _,
    Memref.whole cc0_scratch2, Memref.isWhole_whole _, Memref.whole cc0_scratch3, Memref.isWhole_whole _, Memref.whole cc0_scratch4, Memref.isWhole_whole _,
    Memref.whole cc0_scratch5, Memref.isWhole_whole _, Memref.whole cc0_scratch6, Memref.isWhole_whole _, k0_pay18 k0_pay50, Memref.whole cc0_stg5_0, Memref.isWhole_whole _, 0#32, 0#32⟩ := rfl

/-- The loop from its first arguments. -/
theorem spec_start (c : Dev nD) (X : Fixed F) (K : BitVec 32 × BitVec 32 → sProp 𝕄) :
    spec c lanes (k0_pay18 k0_pay50) X 3072 startSel K
      ⊢ wp frame (wpE (defs₀ (F := F)) 𝒱₀ (c : Thread nD τ) (some 3072)) Set.univ
          (defs₀ (F := F) .tc 1 ⟨lanes, Memref.whole cc0_scratch7, Memref.isWhole_whole _, Memref.whole cc0_scratch8, Memref.isWhole_whole _,
    Memref.whole cc0_scratch2, Memref.isWhole_whole _, Memref.whole cc0_scratch3, Memref.isWhole_whole _, Memref.whole cc0_scratch4, Memref.isWhole_whole _,
    Memref.whole cc0_scratch5, Memref.isWhole_whole _, Memref.whole cc0_scratch6, Memref.isWhole_whole _, k0_pay18 k0_pay50, Memref.whole cc0_stg5_0, Memref.isWhole_whole _, 0#32, 0#32⟩) K := by
  have h := spec_le c lanes (k0_pay18 k0_pay50) X Set.univ 3072 startSel rfl (Nat.zero_le _) K
  rw [startArgs] at h
  exact h

set_option maxHeartbeats 4000000 in
/-- The body, from the staged arrays to the rows. -/
theorem run_body (c : Dev nD) (x0 x1 x2 x3 x4 : Vec F S256x128 .f32) (o : Vec F S1000x128 .f32) (K : PUnit → sProp 𝕄) :
    iprop(heldBody c x0 x1 x2 x3 x4 o ∗ (heldBody c x0 x1 x2 x3 x4 (resultOf x0 x1 x2 x3 x4) -∗ K ⟨⟩))
      ⊢ wp frame (wpE (defs₀ (F := F)) 𝒱₀ (c : Thread nD τ) none) Set.univ
          (cc0__nms_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _)) K := by
  simp only [cc0__nms_body_eq_skeleton]; unfold cc0__nms_body_skel
  unfold heldBody anyScratch
  iintro ⟨⟨S0, S1, S2, S3, S4, S5, ⟨%g0, H0⟩, ⟨%g1, H1⟩, ⟨%g2, H2⟩, ⟨%g3, H3⟩, ⟨%g4, H4⟩, ⟨%g5, H5⟩, ⟨%g6, H6⟩, ⟨%g7, H7⟩, ⟨%g8, H8⟩⟩, Hk⟩
  sl_exec
  rw [show (Memref.whole cc0_scratch0 : Memref sig .tc _ _ _).view.writes (Elt F) (Memref.whole cc0_scratch0 : Memref sig .tc _ _ _).view.junk (run_body.sl.H0_1 x0) = k0_pay52 x0 from by
    delta run_body.sl.H0_1; exact (writes_whole cc0_scratch0 off2_zero inb_S256x128_S256x128_0_0 _ _).trans (congrArg k0_pay52 (rd_stg0_0 x0))]
  rw [show (Memref.whole cc0_scratch1 : Memref sig .tc _ _ _).view.writes (Elt F) (Memref.whole cc0_scratch1 : Memref sig .tc _ _ _).view.junk (run_body.sl.H1_1 ) = k0_pay53 from by
    delta run_body.sl.H1_1; exact (writes_whole cc0_scratch1 off2_zero inb_S256x128_S256x128_0_0 _ _)]
  rw [show (Memref.whole cc0_scratch2 : Memref sig .tc _ _ _).view.writes (Elt F) (Memref.whole cc0_scratch2 : Memref sig .tc _ _ _).view.junk (run_body.sl.H2_1 x1) = k0_pay54 x1 from by
    delta run_body.sl.H2_1; exact (writes_whole cc0_scratch2 off2_zero inb_S256x128_S256x128_0_0 _ _).trans (congrArg k0_pay54 (rd_stg1_0 x1))]
  rw [show (Memref.whole cc0_scratch3 : Memref sig .tc _ _ _).view.writes (Elt F) (Memref.whole cc0_scratch3 : Memref sig .tc _ _ _).view.junk (run_body.sl.H3_1 x2) = k0_pay55 x2 from by
    delta run_body.sl.H3_1; exact (writes_whole cc0_scratch3 off2_zero inb_S256x128_S256x128_0_0 _ _).trans (congrArg k0_pay55 (rd_stg2_0 x2))]
  rw [show (Memref.whole cc0_scratch4 : Memref sig .tc _ _ _).view.writes (Elt F) (Memref.whole cc0_scratch4 : Memref sig .tc _ _ _).view.junk (run_body.sl.H4_1 x3) = k0_pay56 x3 from by
    delta run_body.sl.H4_1; exact (writes_whole cc0_scratch4 off2_zero inb_S256x128_S256x128_0_0 _ _).trans (congrArg k0_pay56 (rd_stg3_0 x3))]
  rw [show (Memref.whole cc0_scratch5 : Memref sig .tc _ _ _).view.writes (Elt F) (Memref.whole cc0_scratch5 : Memref sig .tc _ _ _).view.junk (run_body.sl.H5_1 x4) = k0_pay1 x4 from by
    delta run_body.sl.H5_1; exact (writes_whole cc0_scratch5 off2_zero inb_S256x128_S256x128_0_0 _ _).trans (congrArg k0_pay1 (rd_stg4_0 x4))]
  generalize hs0 : k0_pay52 x0 = s0
  generalize hs1 : k0_pay53 = i0
  generalize hs2 : k0_pay54 x1 = y1
  generalize hs3 : k0_pay55 x2 = y2
  generalize hs4 : k0_pay56 x3 = y3
  generalize hs5 : k0_pay1 x4 = y4
  sl_exec
  have e5 : (Memref.whole cc0_stg5_0 : Memref sig .tc _ _ _).view.writes (Elt F) (Memref.whole cc0_stg5_0 : Memref sig .tc _ _ _).view.junk (run_body.sl.S5_1) = k0_pay51 := by
    delta run_body.sl.S5_1; exact writes_whole cc0_stg5_0 off2_zero inb_S1000x128_S1000x128_0_0 _ _
  have e7 : (Memref.whole cc0_scratch7 : Memref sig .tc _ _ _).view.writes (Elt F) (Memref.whole cc0_scratch7 : Memref sig .tc _ _ _).view.junk (run_body.sl.H7_1) = k0_pay20 k0_pay50 := by
    delta run_body.sl.H7_1; exact writes_whole cc0_scratch7 off2_zero inb_S48x128_S48x128_0_0 _ _
  have e6 : (Memref.whole cc0_scratch6 : Memref sig .tc _ _ _).view.writes (Elt F) (Memref.whole cc0_scratch6 : Memref sig .tc _ _ _).view.junk (run_body.sl.H6_1 s0 i0 y1 y2 y3 y4)
      = (fixedOf (iterTrips (stageTrip k0_pay50) k0_t1_loop.trips ⟨s0, i0, y1, y2, y3, y4⟩)).area := by
    delta run_body.sl.H6_1; exact writes_whole cc0_scratch6 off2_zero inb_S48x128_S48x128_0_0 _ _
  rw [e5, e6, e7]
  subst hs0 hs1 hs2 hs3 hs4 hs5
  rw [show run_body.sl.v5 = lanes from rfl]
  iapply (wp_call_spec 𝒱₀ (c : Thread nD τ) none Set.univ
    (spec c lanes (k0_pay18 k0_pay50) (fixedOf (sortedArrs x0 x1 x2 x3 x4)) 3072 startSel) 3072
    (fun u hu => nomatch hu)
    (spec_start c (fixedOf (sortedArrs x0 x1 x2 x3 x4))))
  rw [spec_apply]
  unfold heldSel
  isplitr [Hk S0 S1 S2 S3 S4 H0 H1]
  · isplitl [H2]
    · iexact H2
    isplitl [H3]
    · iexact H3
    isplitl [H4]
    · iexact H4
    isplitl [H5]
    · iexact H5
    isplitl [H6]
    · iexact H6
    isplitl [H8]
    · rw [show (fixedOf (sortedArrs x0 x1 x2 x3 x4)).pack = packOf (sortedArrs x0 x1 x2 x3 x4) from rfl,
        ← packOf_congr (sortedArrs x0 x1 x2 x3 x4) (fun _ => 0#32), ← packTrips_eq _ g8]
      iexact H8
    isplitl [H7]
    · iexact H7
    · iexact S5
  · iintro %r ⟨H2, H3, H4, H5, H6, H8, H7, S5⟩
    sl_exec
    rw [wp_ret]; imodintro
    iapply Hk
    isplitl [S0]; · iexact S0
    isplitl [S1]; · iexact S1
    isplitl [S2]; · iexact S2
    isplitl [S3]; · iexact S3
    isplitl [S4]; · iexact S4
    isplitl [S5]; · iexact S5
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    iexists _; iexact H8

end Cert.Proof.KI
-- ==== Proof.KI.Run.lean ====
/-
  The kernel's run: the body at the region's one point, the host lines around the region, and what every run ends with.
-/
module

public import proofs.«01_k».proof.Proof.KI.Body
public import proofs.«01_k».proof.Proof.Gen.KernelIdeal.Points
public import Idealize.ShloMosaic.Lib.Pipeline.Sound
public import Idealize.ShloMosaic.Lib.Pipeline.FrameSuffix
public import Idealize.ShloMosaic.Lib.Pipeline.ValueKit
public import Idealize.ShloMosaic.Lib.Claim

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### The host lines -/

/-- What core `c`'s buffers hold when the region is entered, after the host lines before it; -/
abbrev V0 (c : Dev nD) : Valuation τ sig (Elt F) := StableHlo.after (List.flatten [hostOps0]) (fun b => m (c, b))

/-- the same at a reference. -/
abbrev V (c : Dev nD) (b : Ref sig .tc) : Buf (Elt F) ((c : Thread nD τ).loc b) := V0 m c (Proc.devRef .tc b)

/-- The host lines before the region allocate nothing, -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

/-- nor do those after it. -/
theorem hostOps1_fresh : (hostOps1 : List (HloOp τ sig (Elt F))).Forall fun op => op.fresh = ∅ := rfl

set_option maxHeartbeats 4000000 in
/-- The program is the host lines, the region, and the host lines after it. -/
theorem hmain (𝒱₀ : Variants) : Pipeline.HMainK (Ix := Unit) (Name := ℕ) (U := UR sig nD τ) (Lvl := ℕ) cfgs 0 defs₀ 𝒱₀ m (main (F := F)) (V m)
    (fun _ => Pipeline.chain ([hostOps1].map StableHlo.seq)) :=
  Pipeline.hmain_around cfgs 0 defs₀ 𝒱₀ m main [hostOps0] [hostOps1] (by simp only [List.Forall]; exact hostOps0_sub (F := F))
    (by simp only [List.Forall]; exact hostOps0_fresh (F := F)) main_chain

/-- The lines after the region touch the arrays and the buffers that bypass the region only; -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 (launch0 (F := F)).win.arr_unscoped]
  intro ops hops op hop
  simp only [List.mem_cons, List.mem_nil_iff, or_false] at hops
  subst hops
  exact Pipeline.sub_ucRefs op ((List.forall_iff_forall_mem.mp hostOps1_sub) op hop)

/-- they allocate nothing; -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- they write no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w
  fin_cases w <;> simp only [StableHlo.unary_writes, Finset.mem_singleton] <;> exact StableHlo.devRef_ne_of_ne (by decide)

/-! ### The proof data -/

/-- What window 0 stages. -/
def stg0 (c : Dev nD) : Vec F S256x128 .f32 := (((cfg0 (F := F)).win (0 : Fin 6)).blk t0_0).view.read (Elt F) (V m c main_v2)

/-- What window 1 stages. -/
def stg1 (c : Dev nD) : Vec F S256x128 .f32 := (((cfg0 (F := F)).win (1 : Fin 6)).blk t0_0).view.read (Elt F) (V m c main_v7)

/-- What window 2 stages. -/
def stg2 (c : Dev nD) : Vec F S256x128 .f32 := (((cfg0 (F := F)).win (2 : Fin 6)).blk t0_0).view.read (Elt F) (V m c main_v12)

/-- What window 3 stages. -/
def stg3 (c : Dev nD) : Vec F S256x128 .f32 := (((cfg0 (F := F)).win (3 : Fin 6)).blk t0_0).view.read (Elt F) (V m c main_v17)

/-- What window 4 stages. -/
def stg4 (c : Dev nD) : Vec F S256x128 .f32 := (((cfg0 (F := F)).win (4 : Fin 6)).blk t0_0).view.read (Elt F) (V m c main_v22)

/-- The rows the body leaves. -/
def outStg (c : Dev nD) : Vec F S1000x128 .f32 := resultOf (stg0 m c) (stg1 m c) (stg2 m c) (stg3 m c) (stg4 m c)

/-- The arrays at the region's entry, what the body leaves staged, the scratch at any contents between. -/
def dats (_ : Fin 1) (c : Dev nD) : Dat τ (Elt F) Unit ℕ (UR sig nD τ) ℕ (cfg0 (F := F)) c where
  A w := V m c (Pipeline.arrRef spec0 w)
  after w _ := match w with
    | ⟨0, _⟩ => stg0 m c
    | ⟨1, _⟩ => stg1 m c
    | ⟨2, _⟩ => stg2 m c
    | ⟨3, _⟩ => stg3 m c
    | ⟨4, _⟩ => stg4 m c
    | ⟨5, _⟩ => outStg m c
  Φ _ := Pipeline.ΦA spec0 c
  q _ := fullShare
  owed _ := 0

theorem A_eq (c : Dev nD) (w : Fin (cfg0 (F := F)).W) : (dats m 0 c).A w = V0 m c (Proc.devRef .tc (Pipeline.arrRef spec0 w)) := rfl

/-- Owning a whole buffer at contents `X` is its points-to at some contents equal to `X`. -/
theorem owns_whole_eq (c : Dev nD) (b : Ref sig .tc) (X : b.ty.Contents (Elt F)) :
    (owns (Ix := Unit) (Name := ℕ) (U := UR sig nD τ) (Lvl := ℕ) (c : Thread nD τ) (Memref.whole b) fullShare X : sProp 𝕄)
      = stg c b X := by
  unfold owns; simp only [Memref.view_whole, View.read_whole, View.set_whole]

/-- The invariant is the scratch and the generator register. -/
theorem phi_eq (c : Dev nD) (t : Fin ((cfg0 (F := F)).N + 1)) :
    (dats m 0 c).Φ t = iprop(anyScratch c ∗ ∃ r, prngReg c r) := by
  show Pipeline.ΦA spec0 c = _
  unfold Pipeline.ΦA
  rw [scopedRest0_eq]
  rfl

/-- What the body starts with at the one point: -/
def bodyPre (c : Dev nD) : sProp 𝕄 :=
  iprop((dats m 0 c).Φ (t0_0).castSucc ∗ (dats m 0 c).owesAt () (t0_0).castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))

/-- and what it ends with. -/
def bodyPost (c : Dev nD) : sProp 𝕄 :=
  iprop((dats m 0 c).Φ (t0_0).succ ∗ (dats m 0 c).owesAt () (t0_0).succ
    ∗ stg c cc0_stg0_0 (stg0 m c) ∗ stg c cc0_stg1_0 (stg1 m c) ∗ stg c cc0_stg2_0 (stg2 m c)
    ∗ stg c cc0_stg3_0 (stg3 m c) ∗ stg c cc0_stg4_0 (stg4 m c) ∗ stg c cc0_stg5_0 (outStg m c))

theorem sound_body (c : Dev nD) (K : PUnit → sProp 𝕄) :
    iprop(bodyPre m c ∗ (bodyPost m c -∗ K ⟨⟩))
      ⊢ wp frame (wpE (defs₀ (F := F)) 𝒱₀ (c : Thread nD τ) none) Set.univ
          (cc0__nms_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _)) K := by
  unfold bodyPre
  rw [phi_eq]
  iintro ⟨⟨⟨HΦ, Hr⟩, Howes, ⟨%d0, %f0, %h0, S0⟩, ⟨%d1, %f1, %h1, S1⟩, ⟨%d2, %f2, %h2, S2⟩, ⟨%d3, %f3, %h3, S3⟩, ⟨%d4, %f4, %h4, S4⟩, ⟨%d5, %f5, %h5, S5⟩⟩, Hk⟩
  have e0 : f0 = stg0 m c := by rw [h0]; unfold Dat.before; exact (if_pos (fetch0_0 (F := F) t0_0)).trans rfl
  have e1 : f1 = stg1 m c := by rw [h1]; unfold Dat.before; exact (if_pos (fetch0_1 (F := F) t0_0)).trans rfl
  have e2 : f2 = stg2 m c := by rw [h2]; unfold Dat.before; exact (if_pos (fetch0_2 (F := F) t0_0)).trans rfl
  have e3 : f3 = stg3 m c := by rw [h3]; unfold Dat.before; exact (if_pos (fetch0_3 (F := F) t0_0)).trans rfl
  have e4 : f4 = stg4 m c := by rw [h4]; unfold Dat.before; exact (if_pos (fetch0_4 (F := F) t0_0)).trans rfl
  subst e0 e1 e2 e3 e4
  iapply (run_body c (stg0 m c) (stg1 m c) (stg2 m c) (stg3 m c) (stg4 m c) f5 K)
  unfold heldBody
  isplitl [S0 S1 S2 S3 S4 S5 HΦ]
  · isplitl [S0]; · iexact S0
    isplitl [S1]; · iexact S1
    isplitl [S2]; · iexact S2
    isplitl [S3]; · iexact S3
    isplitl [S4]; · iexact S4
    isplitl [S5]; · iexact S5
    iexact HΦ
  iintro ⟨S0, S1, S2, S3, S4, S5, HΦ⟩
  iapply Hk
  unfold bodyPost
  rw [phi_eq, show (dats m 0 c).owesAt () (t0_0).succ = (dats m 0 c).owesAt () (t0_0).castSucc from rfl]
  isplitl [HΦ Hr]
  · isplitl [HΦ]; · iexact HΦ
    iexact Hr
  isplitl [Howes]; · iexact Howes
  isplitl [S0]
  · iexists _; isplitr; · (ipureintro; rfl)
    iexact S0
  isplitl [S1]
  · iexists _; isplitr; · (ipureintro; rfl)
    iexact S1
  isplitl [S2]
  · iexists _; isplitr; · (ipureintro; rfl)
    iexact S2
  isplitl [S3]
  · iexists _; isplitr; · (ipureintro; rfl)
    iexact S3
  isplitl [S4]
  · iexists _; isplitr; · (ipureintro; rfl)
    iexact S4
  iexists _; isplitr; · (ipureintro; rfl)
  iexact S5

theorem after_0 (c : Dev nD) (t : Fin (cfg0 (F := F)).N) : (dats m 0 c).after 0 t = stg0 m c := by
  dsimp only [dats]; rfl

theorem after_1 (c : Dev nD) (t : Fin (cfg0 (F := F)).N) : (dats m 0 c).after 1 t = stg1 m c := by
  dsimp only [dats]; rfl

theorem after_2 (c : Dev nD) (t : Fin (cfg0 (F := F)).N) : (dats m 0 c).after 2 t = stg2 m c := by
  dsimp only [dats]; rfl

theorem after_3 (c : Dev nD) (t : Fin (cfg0 (F := F)).N) : (dats m 0 c).after 3 t = stg3 m c := by
  dsimp only [dats]; rfl

theorem after_4 (c : Dev nD) (t : Fin (cfg0 (F := F)).N) : (dats m 0 c).after 4 t = stg4 m c := by
  dsimp only [dats]; rfl

theorem after_5 (c : Dev nD) (t : Fin (cfg0 (F := F)).N) : (dats m 0 c).after 5 t = outStg m c := by
  dsimp only [dats]; rfl

theorem body_obligation (c : Dev nD) :
    BodyObligation (dats (F := F) m 0 c) (defs₀ (F := F)) 𝒱₀ () Set.univ := fun t => by
  rw [fin_N0 t]
  rw [show ∀ Φ : Fin (cfg0 (F := F)).W → sProp 𝕄, bigSep Finset.univ Φ = _ from bigSep_W0,
    show ∀ Φ : Fin (cfg0 (F := F)).W → sProp 𝕄, bigSep Finset.univ Φ = _ from bigSep_W0]
  sl_whnfR [defs₀, Defs.onTc]
  simp only [owns_whole_eq]
  simp only [show stage0_0 0 = Memref.whole cc0_stg0_0 from rfl, show stage0_1 0 = Memref.whole cc0_stg1_0 from rfl,
    show stage0_2 0 = Memref.whole cc0_stg2_0 from rfl, show stage0_3 0 = Memref.whole cc0_stg3_0 from rfl,
    show stage0_4 0 = Memref.whole cc0_stg4_0 from rfl, show stage0_5 0 = Memref.whole cc0_stg5_0 from rfl]
  rw [after_0, after_1, after_2, after_3, after_4, after_5]
  iintro H
  iapply (sound_body m c fun _ => bodyPost m c)
  unfold bodyPre
  isplitl [H]; · iexact H
  iintro H; iexact H

/-! ### The run -/

theorem share_eq (c : Dev nD) (w : Fin (cfg0 (F := F)).W) : (dats m 0 c).share w = fullShare := by
  unfold Dat.share; split <;> rfl

/-- Every run ends, with the arrays as the region leaves them, the other buffers as the host lines leave them, and every
    counter at zero. -/
theorem run_main : θ_run (defs (F := F)) (onTc (τ := τ) (main (F := F))) ⟨m, fun _ => 0, ρ⟩
    (fun r => Pipeline.FramePost cfgs (dats m) 0 (Pipeline.afterTail₀ cfgs (dats m) 0 (V0 m) [hostOps1]) r ∧ r.2.sem = fun _ => 0) :=
  Pipeline.θ_run_frame_around cfgs (dats m) (0 : Fin 1) launch0 defs₀ 𝒱₀ m ρ main
    (hbody := fun c => (body_obligation m c).loose) (hshare := share_eq m)
    (howed := fun _ _ => rfl) (V₀ := V0 m) (opss := [hostOps1]) (hsub := sfx_sub) (hfresh := sfx_fresh) (hkeep := sfx_keeps)
    (hmain := hmain m 𝒱₀) (hA := A_eq m) (hΦ := fun _ _ => rfl)
    (Q' := fun r => Pipeline.FramePost cfgs (dats m) 0 (Pipeline.afterTail₀ cfgs (dats m) 0 (V0 m) [hostOps1]) r ∧ r.2.sem = fun _ => 0)
    (hQ' := fun _ h => h)

end Cert.Proof.KI
-- ==== Proof.KI.Result.lean ====
/-
  What a run of the kernel's program leaves: the arguments as they were, every counter at zero, and the result array as the model's
  output buffer cut to its thousand rows of five.
-/
module

public import proofs.«01_k».proof.Proof.KI.Run

@[expose] public section

noncomputable section

namespace Cert.Proof.KI

open Cert.KernelIdeal Cert.KernelIdeal.Gen

open Idealize.ShloMosaic
open Idealize.ShloMosaic.TcCoe Idealize.ShloMosaic.Tactic
open Idealize.SL.Sem

variable {F : FTy → Type} [FloatOps F]

variable (m : (ℓ : Loc nD τ sig) → Buf (Elt F) ℓ) (ρ : Dev nD → PrngReg)

/-- The host lines before the region leave the arguments, -/
theorem V_arg0 (c : Dev nD) : V m c main_arg0 = m ((c.tc : Thread nD τ).loc main_arg0) := by
  show StableHlo.after (List.flatten [hostOps0]) _ _ = _
  simp only [hostOps0, List.flatten_cons, List.flatten_nil, List.append_nil, List.cons_append, List.nil_append]
  after_results

theorem V_arg1 (c : Dev nD) : V m c main_arg1 = m ((c.tc : Thread nD τ).loc main_arg1) := by
  show StableHlo.after (List.flatten [hostOps0]) _ _ = _
  simp only [hostOps0, List.flatten_cons, List.flatten_nil, List.append_nil, List.cons_append, List.nil_append]
  after_results

/-- The region's output array when the region ends. -/
theorem out_arr (c : Dev nD) : (dats m 0 c).arrAt 5 (cfg0 (F := F)).N = outStg m c := by
  have hw : (win0 5).WholeAt t0_0 := by decide +kernel
  refine (dats m 0 c).arrAt_eq_of_after_last 5 t0_0 hw _ fun j => ?_
  rw [after_5]
  blk_simp
  rfl

/-- The region and the line after it leave the arguments too, -/
theorem tail_arg0 (c : Dev nD) :
    Pipeline.afterTail₀ cfgs (dats m) 0 (V0 m) [hostOps1] c main_arg0 = m ((c.tc : Thread nD τ).loc main_arg0) := by
  unfold Pipeline.afterTail₀
  simp only [hostOps1, List.flatten_cons, List.flatten_nil, List.append_nil, List.cons_append, List.nil_append]
  after_results
  rw [Pipeline.withArrays_of_ne _ c (V0 m c) _ main_arg0 (by exact (by decide : ∀ w, Pipeline.arrRef spec0 w ≠ main_arg0))]
  exact V_arg0 m c

theorem tail_arg1 (c : Dev nD) :
    Pipeline.afterTail₀ cfgs (dats m) 0 (V0 m) [hostOps1] c main_arg1 = m ((c.tc : Thread nD τ).loc main_arg1) := by
  unfold Pipeline.afterTail₀
  simp only [hostOps1, List.flatten_cons, List.flatten_nil, List.append_nil, List.cons_append, List.nil_append]
  after_results
  rw [Pipeline.withArrays_of_ne _ c (V0 m c) _ main_arg1 (by exact (by decide : ∀ w, Pipeline.arrRef spec0 w ≠ main_arg1))]
  exact V_arg1 m c

/-- and the line after it cuts the output array. -/
theorem tail_v24 (c : Dev nD) :
    Pipeline.afterTail₀ cfgs (dats m) 0 (V0 m) [hostOps1] c main_v24
      = extractStridedSlice S1000x5 ![0, 0] (outStg m c) slices_S1000x128_S1000x5_0_0 := by
  unfold Pipeline.afterTail₀
  simp only [hostOps1, List.flatten_cons, List.flatten_nil, List.append_nil, List.cons_append, List.nil_append]
  after_results
  exact congrArg (fun z => extractStridedSlice S1000x5 ![0, 0] z slices_S1000x128_S1000x5_0_0)
    ((Pipeline.withArrays_arr spec0 (by decide) c (V0 m c) (fun w => (dats m 0 c).arrAt w (cfgs 0).N) 5).trans (out_arr m c))

theorem rest_main_v24 : main_v24 ∈ Pipeline.restRefs sig spec0 := Pipeline.mem_restRefs_of main_v24 (by decide) (by decide)

theorem rest_main_arg0 : main_arg0 ∈ Pipeline.restRefs sig spec0 := Pipeline.mem_restRefs_of main_arg0 (by decide) (by decide)

theorem rest_main_arg1 : main_arg1 ∈ Pipeline.restRefs sig spec0 := Pipeline.mem_restRefs_of main_arg1 (by decide) (by decide)

/-- Every run ends with the result array the cut output buffer, the arguments as they were, and every counter at zero. -/
theorem run_all : θ_run (defs (F := F)) (onTc (τ := τ) (main (F := F))) ⟨m, fun _ => 0, ρ⟩ fun r => (∀ c : Dev nD,
      r.2.mem ((c.tc : Thread nD τ).loc main_v24) = extractStridedSlice S1000x5 ![0, 0] (outStg m c) slices_S1000x128_S1000x5_0_0
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun _ h => ⟨fun c =>
    ⟨((h.1 c).2 main_v24 (rest_main_v24)).trans (tail_v24 m c),
     ((h.1 c).2 main_arg0 (rest_main_arg0)).trans (tail_arg0 m c),
     ((h.1 c).2 main_arg1 (rest_main_arg1)).trans (tail_arg1 m c)⟩, h.2⟩) (run_main m ρ)

end Cert.Proof.KI
-- ==== Proof.RefRun.lean ====
/-
  The reference's run over the step of Gen/ReferenceIdeal/Step.lean: a valuation that holds a state keeps holding with one more step,
  and the result is the field of the 1000th state.
-/
module

public import proofs.«01_k».proof.Proof.Gen.ReferenceIdeal.Run
public import proofs.«01_k».proof.Proof.Gen.ReferenceIdeal.Step

@[expose] public section

noncomputable section

namespace Cert.Proof.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_3 : V0 (Proc.devRef .tc main_v9_3) = s.main_v9_3
  f_4 : V0 (Proc.devRef .tc main_v9_4) = s.main_v9_4
  f_0 : V0 (Proc.devRef .tc main_v9_0) = s.main_v9_0
  f_1 : V0 (Proc.devRef .tc main_v9_1) = s.main_v9_1
  n_2 : V0 (Proc.devRef .tc main_v9_2) = constantI S_ 32 (BitVec.ofNat 32 j)

variable {V0 s j}

set_option maxRecDepth 8192 in
theorem al_0 (h : Holds V0 s j) : (constant S_ .f32 0xFF800000#32 : (Proc.devRef .tc main_while0b_cst_7 : DevRef τ sig).ty.Contents (Elt F)) = Cert.ReferenceIdeal.Step.b0 j s := by
  unfold Cert.ReferenceIdeal.Step.b0
  rfl
set_option maxRecDepth 8192 in
theorem al_1 (h : Holds V0 s j) : (id (constant S_ .f32 0xFF800000#32) : (Proc.devRef .tc main_while0b_call0_v0 : DevRef τ sig).ty.Contents (Elt F)) = Cert.ReferenceIdeal.Step.b1 j s := by
  unfold Cert.ReferenceIdeal.Step.b1
  rw [← al_0 h]
  try rfl
set_option maxRecDepth 8192 in
theorem al_2 (h : Holds V0 s j) : (broadcastInDim S6000 ![] bcast_S_S6000 (id (constant S_ .f32 0xFF800000#32)) : (Proc.devRef .tc main_while0b_call0_v1 : DevRef τ sig).ty.Contents (Elt F)) = Cert.ReferenceIdeal.Step.b2 j s := by
  unfold Cert.ReferenceIdeal.Step.b2
  rw [← al_1 h]
  try rfl
set_option maxRecDepth 8192 in
theorem al_3 (h : Holds V0 s j) : (res_main_while0b_v10 V0 : (Proc.devRef .tc main_while0b_v10 : DevRef τ sig).ty.Contents (Elt F)) = Cert.ReferenceIdeal.Step.b3 j s := by
  unfold res_main_while0b_v10 Cert.ReferenceIdeal.Step.b3
  rw [← al_2 h, h.f_3, h.f_0]
  try rfl
set_option maxRecDepth 8192 in
theorem al_4 (h : Holds V0 s j) : (constant S_ .f32 0xFF800000#32 : (Proc.devRef .tc main_while0b_cst_8 : DevRef τ sig).ty.Contents (Elt F)) = Cert.ReferenceIdeal.Step.b4 j s := by
  unfold Cert.ReferenceIdeal.Step.b4
  rfl
set_option maxRecDepth 8192 in
theorem al_5 (h : Holds V0 s j) : (Host.reduce FloatOps.maximumf (res_main_while0b_v10 V0) (constant S_ .f32 0xFF800000#32) reducesTo_S6000_S_d0 h_S_ : (Proc.devRef .tc main_while0b_v11 : DevRef τ sig).ty.Contents (Elt F)) = Cert.ReferenceIdeal.Step.b5 j s := by
  unfold Cert.ReferenceIdeal.Step.b5
  rw [← al_3 h, ← al_4 h]
  try rfl
set_option maxRecDepth 8192 in
theorem al_6 (h : Holds V0 s j) : (broadcastInDim S6000 ![] bcast_S_S6000 (Host.reduce FloatOps.maximumf (res_main_while0b_v10 V0) (constant S_ .f32 0xFF800000#32) reducesTo_S6000_S_d0 h_S_) : (Proc.devRef .tc main_while0b_v12 : DevRef τ sig).ty.Contents (Elt F)) = Cert.ReferenceIdeal.Step.b6 j s := by
  unfold Cert.ReferenceIdeal.Step.b6
  rw [← al_5 h]
  try rfl
set_option maxRecDepth 8192 in
theorem al_7 (h : Holds V0 s j) : (cmpf .oeq (res_main_while0b_v10 V0) (broadcastInDim S6000 ![] bcast_S_S6000 (Host.reduce FloatOps.maximumf (res_main_while0b_v10 V0) (constant S_ .f32 0xFF800000#32) reducesTo_S6000_S_d0 h_S_)) : (Proc.devRef .tc main_while0b_v13 : DevRef τ sig).ty.Contents (Elt F)) = Cert.ReferenceIdeal.Step.b7 j s := by
  unfold Cert.ReferenceIdeal.Step.b7
  rw [← al_3 h, ← al_6 h]
  try rfl
set_option maxRecDepth 8192 in
theorem al_8 (h : Holds V0 s j) : (iotaInDim S6000 32 0 : (Proc.devRef .tc main_while0b_v14 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 5999#32 : (Proc.devRef .tc main_while0b_c_9 : DevRef τ sig).ty.Contents (Elt F)) = Cert.ReferenceIdeal.Step.b9 j s := by
  unfold Cert.ReferenceIdeal.Step.b9
  rfl
set_option maxRecDepth 8192 in
theorem al_10 (h : Holds V0 s j) : (id (constantI S_ 32 5999#32) : (Proc.devRef .tc main_while0b_call1_v0 : DevRef τ sig).ty.Contents (Elt F)) = Cert.ReferenceIdeal.Step.b10 j s := by
  unfold Cert.ReferenceIdeal.Step.b10
  rw [← al_9 h]
  try rfl
set_option maxRecDepth 8192 in
theorem al_11 (h : Holds V0 s j) : (broadcastInDim S6000 ![] bcast_S_S6000 (id (constantI S_ 32 5999#32)) : (Proc.devRef .tc main_while0b_call1_v1 : DevRef τ sig).ty.Contents (Elt F)) = Cert.ReferenceIdeal.Step.b11 j s := by
  unfold Cert.ReferenceIdeal.Step.b11
  rw [← al_10 h]
  try rfl
set_option maxRecDepth 8192 in
theorem al_12 (h : Holds V0 s j) : (select (cmpf .oeq (res_main_while0b_v10 V0) (broadcastInDim S6000 ![] bcast_S_S6000 (Host.reduce FloatOps.maximumf (res_main_while0b_v10 V0) (constant S_ .f32 0xFF800000#32) reducesTo_S6000_S_d0 h_S_))) (iotaInDim S6000 32 0) (broadcastInDim S6000 ![] bcast_S_S6000 (id (constantI S_ 32 5999#32))) : (Proc.devRef .tc main_while0b_v15 : DevRef τ sig).ty.Contents (Elt F)) = Cert.ReferenceIdeal.Step.b12 j s := by
  unfold Cert.ReferenceIdeal.Step.b12
  rw [← al_7 h, ← al_8 h, ← al_11 h]
  try rfl
set_option maxRecDepth 8192 in
theorem al_13 (h : Holds V0 s j) : (constantI S_ 32 2147483647#32 : (Proc.devRef .tc main_while0b_c_10 : DevRef τ sig).ty.Contents (Elt F)) = Cert.ReferenceIdeal.Step.b13 j s := by
  unfold Cert.ReferenceIdeal.Step.b13
  rfl
set_option maxRecDepth 8192 in
theorem al_14 (h : Holds V0 s j) : (res_main_while0b_v16 V0 : (Proc.devRef .tc main_while0b_v16 : DevRef τ sig).ty.Contents (Elt F)) = Cert.ReferenceIdeal.Step.b14 j s := by
  unfold res_main_while0b_v16 Cert.ReferenceIdeal.Step.b14
  rw [← al_12 h, ← al_13 h]
  try rfl
set_option maxRecDepth 8192 in
theorem al_15 (h : Holds V0 s j) : (constantI S_ 32 0#32 : (Proc.devRef .tc main_while0b_c_11 : DevRef τ sig).ty.Contents (Elt F)) = Cert.ReferenceIdeal.Step.b15 j s := by
  unfold Cert.ReferenceIdeal.Step.b15
  rfl
set_option maxRecDepth 8192 in
theorem al_16 (h : Holds V0 s j) : (cmpi .slt (res_main_while0b_v16 V0) (constantI S_ 32 0#32) : (Proc.devRef .tc main_while0b_v17 : DevRef τ sig).ty.Contents (Elt F)) = Cert.ReferenceIdeal.Step.b16 j s := by
  unfold Cert.ReferenceIdeal.Step.b16
  rw [← al_14 h, ← al_15 h]
  try rfl
set_option maxRecDepth 8192 in
theorem al_17 (h : Holds V0 s j) : (constantI S_ 32 6000#32 : (Proc.devRef .tc main_while0b_c_12 : DevRef τ sig).ty.Contents (Elt F)) = Cert.ReferenceIdeal.Step.b17 j s := by
  unfold Cert.ReferenceIdeal.Step.b17
  rfl
set_option maxRecDepth 8192 in
theorem al_18 (h : Holds V0 s j) : (addi (res_main_while0b_v16 V0) (constantI S_ 32 6000#32) : (Proc.devRef .tc main_while0b_v18 : DevRef τ sig).ty.Contents (Elt F)) = Cert.ReferenceIdeal.Step.b18 j s := by
  unfold Cert.ReferenceIdeal.Step.b18
  rw [← al_14 h, ← al_17 h]
  try rfl
set_option maxRecDepth 8192 in
theorem al_19 (h : Holds V0 s j) : (select (cmpi .slt (res_main_while0b_v16 V0) (constantI S_ 32 0#32)) (addi (res_main_while0b_v16 V0) (constantI S_ 32 6000#32)) (res_main_while0b_v16 V0) : (Proc.devRef .tc main_while0b_v19 : DevRef τ sig).ty.Contents (Elt F)) = Cert.ReferenceIdeal.Step.b19 j s := by
  unfold Cert.ReferenceIdeal.Step.b19
  rw [← al_16 h, ← al_18 h, ← al_14 h]
  try rfl
set_option maxRecDepth 8192 in
theorem al_20 (h : Holds V0 s j) : (Host.dynamicSlice S1 (res_main_while0b_v10 V0) (fun k => (((![select (cmpi .slt (res_main_while0b_v16 V0) (constantI S_ 32 0#32)) (addi (res_main_while0b_v16 V0) (constantI S_ 32 6000#32)) (res_main_while0b_v16 V0)] : Fin 1 → (⟨S_, .i32⟩ : BufTy).Contents (Elt F))) k (Shape.Idx.first h_S_)).toInt) sliceFits_S6000_S1 : (Proc.devRef .tc main_while0b_v20 : DevRef τ sig).ty.Contents (Elt F)) = Cert.ReferenceIdeal.Step.b20 j s := by
  unfold Cert.ReferenceIdeal.Step.b20
  rw [← al_3 h, ← al_19 h]
  try rfl
set_option maxRecDepth 8192 in
theorem al_21 (h : Holds V0 s j) : (shapeCast S_ (Host.dynamicSlice S1 (res_main_while0b_v10 V0) (fun k => (((![select (cmpi .slt (res_main_while0b_v16 V0) (constantI S_ 32 0#32)) (addi (res_main_while0b_v16 V0) (constantI S_ 32 6000#32)) (res_main_while0b_v16 V0)] : Fin 1 → (⟨S_, .i32⟩ : BufTy).Contents (Elt F))) k (Shape.Idx.first h_S_)).toInt) sliceFits_S6000_S1) shapeCasts_S1_S_ : (Proc.devRef .tc main_while0b_v21 : DevRef τ sig).ty.Contents (Elt F)) = Cert.ReferenceIdeal.Step.b21 j s := by
  unfold Cert.ReferenceIdeal.Step.b21
  rw [← al_20 h]
  try rfl
set_option maxRecDepth 8192 in
theorem al_22 (h : Holds V0 s j) : (constant S_ .f32 0xFF800000#32 : (Proc.devRef .tc main_while0b_cst_13 : DevRef τ sig).ty.Contents (Elt F)) = Cert.ReferenceIdeal.Step.b22 j s := by
  unfold Cert.ReferenceIdeal.Step.b22
  rfl
set_option maxRecDepth 8192 in
theorem al_23 (h : Holds V0 s j) : (cmpf .ogt (shapeCast S_ (Host.dynamicSlice S1 (res_main_while0b_v10 V0) (fun k => (((![select (cmpi .slt (res_main_while0b_v16 V0) (constantI S_ 32 0#32)) (addi (res_main_while0b_v16 V0) (constantI S_ 32 6000#32)) (res_main_while0b_v16 V0)] : Fin 1 → (⟨S_, .i32⟩ : BufTy).Contents (Elt F))) k (Shape.Idx.first h_S_)).toInt) sliceFits_S6000_S1) shapeCasts_S1_S_) (constant S_ .f32 0xFF800000#32) : (Proc.devRef .tc main_while0b_v22 : DevRef τ sig).ty.Contents (Elt F)) = Cert.ReferenceIdeal.Step.b23 j s := by
  unfold Cert.ReferenceIdeal.Step.b23
  rw [← al_21 h, ← al_22 h]
  try rfl
set_option maxRecDepth 8192 in
theorem al_24 (h : Holds V0 s j) : (constantI S_ 32 0#32 : (Proc.devRef .tc main_while0b_c_14 : DevRef τ sig).ty.Contents (Elt F)) = Cert.ReferenceIdeal.Step.b24 j s := by
  unfold Cert.ReferenceIdeal.Step.b24
  rfl
set_option maxRecDepth 8192 in
theorem al_25 (h : Holds V0 s j) : (cmpi .slt (res_main_while0b_v16 V0) (constantI S_ 32 0#32) : (Proc.devRef .tc main_while0b_v23 : DevRef τ sig).ty.Contents (Elt F)) = Cert.ReferenceIdeal.Step.b25 j s := by
  unfold Cert.ReferenceIdeal.Step.b25
  rw [← al_14 h, ← al_24 h]
  try rfl
set_option maxRecDepth 8192 in
theorem al_26 (h : Holds V0 s j) : (constantI S_ 32 6000#32 : (Proc.devRef .tc main_while0b_c_15 : DevRef τ sig).ty.Contents (Elt F)) = Cert.ReferenceIdeal.Step.b26 j s := by
  unfold Cert.ReferenceIdeal.Step.b26
  rfl
set_option maxRecDepth 8192 in
theorem al_27 (h : Holds V0 s j) : (addi (res_main_while0b_v16 V0) (constantI S_ 32 6000#32) : (Proc.devRef .tc main_while0b_v24 : DevRef τ sig).ty.Contents (Elt F)) = Cert.ReferenceIdeal.Step.b27 j s := by
  unfold Cert.ReferenceIdeal.Step.b27
  rw [← al_14 h, ← al_26 h]
  try rfl
set_option maxRecDepth 8192 in
theorem al_28 (h : Holds V0 s j) : (select (cmpi .slt (res_main_while0b_v16 V0) (constantI S_ 32 0#32)) (addi (res_main_while0b_v16 V0) (constantI S_ 32 6000#32)) (res_main_while0b_v16 V0) : (Proc.devRef .tc main_while0b_v25 : DevRef τ sig).ty.Contents (Elt F)) = Cert.ReferenceIdeal.Step.b28 j s := by
  unfold Cert.ReferenceIdeal.Step.b28
  rw [← al_25 h, ← al_27 h, ← al_14 h]
  try rfl
set_option maxRecDepth 8192 in
theorem al_29 (h : Holds V0 s j) : (constantI S_ 32 0#32 : (Proc.devRef .tc main_while0b_c_16 : DevRef τ sig).ty.Contents (Elt F)) = Cert.ReferenceIdeal.Step.b29 j s := by
  unfold Cert.ReferenceIdeal.Step.b29
  rfl
set_option maxRecDepth 8192 in
theorem al_30 (h : Holds V0 s j) : (constantI S_ 32 0#32 : (Proc.devRef .tc main_while0b_c_17 : DevRef τ sig).ty.Contents (Elt F)) = Cert.ReferenceIdeal.Step.b30 j s := by
  unfold Cert.ReferenceIdeal.Step.b30
  rfl
set_option maxRecDepth 8192 in
theorem al_31 (h : Holds V0 s j) : (cmpi .slt (constantI S_ 32 0#32) (constantI S_ 32 0#32) : (Proc.devRef .tc main_while0b_v26 : DevRef τ sig).ty.Contents (Elt F)) = Cert.ReferenceIdeal.Step.b31 j s := by
  unfold Cert.ReferenceIdeal.Step.b31
  rw [← al_29 h, ← al_30 h]
  try rfl
set_option maxRecDepth 8192 in
theorem al_32 (h : Holds V0 s j) : (constantI S_ 32 0#32 : (Proc.devRef .tc main_while0b_c_18 : DevRef τ sig).ty.Contents (Elt F)) = Cert.ReferenceIdeal.Step.b32 j s := by
  unfold Cert.ReferenceIdeal.Step.b32
  rfl
set_option maxRecDepth 8192 in
theorem al_33 (h : Holds V0 s j) : (constantI S_ 32 4#32 : (Proc.devRef .tc main_while0b_c_19 : DevRef τ sig).ty.Contents (Elt F)) = Cert.ReferenceIdeal.Step.b33 j s := by
  unfold Cert.ReferenceIdeal.Step.b33
  rfl
set_option maxRecDepth 8192 in
theorem al_34 (h : Holds V0 s j) : (addi (constantI S_ 32 0#32) (constantI S_ 32 4#32) : (Proc.devRef .tc main_while0b_v27 : DevRef τ sig).ty.Contents (Elt F)) = Cert.ReferenceIdeal.Step.b34 j s := by
  unfold Cert.ReferenceIdeal.Step.b34
  rw [← al_32 h, ← al_33 h]
  try rfl
set_option maxRecDepth 8192 in
theorem al_35 (h : Holds V0 s j) : (constantI S_ 32 0#32 : (Proc.devRef .tc main_while0b_c_20 : DevRef τ sig).ty.Contents (Elt F)) = Cert.ReferenceIdeal.Step.b35 j s := by
  unfold Cert.ReferenceIdeal.Step.b35
  rfl
set_option maxRecDepth 8192 in
theorem al_36 (h : Holds V0 s j) : (select (cmpi .slt (constantI S_ 32 0#32) (constantI S_ 32 0#32)) (addi (constantI S_ 32 0#32) (constantI S_ 32 4#32)) (constantI S_ 32 0#32) : (Proc.devRef .tc main_while0b_v28 : DevRef τ sig).ty.Contents (Elt F)) = Cert.ReferenceIdeal.Step.b36 j s := by
  unfold Cert.ReferenceIdeal.Step.b36
  rw [← al_31 h, ← al_34 h, ← al_35 h]
  try rfl
set_option maxRecDepth 8192 in
theorem al_37 (h : Holds V0 s j) : (Host.dynamicSlice S1x4 (V0 (Proc.devRef .tc main_v9_1)) (fun k => (((![select (cmpi .slt (res_main_while0b_v16 V0) (constantI S_ 32 0#32)) (addi (res_main_while0b_v16 V0) (constantI S_ 32 6000#32)) (res_main_while0b_v16 V0), select (cmpi .slt (constantI S_ 32 0#32) (constantI S_ 32 0#32)) (addi (constantI S_ 32 0#32) (constantI S_ 32 4#32)) (constantI S_ 32 0#32)] : Fin 2 → (⟨S_, .i32⟩ : BufTy).Contents (Elt F))) k (Shape.Idx.first h_S_)).toInt) sliceFits_S6000x4_S1x4 : (Proc.devRef .tc main_while0b_v29 : DevRef τ sig).ty.Contents (Elt F)) = Cert.ReferenceIdeal.Step.b37 j s := by
  unfold Cert.ReferenceIdeal.Step.b37
  rw [← al_28 h, ← al_36 h, h.f_1]
  try rfl
set_option maxRecDepth 8192 in
theorem al_38 (h : Holds V0 s j) : (res_main_while0b_v30 V0 : (Proc.devRef .tc main_while0b_v30 : DevRef τ sig).ty.Contents (Elt F)) = Cert.ReferenceIdeal.Step.b38 j s := by
  unfold res_main_while0b_v30 Cert.ReferenceIdeal.Step.b38
  rw [← al_37 h]
  try rfl
set_option maxRecDepth 8192 in
theorem al_39 (h : Holds V0 s j) : (extractStridedSlice S1 ![0] (res_main_while0b_v30 V0) slices_S4_S1_0 : (Proc.devRef .tc main_while0b_v31 : DevRef τ sig).ty.Contents (Elt F)) = Cert.ReferenceIdeal.Step.b39 j s := by
  unfold Cert.ReferenceIdeal.Step.b39
  rw [← al_38 h]
  try rfl
set_option maxRecDepth 8192 in
theorem al_40 (h : Holds V0 s j) : (shapeCast S_ (extractStridedSlice S1 ![0] (res_main_while0b_v30 V0) slices_S4_S1_0) shapeCasts_S1_S_ : (Proc.devRef .tc main_while0b_v32 : DevRef τ sig).ty.Contents (Elt F)) = Cert.ReferenceIdeal.Step.b40 j s := by
  unfold Cert.ReferenceIdeal.Step.b40
  rw [← al_39 h]
  try rfl
set_option maxRecDepth 8192 in
theorem al_41 (h : Holds V0 s j) : (extractStridedSlice S6000x1 ![0, 0] (V0 (Proc.devRef .tc main_v9_1)) slices_S6000x4_S6000x1_0_0 : (Proc.devRef .tc main_while0b_v33 : DevRef τ sig).ty.Contents (Elt F)) = Cert.ReferenceIdeal.Step.b41 j s := by
  unfold Cert.ReferenceIdeal.Step.b41
  rw [h.f_1]
  try rfl
set_option maxRecDepth 8192 in
theorem al_42 (h : Holds V0 s j) : (shapeCast S6000 (extractStridedSlice S6000x1 ![0, 0] (V0 (Proc.devRef .tc main_v9_1)) slices_S6000x4_S6000x1_0_0) shapeCasts_S6000x1_S6000 : (Proc.devRef .tc main_while0b_v34 : DevRef τ sig).ty.Contents (Elt F)) = Cert.ReferenceIdeal.Step.b42 j s := by
  unfold Cert.ReferenceIdeal.Step.b42
  rw [← al_41 h]
  try rfl
set_option maxRecDepth 8192 in
theorem al_43 (h : Holds V0 s j) : (broadcastInDim S6000 ![] bcast_S_S6000 (shapeCast S_ (extractStridedSlice S1 ![0] (res_main_while0b_v30 V0) slices_S4_S1_0) shapeCasts_S1_S_) : (Proc.devRef .tc main_while0b_v35 : DevRef τ sig).ty.Contents (Elt F)) = Cert.ReferenceIdeal.Step.b43 j s := by
  unfold Cert.ReferenceIdeal.Step.b43
  rw [← al_40 h]
  try rfl
set_option maxRecDepth 8192 in
theorem al_44 (h : Holds V0 s j) : (maximumf (broadcastInDim S6000 ![] bcast_S_S6000 (shapeCast S_ (extractStridedSlice S1 ![0] (res_main_while0b_v30 V0) slices_S4_S1_0) shapeCasts_S1_S_)) (shapeCast S6000 (extractStridedSlice S6000x1 ![0, 0] (V0 (Proc.devRef .tc main_v9_1)) slices_S6000x4_S6000x1_0_0) shapeCasts_S6000x1_S6000) : (Proc.devRef .tc main_while0b_v36 : DevRef τ sig).ty.Contents (Elt F)) = Cert.ReferenceIdeal.Step.b44 j s := by
  unfold Cert.ReferenceIdeal.Step.b44
  rw [← al_43 h, ← al_42 h]
  try rfl
set_option maxRecDepth 8192 in
theorem al_45 (h : Holds V0 s j) : (extractStridedSlice S1 ![1] (res_main_while0b_v30 V0) slices_S4_S1_1 : (Proc.devRef .tc main_while0b_v37 : DevRef τ sig).ty.Contents (Elt F)) = Cert.ReferenceIdeal.Step.b45 j s := by
  unfold Cert.ReferenceIdeal.Step.b45
  rw [← al_38 h]
  try rfl
set_option maxRecDepth 8192 in
theorem al_46 (h : Holds V0 s j) : (shapeCast S_ (extractStridedSlice S1 ![1] (res_main_while0b_v30 V0) slices_S4_S1_1) shapeCasts_S1_S_ : (Proc.devRef .tc main_while0b_v38 : DevRef τ sig).ty.Contents (Elt F)) = Cert.ReferenceIdeal.Step.b46 j s := by
  unfold Cert.ReferenceIdeal.Step.b46
  rw [← al_45 h]
  try rfl
set_option maxRecDepth 8192 in
theorem al_47 (h : Holds V0 s j) : (extractStridedSlice S6000x1 ![0, 1] (V0 (Proc.devRef .tc main_v9_1)) slices_S6000x4_S6000x1_0_1 : (Proc.devRef .tc main_while0b_v39 : DevRef τ sig).ty.Contents (Elt F)) = Cert.ReferenceIdeal.Step.b47 j s := by
  unfold Cert.ReferenceIdeal.Step.b47
  rw [h.f_1]
  try rfl
set_option maxRecDepth 8192 in
theorem al_48 (h : Holds V0 s j) : (shapeCast S6000 (extractStridedSlice S6000x1 ![0, 1] (V0 (Proc.devRef .tc main_v9_1)) slices_S6000x4_S6000x1_0_1) shapeCasts_S6000x1_S6000 : (Proc.devRef .tc main_while0b_v40 : DevRef τ sig).ty.Contents (Elt F)) = Cert.ReferenceIdeal.Step.b48 j s := by
  unfold Cert.ReferenceIdeal.Step.b48
  rw [← al_47 h]
  try rfl
set_option maxRecDepth 8192 in
theorem al_49 (h : Holds V0 s j) : (broadcastInDim S6000 ![] bcast_S_S6000 (shapeCast S_ (extractStridedSlice S1 ![1] (res_main_while0b_v30 V0) slices_S4_S1_1) shapeCasts_S1_S_) : (Proc.devRef .tc main_while0b_v41 : DevRef τ sig).ty.Contents (Elt F)) = Cert.ReferenceIdeal.Step.b49 j s := by
  unfold Cert.ReferenceIdeal.Step.b49
  rw [← al_46 h]
  try rfl
set_option maxRecDepth 8192 in
theorem al_50 (h : Holds V0 s j) : (maximumf (broadcastInDim S6000 ![] bcast_S_S6000 (shapeCast S_ (extractStridedSlice S1 ![1] (res_main_while0b_v30 V0) slices_S4_S1_1) shapeCasts_S1_S_)) (shapeCast S6000 (extractStridedSlice S6000x1 ![0, 1] (V0 (Proc.devRef .tc main_v9_1)) slices_S6000x4_S6000x1_0_1) shapeCasts_S6000x1_S6000) : (Proc.devRef .tc main_while0b_v42 : DevRef τ sig).ty.Contents (Elt F)) = Cert.ReferenceIdeal.Step.b50 j s := by
  unfold Cert.ReferenceIdeal.Step.b50
  rw [← al_49 h, ← al_48 h]
  try rfl
set_option maxRecDepth 8192 in
theorem al_51 (h : Holds V0 s j) : (extractStridedSlice S1 ![2] (res_main_while0b_v30 V0) slices_S4_S1_2 : (Proc.devRef .tc main_while0b_v43 : DevRef τ sig).ty.Contents (Elt F)) = Cert.ReferenceIdeal.Step.b51 j s := by
  unfold Cert.ReferenceIdeal.Step.b51
  rw [← al_38 h]
  try rfl
set_option maxRecDepth 8192 in
theorem al_52 (h : Holds V0 s j) : (shapeCast S_ (extractStridedSlice S1 ![2] (res_main_while0b_v30 V0) slices_S4_S1_2) shapeCasts_S1_S_ : (Proc.devRef .tc main_while0b_v44 : DevRef τ sig).ty.Contents (Elt F)) = Cert.ReferenceIdeal.Step.b52 j s := by
  unfold Cert.ReferenceIdeal.Step.b52
  rw [← al_51 h]
  try rfl
set_option maxRecDepth 8192 in
theorem al_53 (h : Holds V0 s j) : (extractStridedSlice S6000x1 ![0, 2] (V0 (Proc.devRef .tc main_v9_1)) slices_S6000x4_S6000x1_0_2 : (Proc.devRef .tc main_while0b_v45 : DevRef τ sig).ty.Contents (Elt F)) = Cert.ReferenceIdeal.Step.b53 j s := by
  unfold Cert.ReferenceIdeal.Step.b53
  rw [h.f_1]
  try rfl
set_option maxRecDepth 8192 in
theorem al_54 (h : Holds V0 s j) : (shapeCast S6000 (extractStridedSlice S6000x1 ![0, 2] (V0 (Proc.devRef .tc main_v9_1)) slices_S6000x4_S6000x1_0_2) shapeCasts_S6000x1_S6000 : (Proc.devRef .tc main_while0b_v46 : DevRef τ sig).ty.Contents (Elt F)) = Cert.ReferenceIdeal.Step.b54 j s := by
  unfold Cert.ReferenceIdeal.Step.b54
  rw [← al_53 h]
  try rfl
set_option maxRecDepth 8192 in
theorem al_55 (h : Holds V0 s j) : (broadcastInDim S6000 ![] bcast_S_S6000 (shapeCast S_ (extractStridedSlice S1 ![2] (res_main_while0b_v30 V0) slices_S4_S1_2) shapeCasts_S1_S_) : (Proc.devRef .tc main_while0b_v47 : DevRef τ sig).ty.Contents (Elt F)) = Cert.ReferenceIdeal.Step.b55 j s := by
  unfold Cert.ReferenceIdeal.Step.b55
  rw [← al_52 h]
  try rfl
set_option maxRecDepth 8192 in
theorem al_56 (h : Holds V0 s j) : (minimumf (broadcastInDim S6000 ![] bcast_S_S6000 (shapeCast S_ (extractStridedSlice S1 ![2] (res_main_while0b_v30 V0) slices_S4_S1_2) shapeCasts_S1_S_)) (shapeCast S6000 (extractStridedSlice S6000x1 ![0, 2] (V0 (Proc.devRef .tc main_v9_1)) slices_S6000x4_S6000x1_0_2) shapeCasts_S6000x1_S6000) : (Proc.devRef .tc main_while0b_v48 : DevRef τ sig).ty.Contents (Elt F)) = Cert.ReferenceIdeal.Step.b56 j s := by
  unfold Cert.ReferenceIdeal.Step.b56
  rw [← al_55 h, ← al_54 h]
  try rfl
set_option maxRecDepth 8192 in
theorem al_57 (h : Holds V0 s j) : (extractStridedSlice S1 ![3] (res_main_while0b_v30 V0) slices_S4_S1_3 : (Proc.devRef .tc main_while0b_v49 : DevRef τ sig).ty.Contents (Elt F)) = Cert.ReferenceIdeal.Step.b57 j s := by
  unfold Cert.ReferenceIdeal.Step.b57
  rw [← al_38 h]
  try rfl
set_option maxRecDepth 8192 in
theorem al_58 (h : Holds V0 s j) : (shapeCast S_ (extractStridedSlice S1 ![3] (res_main_while0b_v30 V0) slices_S4_S1_3) shapeCasts_S1_S_ : (Proc.devRef .tc main_while0b_v50 : DevRef τ sig).ty.Contents (Elt F)) = Cert.ReferenceIdeal.Step.b58 j s := by
  unfold Cert.ReferenceIdeal.Step.b58
  rw [← al_57 h]
  try rfl
set_option maxRecDepth 8192 in
theorem al_59 (h : Holds V0 s j) : (extractStridedSlice S6000x1 ![0, 3] (V0 (Proc.devRef .tc main_v9_1)) slices_S6000x4_S6000x1_0_3 : (Proc.devRef .tc main_while0b_v51 : DevRef τ sig).ty.Contents (Elt F)) = Cert.ReferenceIdeal.Step.b59 j s := by
  unfold Cert.ReferenceIdeal.Step.b59
  rw [h.f_1]
  try rfl
set_option maxRecDepth 8192 in
theorem al_60 (h : Holds V0 s j) : (shapeCast S6000 (extractStridedSlice S6000x1 ![0, 3] (V0 (Proc.devRef .tc main_v9_1)) slices_S6000x4_S6000x1_0_3) shapeCasts_S6000x1_S6000 : (Proc.devRef .tc main_while0b_v52 : DevRef τ sig).ty.Contents (Elt F)) = Cert.ReferenceIdeal.Step.b60 j s := by
  unfold Cert.ReferenceIdeal.Step.b60
  rw [← al_59 h]
  try rfl
set_option maxRecDepth 8192 in
theorem al_61 (h : Holds V0 s j) : (broadcastInDim S6000 ![] bcast_S_S6000 (shapeCast S_ (extractStridedSlice S1 ![3] (res_main_while0b_v30 V0) slices_S4_S1_3) shapeCasts_S1_S_) : (Proc.devRef .tc main_while0b_v53 : DevRef τ sig).ty.Contents (Elt F)) = Cert.ReferenceIdeal.Step.b61 j s := by
  unfold Cert.ReferenceIdeal.Step.b61
  rw [← al_58 h]
  try rfl
set_option maxRecDepth 8192 in
theorem al_62 (h : Holds V0 s j) : (minimumf (broadcastInDim S6000 ![] bcast_S_S6000 (shapeCast S_ (extractStridedSlice S1 ![3] (res_main_while0b_v30 V0) slices_S4_S1_3) shapeCasts_S1_S_)) (shapeCast S6000 (extractStridedSlice S6000x1 ![0, 3] (V0 (Proc.devRef .tc main_v9_1)) slices_S6000x4_S6000x1_0_3) shapeCasts_S6000x1_S6000) : (Proc.devRef .tc main_while0b_v54 : DevRef τ sig).ty.Contents (Elt F)) = Cert.ReferenceIdeal.Step.b62 j s := by
  unfold Cert.ReferenceIdeal.Step.b62
  rw [← al_61 h, ← al_60 h]
  try rfl
set_option maxRecDepth 8192 in
theorem al_63 (h : Holds V0 s j) : (subf (minimumf (broadcastInDim S6000 ![] bcast_S_S6000 (shapeCast S_ (extractStridedSlice S1 ![2] (res_main_while0b_v30 V0) slices_S4_S1_2) shapeCasts_S1_S_)) (shapeCast S6000 (extractStridedSlice S6000x1 ![0, 2] (V0 (Proc.devRef .tc main_v9_1)) slices_S6000x4_S6000x1_0_2) shapeCasts_S6000x1_S6000)) (maximumf (broadcastInDim S6000 ![] bcast_S_S6000 (shapeCast S_ (extractStridedSlice S1 ![0] (res_main_while0b_v30 V0) slices_S4_S1_0) shapeCasts_S1_S_)) (shapeCast S6000 (extractStridedSlice S6000x1 ![0, 0] (V0 (Proc.devRef .tc main_v9_1)) slices_S6000x4_S6000x1_0_0) shapeCasts_S6000x1_S6000)) : (Proc.devRef .tc main_while0b_v55 : DevRef τ sig).ty.Contents (Elt F)) = Cert.ReferenceIdeal.Step.b63 j s := by
  unfold Cert.ReferenceIdeal.Step.b63
  rw [← al_56 h, ← al_44 h]
  try rfl
set_option maxRecDepth 8192 in
theorem al_64 (h : Holds V0 s j) : (constant S_ .f32 0x00000000#32 : (Proc.devRef .tc main_while0b_cst_21 : DevRef τ sig).ty.Contents (Elt F)) = Cert.ReferenceIdeal.Step.b64 j s := by
  unfold Cert.ReferenceIdeal.Step.b64
  rfl
set_option maxRecDepth 8192 in
theorem al_65 (h : Holds V0 s j) : (id (constant S_ .f32 0x00000000#32) : (Proc.devRef .tc main_while0b_call2_v0 : DevRef τ sig).ty.Contents (Elt F)) = Cert.ReferenceIdeal.Step.b65 j s := by
  unfold Cert.ReferenceIdeal.Step.b65
  rw [← al_64 h]
  try rfl
set_option maxRecDepth 8192 in
theorem al_66 (h : Holds V0 s j) : (broadcastInDim S6000 ![] bcast_S_S6000 (id (constant S_ .f32 0x00000000#32)) : (Proc.devRef .tc main_while0b_call2_v1 : DevRef τ sig).ty.Contents (Elt F)) = Cert.ReferenceIdeal.Step.b66 j s := by
  unfold Cert.ReferenceIdeal.Step.b66
  rw [← al_65 h]
  try rfl
set_option maxRecDepth 8192 in
theorem al_67 (h : Holds V0 s j) : (maximumf (broadcastInDim S6000 ![] bcast_S_S6000 (id (constant S_ .f32 0x00000000#32))) (subf (minimumf (broadcastInDim S6000 ![] bcast_S_S6000 (shapeCast S_ (extractStridedSlice S1 ![2] (res_main_while0b_v30 V0) slices_S4_S1_2) shapeCasts_S1_S_)) (shapeCast S6000 (extractStridedSlice S6000x1 ![0, 2] (V0 (Proc.devRef .tc main_v9_1)) slices_S6000x4_S6000x1_0_2) shapeCasts_S6000x1_S6000)) (maximumf (broadcastInDim S6000 ![] bcast_S_S6000 (shapeCast S_ (extractStridedSlice S1 ![0] (res_main_while0b_v30 V0) slices_S4_S1_0) shapeCasts_S1_S_)) (shapeCast S6000 (extractStridedSlice S6000x1 ![0, 0] (V0 (Proc.devRef .tc main_v9_1)) slices_S6000x4_S6000x1_0_0) shapeCasts_S6000x1_S6000))) : (Proc.devRef .tc main_while0b_v56 : DevRef τ sig).ty.Contents (Elt F)) = Cert.ReferenceIdeal.Step.b67 j s := by
  unfold Cert.ReferenceIdeal.Step.b67
  rw [← al_66 h, ← al_63 h]
  try rfl
set_option maxRecDepth 8192 in
theorem al_68 (h : Holds V0 s j) : (subf (minimumf (broadcastInDim S6000 ![] bcast_S_S6000 (shapeCast S_ (extractStridedSlice S1 ![3] (res_main_while0b_v30 V0) slices_S4_S1_3) shapeCasts_S1_S_)) (shapeCast S6000 (extractStridedSlice S6000x1 ![0, 3] (V0 (Proc.devRef .tc main_v9_1)) slices_S6000x4_S6000x1_0_3) shapeCasts_S6000x1_S6000)) (maximumf (broadcastInDim S6000 ![] bcast_S_S6000 (shapeCast S_ (extractStridedSlice S1 ![1] (res_main_while0b_v30 V0) slices_S4_S1_1) shapeCasts_S1_S_)) (shapeCast S6000 (extractStridedSlice S6000x1 ![0, 1] (V0 (Proc.devRef .tc main_v9_1)) slices_S6000x4_S6000x1_0_1) shapeCasts_S6000x1_S6000)) : (Proc.devRef .tc main_while0b_v57 : DevRef τ sig).ty.Contents (Elt F)) = Cert.ReferenceIdeal.Step.b68 j s := by
  unfold Cert.ReferenceIdeal.Step.b68
  rw [← al_62 h, ← al_50 h]
  try rfl
set_option maxRecDepth 8192 in
theorem al_69 (h : Holds V0 s j) : (constant S_ .f32 0x00000000#32 : (Proc.devRef .tc main_while0b_cst_22 : DevRef τ sig).ty.Contents (Elt F)) = Cert.ReferenceIdeal.Step.b69 j s := by
  unfold Cert.ReferenceIdeal.Step.b69
  rfl
set_option maxRecDepth 8192 in
theorem al_70 (h : Holds V0 s j) : (id (constant S_ .f32 0x00000000#32) : (Proc.devRef .tc main_while0b_call3_v0 : DevRef τ sig).ty.Contents (Elt F)) = Cert.ReferenceIdeal.Step.b70 j s := by
  unfold Cert.ReferenceIdeal.Step.b70
  rw [← al_69 h]
  try rfl
set_option maxRecDepth 8192 in
theorem al_71 (h : Holds V0 s j) : (broadcastInDim S6000 ![] bcast_S_S6000 (id (constant S_ .f32 0x00000000#32)) : (Proc.devRef .tc main_while0b_call3_v1 : DevRef τ sig).ty.Contents (Elt F)) = Cert.ReferenceIdeal.Step.b71 j s := by
  unfold Cert.ReferenceIdeal.Step.b71
  rw [← al_70 h]
  try rfl
set_option maxRecDepth 8192 in
theorem al_72 (h : Holds V0 s j) : (maximumf (broadcastInDim S6000 ![] bcast_S_S6000 (id (constant S_ .f32 0x00000000#32))) (subf (minimumf (broadcastInDim S6000 ![] bcast_S_S6000 (shapeCast S_ (extractStridedSlice S1 ![3] (res_main_while0b_v30 V0) slices_S4_S1_3) shapeCasts_S1_S_)) (shapeCast S6000 (extractStridedSlice S6000x1 ![0, 3] (V0 (Proc.devRef .tc main_v9_1)) slices_S6000x4_S6000x1_0_3) shapeCasts_S6000x1_S6000)) (maximumf (broadcastInDim S6000 ![] bcast_S_S6000 (shapeCast S_ (extractStridedSlice S1 ![1] (res_main_while0b_v30 V0) slices_S4_S1_1) shapeCasts_S1_S_)) (shapeCast S6000 (extractStridedSlice S6000x1 ![0, 1] (V0 (Proc.devRef .tc main_v9_1)) slices_S6000x4_S6000x1_0_1) shapeCasts_S6000x1_S6000))) : (Proc.devRef .tc main_while0b_v58 : DevRef τ sig).ty.Contents (Elt F)) = Cert.ReferenceIdeal.Step.b72 j s := by
  unfold Cert.ReferenceIdeal.Step.b72
  rw [← al_71 h, ← al_68 h]
  try rfl
set_option maxRecDepth 8192 in
theorem al_73 (h : Holds V0 s j) : (res_main_while0b_v59 V0 : (Proc.devRef .tc main_while0b_v59 : DevRef τ sig).ty.Contents (Elt F)) = Cert.ReferenceIdeal.Step.b73 j s := by
  unfold res_main_while0b_v59 Cert.ReferenceIdeal.Step.b73
  rw [← al_67 h, ← al_72 h]
  try rfl
set_option maxRecDepth 8192 in
theorem al_74 (h : Holds V0 s j) : (extractStridedSlice S1 ![2] (res_main_while0b_v30 V0) slices_S4_S1_2 : (Proc.devRef .tc main_while0b_v60 : DevRef τ sig).ty.Contents (Elt F)) = Cert.ReferenceIdeal.Step.b74 j s := by
  unfold Cert.ReferenceIdeal.Step.b74
  rw [← al_38 h]
  try rfl
set_option maxRecDepth 8192 in
theorem al_75 (h : Holds V0 s j) : (shapeCast S_ (extractStridedSlice S1 ![2] (res_main_while0b_v30 V0) slices_S4_S1_2) shapeCasts_S1_S_ : (Proc.devRef .tc main_while0b_v61 : DevRef τ sig).ty.Contents (Elt F)) = Cert.ReferenceIdeal.Step.b75 j s := by
  unfold Cert.ReferenceIdeal.Step.b75
  rw [← al_74 h]
  try rfl
set_option maxRecDepth 8192 in
theorem al_76 (h : Holds V0 s j) : (extractStridedSlice S1 ![0] (res_main_while0b_v30 V0) slices_S4_S1_0 : (Proc.devRef .tc main_while0b_v62 : DevRef τ sig).ty.Contents (Elt F)) = Cert.ReferenceIdeal.Step.b76 j s := by
  unfold Cert.ReferenceIdeal.Step.b76
  rw [← al_38 h]
  try rfl
set_option maxRecDepth 8192 in
theorem al_77 (h : Holds V0 s j) : (shapeCast S_ (extractStridedSlice S1 ![0] (res_main_while0b_v30 V0) slices_S4_S1_0) shapeCasts_S1_S_ : (Proc.devRef .tc main_while0b_v63 : DevRef τ sig).ty.Contents (Elt F)) = Cert.ReferenceIdeal.Step.b77 j s := by
  unfold Cert.ReferenceIdeal.Step.b77
  rw [← al_76 h]
  try rfl
set_option maxRecDepth 8192 in
theorem al_78 (h : Holds V0 s j) : (subf (shapeCast S_ (extractStridedSlice S1 ![2] (res_main_while0b_v30 V0) slices_S4_S1_2) shapeCasts_S1_S_) (shapeCast S_ (extractStridedSlice S1 ![0] (res_main_while0b_v30 V0) slices_S4_S1_0) shapeCasts_S1_S_) : (Proc.devRef .tc main_while0b_v64 : DevRef τ sig).ty.Contents (Elt F)) = Cert.ReferenceIdeal.Step.b78 j s := by
  unfold Cert.ReferenceIdeal.Step.b78
  rw [← al_75 h, ← al_77 h]
  try rfl
set_option maxRecDepth 8192 in
theorem al_79 (h : Holds V0 s j) : (extractStridedSlice S1 ![3] (res_main_while0b_v30 V0) slices_S4_S1_3 : (Proc.devRef .tc main_while0b_v65 : DevRef τ sig).ty.Contents (Elt F)) = Cert.ReferenceIdeal.Step.b79 j s := by
  unfold Cert.ReferenceIdeal.Step.b79
  rw [← al_38 h]
  try rfl
set_option maxRecDepth 8192 in
theorem al_80 (h : Holds V0 s j) : (shapeCast S_ (extractStridedSlice S1 ![3] (res_main_while0b_v30 V0) slices_S4_S1_3) shapeCasts_S1_S_ : (Proc.devRef .tc main_while0b_v66 : DevRef τ sig).ty.Contents (Elt F)) = Cert.ReferenceIdeal.Step.b80 j s := by
  unfold Cert.ReferenceIdeal.Step.b80
  rw [← al_79 h]
  try rfl
set_option maxRecDepth 8192 in
theorem al_81 (h : Holds V0 s j) : (extractStridedSlice S1 ![1] (res_main_while0b_v30 V0) slices_S4_S1_1 : (Proc.devRef .tc main_while0b_v67 : DevRef τ sig).ty.Contents (Elt F)) = Cert.ReferenceIdeal.Step.b81 j s := by
  unfold Cert.ReferenceIdeal.Step.b81
  rw [← al_38 h]
  try rfl
set_option maxRecDepth 8192 in
theorem al_82 (h : Holds V0 s j) : (shapeCast S_ (extractStridedSlice S1 ![1] (res_main_while0b_v30 V0) slices_S4_S1_1) shapeCasts_S1_S_ : (Proc.devRef .tc main_while0b_v68 : DevRef τ sig).ty.Contents (Elt F)) = Cert.ReferenceIdeal.Step.b82 j s := by
  unfold Cert.ReferenceIdeal.Step.b82
  rw [← al_81 h]
  try rfl
set_option maxRecDepth 8192 in
theorem al_83 (h : Holds V0 s j) : (subf (shapeCast S_ (extractStridedSlice S1 ![3] (res_main_while0b_v30 V0) slices_S4_S1_3) shapeCasts_S1_S_) (shapeCast S_ (extractStridedSlice S1 ![1] (res_main_while0b_v30 V0) slices_S4_S1_1) shapeCasts_S1_S_) : (Proc.devRef .tc main_while0b_v69 : DevRef τ sig).ty.Contents (Elt F)) = Cert.ReferenceIdeal.Step.b83 j s := by
  unfold Cert.ReferenceIdeal.Step.b83
  rw [← al_80 h, ← al_82 h]
  try rfl
set_option maxRecDepth 8192 in
theorem al_84 (h : Holds V0 s j) : (mulf (subf (shapeCast S_ (extractStridedSlice S1 ![2] (res_main_while0b_v30 V0) slices_S4_S1_2) shapeCasts_S1_S_) (shapeCast S_ (extractStridedSlice S1 ![0] (res_main_while0b_v30 V0) slices_S4_S1_0) shapeCasts_S1_S_)) (subf (shapeCast S_ (extractStridedSlice S1 ![3] (res_main_while0b_v30 V0) slices_S4_S1_3) shapeCasts_S1_S_) (shapeCast S_ (extractStridedSlice S1 ![1] (res_main_while0b_v30 V0) slices_S4_S1_1) shapeCasts_S1_S_)) : (Proc.devRef .tc main_while0b_v70 : DevRef τ sig).ty.Contents (Elt F)) = Cert.ReferenceIdeal.Step.b84 j s := by
  unfold Cert.ReferenceIdeal.Step.b84
  rw [← al_78 h, ← al_83 h]
  try rfl
set_option maxRecDepth 8192 in
theorem al_85 (h : Holds V0 s j) : (extractStridedSlice S6000x1 ![0, 2] (V0 (Proc.devRef .tc main_v9_1)) slices_S6000x4_S6000x1_0_2 : (Proc.devRef .tc main_while0b_v71 : DevRef τ sig).ty.Contents (Elt F)) = Cert.ReferenceIdeal.Step.b85 j s := by
  unfold Cert.ReferenceIdeal.Step.b85
  rw [h.f_1]
  try rfl
set_option maxRecDepth 8192 in
theorem al_86 (h : Holds V0 s j) : (shapeCast S6000 (extractStridedSlice S6000x1 ![0, 2] (V0 (Proc.devRef .tc main_v9_1)) slices_S6000x4_S6000x1_0_2) shapeCasts_S6000x1_S6000 : (Proc.devRef .tc main_while0b_v72 : DevRef τ sig).ty.Contents (Elt F)) = Cert.ReferenceIdeal.Step.b86 j s := by
  unfold Cert.ReferenceIdeal.Step.b86
  rw [← al_85 h]
  try rfl
set_option maxRecDepth 8192 in
theorem al_87 (h : Holds V0 s j) : (extractStridedSlice S6000x1 ![0, 0] (V0 (Proc.devRef .tc main_v9_1)) slices_S6000x4_S6000x1_0_0 : (Proc.devRef .tc main_while0b_v73 : DevRef τ sig).ty.Contents (Elt F)) = Cert.ReferenceIdeal.Step.b87 j s := by
  unfold Cert.ReferenceIdeal.Step.b87
  rw [h.f_1]
  try rfl
set_option maxRecDepth 8192 in
theorem al_88 (h : Holds V0 s j) : (shapeCast S6000 (extractStridedSlice S6000x1 ![0, 0] (V0 (Proc.devRef .tc main_v9_1)) slices_S6000x4_S6000x1_0_0) shapeCasts_S6000x1_S6000 : (Proc.devRef .tc main_while0b_v74 : DevRef τ sig).ty.Contents (Elt F)) = Cert.ReferenceIdeal.Step.b88 j s := by
  unfold Cert.ReferenceIdeal.Step.b88
  rw [← al_87 h]
  try rfl
set_option maxRecDepth 8192 in
theorem al_89 (h : Holds V0 s j) : (subf (shapeCast S6000 (extractStridedSlice S6000x1 ![0, 2] (V0 (Proc.devRef .tc main_v9_1)) slices_S6000x4_S6000x1_0_2) shapeCasts_S6000x1_S6000) (shapeCast S6000 (extractStridedSlice S6000x1 ![0, 0] (V0 (Proc.devRef .tc main_v9_1)) slices_S6000x4_S6000x1_0_0) shapeCasts_S6000x1_S6000) : (Proc.devRef .tc main_while0b_v75 : DevRef τ sig).ty.Contents (Elt F)) = Cert.ReferenceIdeal.Step.b89 j s := by
  unfold Cert.ReferenceIdeal.Step.b89
  rw [← al_86 h, ← al_88 h]
  try rfl
set_option maxRecDepth 8192 in
theorem al_90 (h : Holds V0 s j) : (extractStridedSlice S6000x1 ![0, 3] (V0 (Proc.devRef .tc main_v9_1)) slices_S6000x4_S6000x1_0_3 : (Proc.devRef .tc main_while0b_v76 : DevRef τ sig).ty.Contents (Elt F)) = Cert.ReferenceIdeal.Step.b90 j s := by
  unfold Cert.ReferenceIdeal.Step.b90
  rw [h.f_1]
  try rfl
set_option maxRecDepth 8192 in
theorem al_91 (h : Holds V0 s j) : (shapeCast S6000 (extractStridedSlice S6000x1 ![0, 3] (V0 (Proc.devRef .tc main_v9_1)) slices_S6000x4_S6000x1_0_3) shapeCasts_S6000x1_S6000 : (Proc.devRef .tc main_while0b_v77 : DevRef τ sig).ty.Contents (Elt F)) = Cert.ReferenceIdeal.Step.b91 j s := by
  unfold Cert.ReferenceIdeal.Step.b91
  rw [← al_90 h]
  try rfl
set_option maxRecDepth 8192 in
theorem al_92 (h : Holds V0 s j) : (extractStridedSlice S6000x1 ![0, 1] (V0 (Proc.devRef .tc main_v9_1)) slices_S6000x4_S6000x1_0_1 : (Proc.devRef .tc main_while0b_v78 : DevRef τ sig).ty.Contents (Elt F)) = Cert.ReferenceIdeal.Step.b92 j s := by
  unfold Cert.ReferenceIdeal.Step.b92
  rw [h.f_1]
  try rfl
set_option maxRecDepth 8192 in
theorem al_93 (h : Holds V0 s j) : (shapeCast S6000 (extractStridedSlice S6000x1 ![0, 1] (V0 (Proc.devRef .tc main_v9_1)) slices_S6000x4_S6000x1_0_1) shapeCasts_S6000x1_S6000 : (Proc.devRef .tc main_while0b_v79 : DevRef τ sig).ty.Contents (Elt F)) = Cert.ReferenceIdeal.Step.b93 j s := by
  unfold Cert.ReferenceIdeal.Step.b93
  rw [← al_92 h]
  try rfl
set_option maxRecDepth 8192 in
theorem al_94 (h : Holds V0 s j) : (subf (shapeCast S6000 (extractStridedSlice S6000x1 ![0, 3] (V0 (Proc.devRef .tc main_v9_1)) slices_S6000x4_S6000x1_0_3) shapeCasts_S6000x1_S6000) (shapeCast S6000 (extractStridedSlice S6000x1 ![0, 1] (V0 (Proc.devRef .tc main_v9_1)) slices_S6000x4_S6000x1_0_1) shapeCasts_S6000x1_S6000) : (Proc.devRef .tc main_while0b_v80 : DevRef τ sig).ty.Contents (Elt F)) = Cert.ReferenceIdeal.Step.b94 j s := by
  unfold Cert.ReferenceIdeal.Step.b94
  rw [← al_91 h, ← al_93 h]
  try rfl
set_option maxRecDepth 8192 in
theorem al_95 (h : Holds V0 s j) : (mulf (subf (shapeCast S6000 (extractStridedSlice S6000x1 ![0, 2] (V0 (Proc.devRef .tc main_v9_1)) slices_S6000x4_S6000x1_0_2) shapeCasts_S6000x1_S6000) (shapeCast S6000 (extractStridedSlice S6000x1 ![0, 0] (V0 (Proc.devRef .tc main_v9_1)) slices_S6000x4_S6000x1_0_0) shapeCasts_S6000x1_S6000)) (subf (shapeCast S6000 (extractStridedSlice S6000x1 ![0, 3] (V0 (Proc.devRef .tc main_v9_1)) slices_S6000x4_S6000x1_0_3) shapeCasts_S6000x1_S6000) (shapeCast S6000 (extractStridedSlice S6000x1 ![0, 1] (V0 (Proc.devRef .tc main_v9_1)) slices_S6000x4_S6000x1_0_1) shapeCasts_S6000x1_S6000)) : (Proc.devRef .tc main_while0b_v81 : DevRef τ sig).ty.Contents (Elt F)) = Cert.ReferenceIdeal.Step.b95 j s := by
  unfold Cert.ReferenceIdeal.Step.b95
  rw [← al_89 h, ← al_94 h]
  try rfl
set_option maxRecDepth 8192 in
theorem al_96 (h : Holds V0 s j) : (broadcastInDim S6000 ![] bcast_S_S6000 (mulf (subf (shapeCast S_ (extractStridedSlice S1 ![2] (res_main_while0b_v30 V0) slices_S4_S1_2) shapeCasts_S1_S_) (shapeCast S_ (extractStridedSlice S1 ![0] (res_main_while0b_v30 V0) slices_S4_S1_0) shapeCasts_S1_S_)) (subf (shapeCast S_ (extractStridedSlice S1 ![3] (res_main_while0b_v30 V0) slices_S4_S1_3) shapeCasts_S1_S_) (shapeCast S_ (extractStridedSlice S1 ![1] (res_main_while0b_v30 V0) slices_S4_S1_1) shapeCasts_S1_S_))) : (Proc.devRef .tc main_while0b_v82 : DevRef τ sig).ty.Contents (Elt F)) = Cert.ReferenceIdeal.Step.b96 j s := by
  unfold Cert.ReferenceIdeal.Step.b96
  rw [← al_84 h]
  try rfl
set_option maxRecDepth 8192 in
theorem al_97 (h : Holds V0 s j) : (addf (broadcastInDim S6000 ![] bcast_S_S6000 (mulf (subf (shapeCast S_ (extractStridedSlice S1 ![2] (res_main_while0b_v30 V0) slices_S4_S1_2) shapeCasts_S1_S_) (shapeCast S_ (extractStridedSlice S1 ![0] (res_main_while0b_v30 V0) slices_S4_S1_0) shapeCasts_S1_S_)) (subf (shapeCast S_ (extractStridedSlice S1 ![3] (res_main_while0b_v30 V0) slices_S4_S1_3) shapeCasts_S1_S_) (shapeCast S_ (extractStridedSlice S1 ![1] (res_main_while0b_v30 V0) slices_S4_S1_1) shapeCasts_S1_S_)))) (mulf (subf (shapeCast S6000 (extractStridedSlice S6000x1 ![0, 2] (V0 (Proc.devRef .tc main_v9_1)) slices_S6000x4_S6000x1_0_2) shapeCasts_S6000x1_S6000) (shapeCast S6000 (extractStridedSlice S6000x1 ![0, 0] (V0 (Proc.devRef .tc main_v9_1)) slices_S6000x4_S6000x1_0_0) shapeCasts_S6000x1_S6000)) (subf (shapeCast S6000 (extractStridedSlice S6000x1 ![0, 3] (V0 (Proc.devRef .tc main_v9_1)) slices_S6000x4_S6000x1_0_3) shapeCasts_S6000x1_S6000) (shapeCast S6000 (extractStridedSlice S6000x1 ![0, 1] (V0 (Proc.devRef .tc main_v9_1)) slices_S6000x4_S6000x1_0_1) shapeCasts_S6000x1_S6000))) : (Proc.devRef .tc main_while0b_v83 : DevRef τ sig).ty.Contents (Elt F)) = Cert.ReferenceIdeal.Step.b97 j s := by
  unfold Cert.ReferenceIdeal.Step.b97
  rw [← al_96 h, ← al_95 h]
  try rfl
set_option maxRecDepth 8192 in
theorem al_98 (h : Holds V0 s j) : (subf (addf (broadcastInDim S6000 ![] bcast_S_S6000 (mulf (subf (shapeCast S_ (extractStridedSlice S1 ![2] (res_main_while0b_v30 V0) slices_S4_S1_2) shapeCasts_S1_S_) (shapeCast S_ (extractStridedSlice S1 ![0] (res_main_while0b_v30 V0) slices_S4_S1_0) shapeCasts_S1_S_)) (subf (shapeCast S_ (extractStridedSlice S1 ![3] (res_main_while0b_v30 V0) slices_S4_S1_3) shapeCasts_S1_S_) (shapeCast S_ (extractStridedSlice S1 ![1] (res_main_while0b_v30 V0) slices_S4_S1_1) shapeCasts_S1_S_)))) (mulf (subf (shapeCast S6000 (extractStridedSlice S6000x1 ![0, 2] (V0 (Proc.devRef .tc main_v9_1)) slices_S6000x4_S6000x1_0_2) shapeCasts_S6000x1_S6000) (shapeCast S6000 (extractStridedSlice S6000x1 ![0, 0] (V0 (Proc.devRef .tc main_v9_1)) slices_S6000x4_S6000x1_0_0) shapeCasts_S6000x1_S6000)) (subf (shapeCast S6000 (extractStridedSlice S6000x1 ![0, 3] (V0 (Proc.devRef .tc main_v9_1)) slices_S6000x4_S6000x1_0_3) shapeCasts_S6000x1_S6000) (shapeCast S6000 (extractStridedSlice S6000x1 ![0, 1] (V0 (Proc.devRef .tc main_v9_1)) slices_S6000x4_S6000x1_0_1) shapeCasts_S6000x1_S6000)))) (res_main_while0b_v59 V0) : (Proc.devRef .tc main_while0b_v84 : DevRef τ sig).ty.Contents (Elt F)) = Cert.ReferenceIdeal.Step.b98 j s := by
  unfold Cert.ReferenceIdeal.Step.b98
  rw [← al_97 h, ← al_73 h]
  try rfl
set_option maxRecDepth 8192 in
theorem al_99 (h : Holds V0 s j) : (constant S_ .f32 0x3089705F#32 : (Proc.devRef .tc main_while0b_cst_23 : DevRef τ sig).ty.Contents (Elt F)) = Cert.ReferenceIdeal.Step.b99 j s := by
  unfold Cert.ReferenceIdeal.Step.b99
  rfl
set_option maxRecDepth 8192 in
theorem al_100 (h : Holds V0 s j) : (broadcastInDim S6000 ![] bcast_S_S6000 (constant S_ .f32 0x3089705F#32) : (Proc.devRef .tc main_while0b_v85 : DevRef τ sig).ty.Contents (Elt F)) = Cert.ReferenceIdeal.Step.b100 j s := by
  unfold Cert.ReferenceIdeal.Step.b100
  rw [← al_99 h]
  try rfl
set_option maxRecDepth 8192 in
theorem al_101 (h : Holds V0 s j) : (addf (subf (addf (broadcastInDim S6000 ![] bcast_S_S6000 (mulf (subf (shapeCast S_ (extractStridedSlice S1 ![2] (res_main_while0b_v30 V0) slices_S4_S1_2) shapeCasts_S1_S_) (shapeCast S_ (extractStridedSlice S1 ![0] (res_main_while0b_v30 V0) slices_S4_S1_0) shapeCasts_S1_S_)) (subf (shapeCast S_ (extractStridedSlice S1 ![3] (res_main_while0b_v30 V0) slices_S4_S1_3) shapeCasts_S1_S_) (shapeCast S_ (extractStridedSlice S1 ![1] (res_main_while0b_v30 V0) slices_S4_S1_1) shapeCasts_S1_S_)))) (mulf (subf (shapeCast S6000 (extractStridedSlice S6000x1 ![0, 2] (V0 (Proc.devRef .tc main_v9_1)) slices_S6000x4_S6000x1_0_2) shapeCasts_S6000x1_S6000) (shapeCast S6000 (extractStridedSlice S6000x1 ![0, 0] (V0 (Proc.devRef .tc main_v9_1)) slices_S6000x4_S6000x1_0_0) shapeCasts_S6000x1_S6000)) (subf (shapeCast S6000 (extractStridedSlice S6000x1 ![0, 3] (V0 (Proc.devRef .tc main_v9_1)) slices_S6000x4_S6000x1_0_3) shapeCasts_S6000x1_S6000) (shapeCast S6000 (extractStridedSlice S6000x1 ![0, 1] (V0 (Proc.devRef .tc main_v9_1)) slices_S6000x4_S6000x1_0_1) shapeCasts_S6000x1_S6000)))) (res_main_while0b_v59 V0)) (broadcastInDim S6000 ![] bcast_S_S6000 (constant S_ .f32 0x3089705F#32)) : (Proc.devRef .tc main_while0b_v86 : DevRef τ sig).ty.Contents (Elt F)) = Cert.ReferenceIdeal.Step.b101 j s := by
  unfold Cert.ReferenceIdeal.Step.b101
  rw [← al_98 h, ← al_100 h]
  try rfl
set_option maxRecDepth 8192 in
theorem al_102 (h : Holds V0 s j) : (Host.divf (res_main_while0b_v59 V0) (addf (subf (addf (broadcastInDim S6000 ![] bcast_S_S6000 (mulf (subf (shapeCast S_ (extractStridedSlice S1 ![2] (res_main_while0b_v30 V0) slices_S4_S1_2) shapeCasts_S1_S_) (shapeCast S_ (extractStridedSlice S1 ![0] (res_main_while0b_v30 V0) slices_S4_S1_0) shapeCasts_S1_S_)) (subf (shapeCast S_ (extractStridedSlice S1 ![3] (res_main_while0b_v30 V0) slices_S4_S1_3) shapeCasts_S1_S_) (shapeCast S_ (extractStridedSlice S1 ![1] (res_main_while0b_v30 V0) slices_S4_S1_1) shapeCasts_S1_S_)))) (mulf (subf (shapeCast S6000 (extractStridedSlice S6000x1 ![0, 2] (V0 (Proc.devRef .tc main_v9_1)) slices_S6000x4_S6000x1_0_2) shapeCasts_S6000x1_S6000) (shapeCast S6000 (extractStridedSlice S6000x1 ![0, 0] (V0 (Proc.devRef .tc main_v9_1)) slices_S6000x4_S6000x1_0_0) shapeCasts_S6000x1_S6000)) (subf (shapeCast S6000 (extractStridedSlice S6000x1 ![0, 3] (V0 (Proc.devRef .tc main_v9_1)) slices_S6000x4_S6000x1_0_3) shapeCasts_S6000x1_S6000) (shapeCast S6000 (extractStridedSlice S6000x1 ![0, 1] (V0 (Proc.devRef .tc main_v9_1)) slices_S6000x4_S6000x1_0_1) shapeCasts_S6000x1_S6000)))) (res_main_while0b_v59 V0)) (broadcastInDim S6000 ![] bcast_S_S6000 (constant S_ .f32 0x3089705F#32))) : (Proc.devRef .tc main_while0b_v87 : DevRef τ sig).ty.Contents (Elt F)) = Cert.ReferenceIdeal.Step.b102 j s := by
  unfold Cert.ReferenceIdeal.Step.b102
  rw [← al_73 h, ← al_101 h]
  try rfl
set_option maxRecDepth 8192 in
theorem al_103 (h : Holds V0 s j) : (constant S_ .f32 0x3F333333#32 : (Proc.devRef .tc main_while0b_cst_24 : DevRef τ sig).ty.Contents (Elt F)) = Cert.ReferenceIdeal.Step.b103 j s := by
  unfold Cert.ReferenceIdeal.Step.b103
  rfl
set_option maxRecDepth 8192 in
theorem al_104 (h : Holds V0 s j) : (broadcastInDim S6000 ![] bcast_S_S6000 (constant S_ .f32 0x3F333333#32) : (Proc.devRef .tc main_while0b_v88 : DevRef τ sig).ty.Contents (Elt F)) = Cert.ReferenceIdeal.Step.b104 j s := by
  unfold Cert.ReferenceIdeal.Step.b104
  rw [← al_103 h]
  try rfl
set_option maxRecDepth 8192 in
theorem al_105 (h : Holds V0 s j) : (cmpf .olt (Host.divf (res_main_while0b_v59 V0) (addf (subf (addf (broadcastInDim S6000 ![] bcast_S_S6000 (mulf (subf (shapeCast S_ (extractStridedSlice S1 ![2] (res_main_while0b_v30 V0) slices_S4_S1_2) shapeCasts_S1_S_) (shapeCast S_ (extractStridedSlice S1 ![0] (res_main_while0b_v30 V0) slices_S4_S1_0) shapeCasts_S1_S_)) (subf (shapeCast S_ (extractStridedSlice S1 ![3] (res_main_while0b_v30 V0) slices_S4_S1_3) shapeCasts_S1_S_) (shapeCast S_ (extractStridedSlice S1 ![1] (res_main_while0b_v30 V0) slices_S4_S1_1) shapeCasts_S1_S_)))) (mulf (subf (shapeCast S6000 (extractStridedSlice S6000x1 ![0, 2] (V0 (Proc.devRef .tc main_v9_1)) slices_S6000x4_S6000x1_0_2) shapeCasts_S6000x1_S6000) (shapeCast S6000 (extractStridedSlice S6000x1 ![0, 0] (V0 (Proc.devRef .tc main_v9_1)) slices_S6000x4_S6000x1_0_0) shapeCasts_S6000x1_S6000)) (subf (shapeCast S6000 (extractStridedSlice S6000x1 ![0, 3] (V0 (Proc.devRef .tc main_v9_1)) slices_S6000x4_S6000x1_0_3) shapeCasts_S6000x1_S6000) (shapeCast S6000 (extractStridedSlice S6000x1 ![0, 1] (V0 (Proc.devRef .tc main_v9_1)) slices_S6000x4_S6000x1_0_1) shapeCasts_S6000x1_S6000)))) (res_main_while0b_v59 V0)) (broadcastInDim S6000 ![] bcast_S_S6000 (constant S_ .f32 0x3089705F#32)))) (broadcastInDim S6000 ![] bcast_S_S6000 (constant S_ .f32 0x3F333333#32)) : (Proc.devRef .tc main_while0b_v89 : DevRef τ sig).ty.Contents (Elt F)) = Cert.ReferenceIdeal.Step.b105 j s := by
  unfold Cert.ReferenceIdeal.Step.b105
  rw [← al_102 h, ← al_104 h]
  try rfl
set_option maxRecDepth 8192 in
theorem al_106 (h : Holds V0 s j) : (andi (V0 (Proc.devRef .tc main_v9_3)) (cmpf .olt (Host.divf (res_main_while0b_v59 V0) (addf (subf (addf (broadcastInDim S6000 ![] bcast_S_S6000 (mulf (subf (shapeCast S_ (extractStridedSlice S1 ![2] (res_main_while0b_v30 V0) slices_S4_S1_2) shapeCasts_S1_S_) (shapeCast S_ (extractStridedSlice S1 ![0] (res_main_while0b_v30 V0) slices_S4_S1_0) shapeCasts_S1_S_)) (subf (shapeCast S_ (extractStridedSlice S1 ![3] (res_main_while0b_v30 V0) slices_S4_S1_3) shapeCasts_S1_S_) (shapeCast S_ (extractStridedSlice S1 ![1] (res_main_while0b_v30 V0) slices_S4_S1_1) shapeCasts_S1_S_)))) (mulf (subf (shapeCast S6000 (extractStridedSlice S6000x1 ![0, 2] (V0 (Proc.devRef .tc main_v9_1)) slices_S6000x4_S6000x1_0_2) shapeCasts_S6000x1_S6000) (shapeCast S6000 (extractStridedSlice S6000x1 ![0, 0] (V0 (Proc.devRef .tc main_v9_1)) slices_S6000x4_S6000x1_0_0) shapeCasts_S6000x1_S6000)) (subf (shapeCast S6000 (extractStridedSlice S6000x1 ![0, 3] (V0 (Proc.devRef .tc main_v9_1)) slices_S6000x4_S6000x1_0_3) shapeCasts_S6000x1_S6000) (shapeCast S6000 (extractStridedSlice S6000x1 ![0, 1] (V0 (Proc.devRef .tc main_v9_1)) slices_S6000x4_S6000x1_0_1) shapeCasts_S6000x1_S6000)))) (res_main_while0b_v59 V0)) (broadcastInDim S6000 ![] bcast_S_S6000 (constant S_ .f32 0x3089705F#32)))) (broadcastInDim S6000 ![] bcast_S_S6000 (constant S_ .f32 0x3F333333#32))) : (Proc.devRef .tc main_while0b_v90 : DevRef τ sig).ty.Contents (Elt F)) = Cert.ReferenceIdeal.Step.b106 j s := by
  unfold Cert.ReferenceIdeal.Step.b106
  rw [← al_105 h, h.f_3]
  try rfl
set_option maxRecDepth 8192 in
theorem al_107 (h : Holds V0 s j) : (iotaInDim S6000 32 0 : (Proc.devRef .tc main_while0b_v91 : DevRef τ sig).ty.Contents (Elt F)) = Cert.ReferenceIdeal.Step.b107 j s := by
  unfold Cert.ReferenceIdeal.Step.b107
  rfl
set_option maxRecDepth 8192 in
theorem al_108 (h : Holds V0 s j) : (broadcastInDim S6000 ![] bcast_S_S6000 (res_main_while0b_v16 V0) : (Proc.devRef .tc main_while0b_v92 : DevRef τ sig).ty.Contents (Elt F)) = Cert.ReferenceIdeal.Step.b108 j s := by
  unfold Cert.ReferenceIdeal.Step.b108
  rw [← al_14 h]
  try rfl
set_option maxRecDepth 8192 in
theorem al_109 (h : Holds V0 s j) : (cmpi .ne (iotaInDim S6000 32 0) (broadcastInDim S6000 ![] bcast_S_S6000 (res_main_while0b_v16 V0)) : (Proc.devRef .tc main_while0b_v93 : DevRef τ sig).ty.Contents (Elt F)) = Cert.ReferenceIdeal.Step.b109 j s := by
  unfold Cert.ReferenceIdeal.Step.b109
  rw [← al_107 h, ← al_108 h]
  try rfl
set_option maxRecDepth 8192 in
theorem al_110 (h : Holds V0 s j) : (andi (andi (V0 (Proc.devRef .tc main_v9_3)) (cmpf .olt (Host.divf (res_main_while0b_v59 V0) (addf (subf (addf (broadcastInDim S6000 ![] bcast_S_S6000 (mulf (subf (shapeCast S_ (extractStridedSlice S1 ![2] (res_main_while0b_v30 V0) slices_S4_S1_2) shapeCasts_S1_S_) (shapeCast S_ (extractStridedSlice S1 ![0] (res_main_while0b_v30 V0) slices_S4_S1_0) shapeCasts_S1_S_)) (subf (shapeCast S_ (extractStridedSlice S1 ![3] (res_main_while0b_v30 V0) slices_S4_S1_3) shapeCasts_S1_S_) (shapeCast S_ (extractStridedSlice S1 ![1] (res_main_while0b_v30 V0) slices_S4_S1_1) shapeCasts_S1_S_)))) (mulf (subf (shapeCast S6000 (extractStridedSlice S6000x1 ![0, 2] (V0 (Proc.devRef .tc main_v9_1)) slices_S6000x4_S6000x1_0_2) shapeCasts_S6000x1_S6000) (shapeCast S6000 (extractStridedSlice S6000x1 ![0, 0] (V0 (Proc.devRef .tc main_v9_1)) slices_S6000x4_S6000x1_0_0) shapeCasts_S6000x1_S6000)) (subf (shapeCast S6000 (extractStridedSlice S6000x1 ![0, 3] (V0 (Proc.devRef .tc main_v9_1)) slices_S6000x4_S6000x1_0_3) shapeCasts_S6000x1_S6000) (shapeCast S6000 (extractStridedSlice S6000x1 ![0, 1] (V0 (Proc.devRef .tc main_v9_1)) slices_S6000x4_S6000x1_0_1) shapeCasts_S6000x1_S6000)))) (res_main_while0b_v59 V0)) (broadcastInDim S6000 ![] bcast_S_S6000 (constant S_ .f32 0x3089705F#32)))) (broadcastInDim S6000 ![] bcast_S_S6000 (constant S_ .f32 0x3F333333#32)))) (cmpi .ne (iotaInDim S6000 32 0) (broadcastInDim S6000 ![] bcast_S_S6000 (res_main_while0b_v16 V0))) : (Proc.devRef .tc main_while0b_v94 : DevRef τ sig).ty.Contents (Elt F)) = Cert.ReferenceIdeal.Step.b110 j s := by
  unfold Cert.ReferenceIdeal.Step.b110
  rw [← al_106 h, ← al_109 h]
  try rfl
set_option maxRecDepth 8192 in
theorem al_111 (h : Holds V0 s j) : (constantI S_ 32 0#32 : (Proc.devRef .tc main_while0b_c_25 : DevRef τ sig).ty.Contents (Elt F)) = Cert.ReferenceIdeal.Step.b111 j s := by
  unfold Cert.ReferenceIdeal.Step.b111
  rfl
set_option maxRecDepth 8192 in
theorem al_112 (h : Holds V0 s j) : (cmpi .slt (res_main_while0b_v16 V0) (constantI S_ 32 0#32) : (Proc.devRef .tc main_while0b_v95 : DevRef τ sig).ty.Contents (Elt F)) = Cert.ReferenceIdeal.Step.b112 j s := by
  unfold Cert.ReferenceIdeal.Step.b112
  rw [← al_14 h, ← al_111 h]
  try rfl
set_option maxRecDepth 8192 in
theorem al_113 (h : Holds V0 s j) : (constantI S_ 32 6000#32 : (Proc.devRef .tc main_while0b_c_26 : DevRef τ sig).ty.Contents (Elt F)) = Cert.ReferenceIdeal.Step.b113 j s := by
  unfold Cert.ReferenceIdeal.Step.b113
  rfl
set_option maxRecDepth 8192 in
theorem al_114 (h : Holds V0 s j) : (addi (res_main_while0b_v16 V0) (constantI S_ 32 6000#32) : (Proc.devRef .tc main_while0b_v96 : DevRef τ sig).ty.Contents (Elt F)) = Cert.ReferenceIdeal.Step.b114 j s := by
  unfold Cert.ReferenceIdeal.Step.b114
  rw [← al_14 h, ← al_113 h]
  try rfl
set_option maxRecDepth 8192 in
theorem al_115 (h : Holds V0 s j) : (select (cmpi .slt (res_main_while0b_v16 V0) (constantI S_ 32 0#32)) (addi (res_main_while0b_v16 V0) (constantI S_ 32 6000#32)) (res_main_while0b_v16 V0) : (Proc.devRef .tc main_while0b_v97 : DevRef τ sig).ty.Contents (Elt F)) = Cert.ReferenceIdeal.Step.b115 j s := by
  unfold Cert.ReferenceIdeal.Step.b115
  rw [← al_112 h, ← al_114 h, ← al_14 h]
  try rfl
set_option maxRecDepth 8192 in
theorem al_116 (h : Holds V0 s j) : (constantI S_ 32 0#32 : (Proc.devRef .tc main_while0b_c_27 : DevRef τ sig).ty.Contents (Elt F)) = Cert.ReferenceIdeal.Step.b116 j s := by
  unfold Cert.ReferenceIdeal.Step.b116
  rfl
set_option maxRecDepth 8192 in
theorem al_117 (h : Holds V0 s j) : (constantI S_ 32 0#32 : (Proc.devRef .tc main_while0b_c_28 : DevRef τ sig).ty.Contents (Elt F)) = Cert.ReferenceIdeal.Step.b117 j s := by
  unfold Cert.ReferenceIdeal.Step.b117
  rfl
set_option maxRecDepth 8192 in
theorem al_118 (h : Holds V0 s j) : (cmpi .slt (constantI S_ 32 0#32) (constantI S_ 32 0#32) : (Proc.devRef .tc main_while0b_v98 : DevRef τ sig).ty.Contents (Elt F)) = Cert.ReferenceIdeal.Step.b118 j s := by
  unfold Cert.ReferenceIdeal.Step.b118
  rw [← al_116 h, ← al_117 h]
  try rfl
set_option maxRecDepth 8192 in
theorem al_119 (h : Holds V0 s j) : (constantI S_ 32 0#32 : (Proc.devRef .tc main_while0b_c_29 : DevRef τ sig).ty.Contents (Elt F)) = Cert.ReferenceIdeal.Step.b119 j s := by
  unfold Cert.ReferenceIdeal.Step.b119
  rfl
set_option maxRecDepth 8192 in
theorem al_120 (h : Holds V0 s j) : (constantI S_ 32 4#32 : (Proc.devRef .tc main_while0b_c_30 : DevRef τ sig).ty.Contents (Elt F)) = Cert.ReferenceIdeal.Step.b120 j s := by
  unfold Cert.ReferenceIdeal.Step.b120
  rfl
set_option maxRecDepth 8192 in
theorem al_121 (h : Holds V0 s j) : (addi (constantI S_ 32 0#32) (constantI S_ 32 4#32) : (Proc.devRef .tc main_while0b_v99 : DevRef τ sig).ty.Contents (Elt F)) = Cert.ReferenceIdeal.Step.b121 j s := by
  unfold Cert.ReferenceIdeal.Step.b121
  rw [← al_119 h, ← al_120 h]
  try rfl
set_option maxRecDepth 8192 in
theorem al_122 (h : Holds V0 s j) : (constantI S_ 32 0#32 : (Proc.devRef .tc main_while0b_c_31 : DevRef τ sig).ty.Contents (Elt F)) = Cert.ReferenceIdeal.Step.b122 j s := by
  unfold Cert.ReferenceIdeal.Step.b122
  rfl
set_option maxRecDepth 8192 in
theorem al_123 (h : Holds V0 s j) : (select (cmpi .slt (constantI S_ 32 0#32) (constantI S_ 32 0#32)) (addi (constantI S_ 32 0#32) (constantI S_ 32 4#32)) (constantI S_ 32 0#32) : (Proc.devRef .tc main_while0b_v100 : DevRef τ sig).ty.Contents (Elt F)) = Cert.ReferenceIdeal.Step.b123 j s := by
  unfold Cert.ReferenceIdeal.Step.b123
  rw [← al_118 h, ← al_121 h, ← al_122 h]
  try rfl
set_option maxRecDepth 8192 in
theorem al_124 (h : Holds V0 s j) : (Host.dynamicSlice S1x4 (V0 (Proc.devRef .tc main_v9_1)) (fun k => (((![select (cmpi .slt (res_main_while0b_v16 V0) (constantI S_ 32 0#32)) (addi (res_main_while0b_v16 V0) (constantI S_ 32 6000#32)) (res_main_while0b_v16 V0), select (cmpi .slt (constantI S_ 32 0#32) (constantI S_ 32 0#32)) (addi (constantI S_ 32 0#32) (constantI S_ 32 4#32)) (constantI S_ 32 0#32)] : Fin 2 → (⟨S_, .i32⟩ : BufTy).Contents (Elt F))) k (Shape.Idx.first h_S_)).toInt) sliceFits_S6000x4_S1x4 : (Proc.devRef .tc main_while0b_v101 : DevRef τ sig).ty.Contents (Elt F)) = Cert.ReferenceIdeal.Step.b124 j s := by
  unfold Cert.ReferenceIdeal.Step.b124
  rw [← al_115 h, ← al_123 h, h.f_1]
  try rfl
set_option maxRecDepth 8192 in
theorem al_125 (h : Holds V0 s j) : (shapeCast S4 (Host.dynamicSlice S1x4 (V0 (Proc.devRef .tc main_v9_1)) (fun k => (((![select (cmpi .slt (res_main_while0b_v16 V0) (constantI S_ 32 0#32)) (addi (res_main_while0b_v16 V0) (constantI S_ 32 6000#32)) (res_main_while0b_v16 V0), select (cmpi .slt (constantI S_ 32 0#32) (constantI S_ 32 0#32)) (addi (constantI S_ 32 0#32) (constantI S_ 32 4#32)) (constantI S_ 32 0#32)] : Fin 2 → (⟨S_, .i32⟩ : BufTy).Contents (Elt F))) k (Shape.Idx.first h_S_)).toInt) sliceFits_S6000x4_S1x4) shapeCasts_S1x4_S4 : (Proc.devRef .tc main_while0b_v102 : DevRef τ sig).ty.Contents (Elt F)) = Cert.ReferenceIdeal.Step.b125 j s := by
  unfold Cert.ReferenceIdeal.Step.b125
  rw [← al_124 h]
  try rfl
set_option maxRecDepth 8192 in
theorem al_126 (h : Holds V0 s j) : (constantI S_ 32 0#32 : (Proc.devRef .tc main_while0b_c_32 : DevRef τ sig).ty.Contents (Elt F)) = Cert.ReferenceIdeal.Step.b126 j s := by
  unfold Cert.ReferenceIdeal.Step.b126
  rfl
set_option maxRecDepth 8192 in
theorem al_127 (h : Holds V0 s j) : (cmpi .slt (res_main_while0b_v16 V0) (constantI S_ 32 0#32) : (Proc.devRef .tc main_while0b_v103 : DevRef τ sig).ty.Contents (Elt F)) = Cert.ReferenceIdeal.Step.b127 j s := by
  unfold Cert.ReferenceIdeal.Step.b127
  rw [← al_14 h, ← al_126 h]
  try rfl
set_option maxRecDepth 8192 in
theorem al_128 (h : Holds V0 s j) : (constantI S_ 32 6000#32 : (Proc.devRef .tc main_while0b_c_33 : DevRef τ sig).ty.Contents (Elt F)) = Cert.ReferenceIdeal.Step.b128 j s := by
  unfold Cert.ReferenceIdeal.Step.b128
  rfl
set_option maxRecDepth 8192 in
theorem al_129 (h : Holds V0 s j) : (addi (res_main_while0b_v16 V0) (constantI S_ 32 6000#32) : (Proc.devRef .tc main_while0b_v104 : DevRef τ sig).ty.Contents (Elt F)) = Cert.ReferenceIdeal.Step.b129 j s := by
  unfold Cert.ReferenceIdeal.Step.b129
  rw [← al_14 h, ← al_128 h]
  try rfl
set_option maxRecDepth 8192 in
theorem al_130 (h : Holds V0 s j) : (select (cmpi .slt (res_main_while0b_v16 V0) (constantI S_ 32 0#32)) (addi (res_main_while0b_v16 V0) (constantI S_ 32 6000#32)) (res_main_while0b_v16 V0) : (Proc.devRef .tc main_while0b_v105 : DevRef τ sig).ty.Contents (Elt F)) = Cert.ReferenceIdeal.Step.b130 j s := by
  unfold Cert.ReferenceIdeal.Step.b130
  rw [← al_127 h, ← al_129 h, ← al_14 h]
  try rfl
set_option maxRecDepth 8192 in
theorem al_131 (h : Holds V0 s j) : (Host.dynamicSlice S1 (V0 (Proc.devRef .tc main_v9_0)) (fun k => (((![select (cmpi .slt (res_main_while0b_v16 V0) (constantI S_ 32 0#32)) (addi (res_main_while0b_v16 V0) (constantI S_ 32 6000#32)) (res_main_while0b_v16 V0)] : Fin 1 → (⟨S_, .i32⟩ : BufTy).Contents (Elt F))) k (Shape.Idx.first h_S_)).toInt) sliceFits_S6000_S1 : (Proc.devRef .tc main_while0b_v106 : DevRef τ sig).ty.Contents (Elt F)) = Cert.ReferenceIdeal.Step.b131 j s := by
  unfold Cert.ReferenceIdeal.Step.b131
  rw [← al_130 h, h.f_0]
  try rfl
set_option maxRecDepth 8192 in
theorem al_132 (h : Holds V0 s j) : (shapeCast S_ (Host.dynamicSlice S1 (V0 (Proc.devRef .tc main_v9_0)) (fun k => (((![select (cmpi .slt (res_main_while0b_v16 V0) (constantI S_ 32 0#32)) (addi (res_main_while0b_v16 V0) (constantI S_ 32 6000#32)) (res_main_while0b_v16 V0)] : Fin 1 → (⟨S_, .i32⟩ : BufTy).Contents (Elt F))) k (Shape.Idx.first h_S_)).toInt) sliceFits_S6000_S1) shapeCasts_S1_S_ : (Proc.devRef .tc main_while0b_v107 : DevRef τ sig).ty.Contents (Elt F)) = Cert.ReferenceIdeal.Step.b132 j s := by
  unfold Cert.ReferenceIdeal.Step.b132
  rw [← al_131 h]
  try rfl
set_option maxRecDepth 8192 in
theorem al_133 (h : Holds V0 s j) : (broadcastInDim S1 ![] bcast_S_S1 (shapeCast S_ (Host.dynamicSlice S1 (V0 (Proc.devRef .tc main_v9_0)) (fun k => (((![select (cmpi .slt (res_main_while0b_v16 V0) (constantI S_ 32 0#32)) (addi (res_main_while0b_v16 V0) (constantI S_ 32 6000#32)) (res_main_while0b_v16 V0)] : Fin 1 → (⟨S_, .i32⟩ : BufTy).Contents (Elt F))) k (Shape.Idx.first h_S_)).toInt) sliceFits_S6000_S1) shapeCasts_S1_S_) : (Proc.devRef .tc main_while0b_v108 : DevRef τ sig).ty.Contents (Elt F)) = Cert.ReferenceIdeal.Step.b133 j s := by
  unfold Cert.ReferenceIdeal.Step.b133
  rw [← al_132 h]
  try rfl
set_option maxRecDepth 8192 in
theorem al_134 (h : Holds V0 s j) : (concatenate S5 0 [⟨S4, (shapeCast S4 (Host.dynamicSlice S1x4 (V0 (Proc.devRef .tc main_v9_1)) (fun k => (((![select (cmpi .slt (res_main_while0b_v16 V0) (constantI S_ 32 0#32)) (addi (res_main_while0b_v16 V0) (constantI S_ 32 6000#32)) (res_main_while0b_v16 V0), select (cmpi .slt (constantI S_ 32 0#32) (constantI S_ 32 0#32)) (addi (constantI S_ 32 0#32) (constantI S_ 32 4#32)) (constantI S_ 32 0#32)] : Fin 2 → (⟨S_, .i32⟩ : BufTy).Contents (Elt F))) k (Shape.Idx.first h_S_)).toInt) sliceFits_S6000x4_S1x4) shapeCasts_S1x4_S4)⟩, ⟨S1, (broadcastInDim S1 ![] bcast_S_S1 (shapeCast S_ (Host.dynamicSlice S1 (V0 (Proc.devRef .tc main_v9_0)) (fun k => (((![select (cmpi .slt (res_main_while0b_v16 V0) (constantI S_ 32 0#32)) (addi (res_main_while0b_v16 V0) (constantI S_ 32 6000#32)) (res_main_while0b_v16 V0)] : Fin 1 → (⟨S_, .i32⟩ : BufTy).Contents (Elt F))) k (Shape.Idx.first h_S_)).toInt) sliceFits_S6000_S1) shapeCasts_S1_S_))⟩] concatenates_S4_S1_S5_d0 : (Proc.devRef .tc main_while0b_v109 : DevRef τ sig).ty.Contents (Elt F)) = Cert.ReferenceIdeal.Step.b134 j s := by
  unfold Cert.ReferenceIdeal.Step.b134
  rw [← al_125 h, ← al_133 h]
  try rfl
set_option maxRecDepth 8192 in
theorem al_135 (h : Holds V0 s j) : (constant S_ .f32 0xBF800000#32 : (Proc.devRef .tc main_while0b_cst_34 : DevRef τ sig).ty.Contents (Elt F)) = Cert.ReferenceIdeal.Step.b135 j s := by
  unfold Cert.ReferenceIdeal.Step.b135
  rfl
set_option maxRecDepth 8192 in
theorem al_136 (h : Holds V0 s j) : (id (constant S_ .f32 0xBF800000#32) : (Proc.devRef .tc main_while0b_call4_v0 : DevRef τ sig).ty.Contents (Elt F)) = Cert.ReferenceIdeal.Step.b136 j s := by
  unfold Cert.ReferenceIdeal.Step.b136
  rw [← al_135 h]
  try rfl
set_option maxRecDepth 8192 in
theorem al_137 (h : Holds V0 s j) : (broadcastInDim S5 ![] bcast_S_S5 (id (constant S_ .f32 0xBF800000#32)) : (Proc.devRef .tc main_while0b_call4_v1 : DevRef τ sig).ty.Contents (Elt F)) = Cert.ReferenceIdeal.Step.b137 j s := by
  unfold Cert.ReferenceIdeal.Step.b137
  rw [← al_136 h]
  try rfl
set_option maxRecDepth 8192 in
theorem al_138 (h : Holds V0 s j) : (select (broadcastInDim S5 ![] bcast_S_S5 (cmpf .ogt (shapeCast S_ (Host.dynamicSlice S1 (res_main_while0b_v10 V0) (fun k => (((![select (cmpi .slt (res_main_while0b_v16 V0) (constantI S_ 32 0#32)) (addi (res_main_while0b_v16 V0) (constantI S_ 32 6000#32)) (res_main_while0b_v16 V0)] : Fin 1 → (⟨S_, .i32⟩ : BufTy).Contents (Elt F))) k (Shape.Idx.first h_S_)).toInt) sliceFits_S6000_S1) shapeCasts_S1_S_) (constant S_ .f32 0xFF800000#32))) (concatenate S5 0 [⟨S4, (shapeCast S4 (Host.dynamicSlice S1x4 (V0 (Proc.devRef .tc main_v9_1)) (fun k => (((![select (cmpi .slt (res_main_while0b_v16 V0) (constantI S_ 32 0#32)) (addi (res_main_while0b_v16 V0) (constantI S_ 32 6000#32)) (res_main_while0b_v16 V0), select (cmpi .slt (constantI S_ 32 0#32) (constantI S_ 32 0#32)) (addi (constantI S_ 32 0#32) (constantI S_ 32 4#32)) (constantI S_ 32 0#32)] : Fin 2 → (⟨S_, .i32⟩ : BufTy).Contents (Elt F))) k (Shape.Idx.first h_S_)).toInt) sliceFits_S6000x4_S1x4) shapeCasts_S1x4_S4)⟩, ⟨S1, (broadcastInDim S1 ![] bcast_S_S1 (shapeCast S_ (Host.dynamicSlice S1 (V0 (Proc.devRef .tc main_v9_0)) (fun k => (((![select (cmpi .slt (res_main_while0b_v16 V0) (constantI S_ 32 0#32)) (addi (res_main_while0b_v16 V0) (constantI S_ 32 6000#32)) (res_main_while0b_v16 V0)] : Fin 1 → (⟨S_, .i32⟩ : BufTy).Contents (Elt F))) k (Shape.Idx.first h_S_)).toInt) sliceFits_S6000_S1) shapeCasts_S1_S_))⟩] concatenates_S4_S1_S5_d0) (broadcastInDim S5 ![] bcast_S_S5 (id (constant S_ .f32 0xBF800000#32))) : (Proc.devRef .tc main_while0b_v110 : DevRef τ sig).ty.Contents (Elt F)) = Cert.ReferenceIdeal.Step.b138 j s := by
  unfold Cert.ReferenceIdeal.Step.b138
  rw [← al_23 h, ← al_134 h, ← al_137 h]
  try rfl
set_option maxRecDepth 8192 in
theorem al_139 (h : Holds V0 s j) : (broadcastInDim S1x5 ![1] bcast_S5_S1x5_1 (select (broadcastInDim S5 ![] bcast_S_S5 (cmpf .ogt (shapeCast S_ (Host.dynamicSlice S1 (res_main_while0b_v10 V0) (fun k => (((![select (cmpi .slt (res_main_while0b_v16 V0) (constantI S_ 32 0#32)) (addi (res_main_while0b_v16 V0) (constantI S_ 32 6000#32)) (res_main_while0b_v16 V0)] : Fin 1 → (⟨S_, .i32⟩ : BufTy).Contents (Elt F))) k (Shape.Idx.first h_S_)).toInt) sliceFits_S6000_S1) shapeCasts_S1_S_) (constant S_ .f32 0xFF800000#32))) (concatenate S5 0 [⟨S4, (shapeCast S4 (Host.dynamicSlice S1x4 (V0 (Proc.devRef .tc main_v9_1)) (fun k => (((![select (cmpi .slt (res_main_while0b_v16 V0) (constantI S_ 32 0#32)) (addi (res_main_while0b_v16 V0) (constantI S_ 32 6000#32)) (res_main_while0b_v16 V0), select (cmpi .slt (constantI S_ 32 0#32) (constantI S_ 32 0#32)) (addi (constantI S_ 32 0#32) (constantI S_ 32 4#32)) (constantI S_ 32 0#32)] : Fin 2 → (⟨S_, .i32⟩ : BufTy).Contents (Elt F))) k (Shape.Idx.first h_S_)).toInt) sliceFits_S6000x4_S1x4) shapeCasts_S1x4_S4)⟩, ⟨S1, (broadcastInDim S1 ![] bcast_S_S1 (shapeCast S_ (Host.dynamicSlice S1 (V0 (Proc.devRef .tc main_v9_0)) (fun k => (((![select (cmpi .slt (res_main_while0b_v16 V0) (constantI S_ 32 0#32)) (addi (res_main_while0b_v16 V0) (constantI S_ 32 6000#32)) (res_main_while0b_v16 V0)] : Fin 1 → (⟨S_, .i32⟩ : BufTy).Contents (Elt F))) k (Shape.Idx.first h_S_)).toInt) sliceFits_S6000_S1) shapeCasts_S1_S_))⟩] concatenates_S4_S1_S5_d0) (broadcastInDim S5 ![] bcast_S_S5 (id (constant S_ .f32 0xBF800000#32)))) : (Proc.devRef .tc main_while0b_call5_v0 : DevRef τ sig).ty.Contents (Elt F)) = Cert.ReferenceIdeal.Step.b139 j s := by
  unfold Cert.ReferenceIdeal.Step.b139
  rw [← al_138 h]
  try rfl
set_option maxRecDepth 8192 in
theorem al_140 (h : Holds V0 s j) : (constantI S_ 32 0#32 : (Proc.devRef .tc main_while0b_call5_c : DevRef τ sig).ty.Contents (Elt F)) = Cert.ReferenceIdeal.Step.b140 j s := by
  unfold Cert.ReferenceIdeal.Step.b140
  rfl
set_option maxRecDepth 8192 in
theorem al_141 (h : Holds V0 s j) : (Host.dynamicUpdateSlice (V0 (Proc.devRef .tc main_v9_4)) (broadcastInDim S1x5 ![1] bcast_S5_S1x5_1 (select (broadcastInDim S5 ![] bcast_S_S5 (cmpf .ogt (shapeCast S_ (Host.dynamicSlice S1 (res_main_while0b_v10 V0) (fun k => (((![select (cmpi .slt (res_main_while0b_v16 V0) (constantI S_ 32 0#32)) (addi (res_main_while0b_v16 V0) (constantI S_ 32 6000#32)) (res_main_while0b_v16 V0)] : Fin 1 → (⟨S_, .i32⟩ : BufTy).Contents (Elt F))) k (Shape.Idx.first h_S_)).toInt) sliceFits_S6000_S1) shapeCasts_S1_S_) (constant S_ .f32 0xFF800000#32))) (concatenate S5 0 [⟨S4, (shapeCast S4 (Host.dynamicSlice S1x4 (V0 (Proc.devRef .tc main_v9_1)) (fun k => (((![select (cmpi .slt (res_main_while0b_v16 V0) (constantI S_ 32 0#32)) (addi (res_main_while0b_v16 V0) (constantI S_ 32 6000#32)) (res_main_while0b_v16 V0), select (cmpi .slt (constantI S_ 32 0#32) (constantI S_ 32 0#32)) (addi (constantI S_ 32 0#32) (constantI S_ 32 4#32)) (constantI S_ 32 0#32)] : Fin 2 → (⟨S_, .i32⟩ : BufTy).Contents (Elt F))) k (Shape.Idx.first h_S_)).toInt) sliceFits_S6000x4_S1x4) shapeCasts_S1x4_S4)⟩, ⟨S1, (broadcastInDim S1 ![] bcast_S_S1 (shapeCast S_ (Host.dynamicSlice S1 (V0 (Proc.devRef .tc main_v9_0)) (fun k => (((![select (cmpi .slt (res_main_while0b_v16 V0) (constantI S_ 32 0#32)) (addi (res_main_while0b_v16 V0) (constantI S_ 32 6000#32)) (res_main_while0b_v16 V0)] : Fin 1 → (⟨S_, .i32⟩ : BufTy).Contents (Elt F))) k (Shape.Idx.first h_S_)).toInt) sliceFits_S6000_S1) shapeCasts_S1_S_))⟩] concatenates_S4_S1_S5_d0) (broadcastInDim S5 ![] bcast_S_S5 (id (constant S_ .f32 0xBF800000#32))))) (fun k => (((![V0 (Proc.devRef .tc main_v9_2), constantI S_ 32 0#32] : Fin 2 → (⟨S_, .i32⟩ : BufTy).Contents (Elt F))) k (Shape.Idx.first h_S_)).toInt) updateFits_S1000x5_S1x5 : (Proc.devRef .tc main_while0b_v111 : DevRef τ sig).ty.Contents (Elt F)) = Cert.ReferenceIdeal.Step.b141 j s := by
  unfold Cert.ReferenceIdeal.Step.b141
  rw [← al_139 h, ← al_140 h, h.f_4, h.n_2]
  try rfl

/-! One trip's step of the carried values is `step`, field by field; a counter steps to the next number. -/

theorem step_3 (h : Holds V0 s j) : step_main_v9_3 V0 = (step j s).main_v9_3 := by
  unfold step_main_v9_3 Cert.ReferenceIdeal.Step.step
  show id (andi (andi (V0 (Proc.devRef .tc main_v9_3)) (cmpf .olt (Host.divf (res_main_while0b_v59 V0) (addf (subf (addf (broadcastInDim S6000 ![] bcast_S_S6000 (mulf (subf (shapeCast S_ (extractStridedSlice S1 ![2] (res_main_while0b_v30 V0) slices_S4_S1_2) shapeCasts_S1_S_) (shapeCast S_ (extractStridedSlice S1 ![0] (res_main_while0b_v30 V0) slices_S4_S1_0) shapeCasts_S1_S_)) (subf (shapeCast S_ (extractStridedSlice S1 ![3] (res_main_while0b_v30 V0) slices_S4_S1_3) shapeCasts_S1_S_) (shapeCast S_ (extractStridedSlice S1 ![1] (res_main_while0b_v30 V0) slices_S4_S1_1) shapeCasts_S1_S_)))) (mulf (subf (shapeCast S6000 (extractStridedSlice S6000x1 ![0, 2] (V0 (Proc.devRef .tc main_v9_1)) slices_S6000x4_S6000x1_0_2) shapeCasts_S6000x1_S6000) (shapeCast S6000 (extractStridedSlice S6000x1 ![0, 0] (V0 (Proc.devRef .tc main_v9_1)) slices_S6000x4_S6000x1_0_0) shapeCasts_S6000x1_S6000)) (subf (shapeCast S6000 (extractStridedSlice S6000x1 ![0, 3] (V0 (Proc.devRef .tc main_v9_1)) slices_S6000x4_S6000x1_0_3) shapeCasts_S6000x1_S6000) (shapeCast S6000 (extractStridedSlice S6000x1 ![0, 1] (V0 (Proc.devRef .tc main_v9_1)) slices_S6000x4_S6000x1_0_1) shapeCasts_S6000x1_S6000)))) (res_main_while0b_v59 V0)) (broadcastInDim S6000 ![] bcast_S_S6000 (constant S_ .f32 0x3089705F#32)))) (broadcastInDim S6000 ![] bcast_S_S6000 (constant S_ .f32 0x3F333333#32)))) (cmpi .ne (iotaInDim S6000 32 0) (broadcastInDim S6000 ![] bcast_S_S6000 (res_main_while0b_v16 V0)))) = _
  rw [al_110 h]
  try rfl
theorem step_4 (h : Holds V0 s j) : step_main_v9_4 V0 = (step j s).main_v9_4 := by
  unfold step_main_v9_4 Cert.ReferenceIdeal.Step.step
  exact al_141 h
theorem step_2 (h : Holds V0 s j) : step_main_v9_2 V0 = constantI S_ 32 (BitVec.ofNat 32 (j + 1)) := by
  unfold step_main_v9_2
  rw [h.n_2]
  funext i
  show BitVec.ofNat 32 j + 1#32 = BitVec.ofNat 32 (j + 1)
  simp only [BitVec.ofNat_add]

/-- One trip keeps the valuation holding: `step` of the state, the same set-up values, the next number. -/
theorem holds_step (h : Holds V0 s j) : Holds (STEP V0) (step j s) (j + 1) where
  f_3 := (STEP_main_v9_3 V0).trans (step_3 h)
  f_4 := (STEP_main_v9_4 V0).trans (step_4 h)
  n_2 := (STEP_main_v9_2 V0).trans (step_2 h)
  f_0 := (STEP_main_v9_0 V0).trans h.f_0
  f_1 := (STEP_main_v9_1 V0).trans h.f_1

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1))

variable (m : (ℓ : Loc nD τ sig) → Buf (Elt F) ℓ) (c : Dev nD)

set_option maxRecDepth 65536 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 1000 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v9_4) = (it c 1000).main_v9_4
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    have hk := holds_iter m c (it c) (h0 c) (hs c) 1000
    ⟨(h c).1.trans hk.f_4, (h c).2.1, (h c).2.2⟩) (Value.run m ρ)

end Cert.Proof.RefRun

end
-- ==== Proof.Value.Sort.lean ====
/-
  The sort of the kernel over the extended reals: every compare-exchange pass of the six arrays reads them through one
  and the same rearrangement of the 32768 places, and the rearrangements of all the passes together are those of the
  bitonic sorting network in the order "higher score first, and of equal scores the earlier original place".
-/
module

public import Idealize.ShloMosaic.Lib.SortNet.Printed
public import Idealize.ShloMosaic.Lib.SortNet.Sorts
public import Idealize.ShloMosaic.Lib.ValueIdxCore
public import Mathlib.Data.Prod.Lex
public import proofs.«01_k».proof.Proof.KI.Result

@[expose] public section

noncomputable section

namespace Cert.Proof.Value

open Cert.KernelIdeal Cert.KernelIdeal.Gen Cert.Proof.KI

open Idealize.ShloMosaic Idealize.ShloMosaic.SortNet

/-- The places of a padded array, in row-major order. -/
abbrev Place := Fin (2 ^ 15)

/-- Where place `p` lies: row `p / 128`, lane `p % 128`. -/
def ix (p : Place) : S256x128.Idx := ValueIdx.ix2 ⟨p.val / 128, by omega⟩ ⟨p.val % 128, Nat.mod_lt _ (by decide)⟩

theorem ix_surjective (j : S256x128.Idx) : ∃ p, j = ix p := by
  obtain ⟨a, b, rfl⟩ : ∃ (a : Fin 256) (b : Fin 128), j = ValueIdx.ix2 a b := ⟨j 0, j 1, ValueIdx.eq_ix2 j⟩
  refine ⟨⟨a.val * 128 + b.val, by omega⟩, ?_⟩
  unfold ix
  congr 1
  · apply Fin.ext; show a.val = (a.val * 128 + b.val) / 128; omega
  · apply Fin.ext; show b.val = (a.val * 128 + b.val) % 128; omega

/-- The column of all rows at one lane. -/
def rowColumn (l : Fin 128) : Column S256x128 0 8 where
  col i := ValueIdx.ix2 ⟨i.val, i.isLt⟩ l
  size_eq := rfl
  coord _ := rfl
  other i i' b hb := by
    fin_cases b
    · exact absurd rfl hb
    · rfl

/-- The column of all lanes at one row. -/
def laneColumn (r : Fin 256) : Column S256x128 1 7 where
  col i := ValueIdx.ix2 r ⟨i.val, i.isLt⟩
  size_eq := rfl
  coord _ := rfl
  other i i' b hb := by
    fin_cases b
    · rfl
    · exact absurd rfl hb

theorem row_bit (s : ℕ) (p : ℕ) : p / 128 &&& 2 ^ s = 0 ↔ p &&& 2 ^ (s + 7) = 0 := by
  rw [and_two_pow_eq_zero_iff_testBit, and_two_pow_eq_zero_iff_testBit, show (128 : ℕ) = 2 ^ 7 from rfl, Nat.testBit_div_two_pow]

theorem lane_bit {s : ℕ} (hs : s < 7) (p : ℕ) : p % 128 &&& 2 ^ s = 0 ↔ p &&& 2 ^ s = 0 := by
  rw [and_two_pow_eq_zero_iff_testBit, and_two_pow_eq_zero_iff_testBit, show (128 : ℕ) = 2 ^ 7 from rfl, Nat.testBit_mod_two_pow]
  simp [hs]

theorem row_partner {s : ℕ} (hs : s < 8) (p : Place) :
    (rowColumn ⟨p.val % 128, Nat.mod_lt _ (by decide)⟩).col (partner 8 s ⟨p.val / 128, by omega⟩) = ix (partner 15 (s + 7) p) := by
  unfold rowColumn ix
  have e15 : (partner 15 (s + 7) p).val = p.val ^^^ 2 ^ (s + 7) := partner_val (by omega) p
  have e8 : (partner 8 s ⟨p.val / 128, by omega⟩).val = p.val / 128 ^^^ 2 ^ s := partner_val hs _
  have hd : (p.val ^^^ 2 ^ (s + 7)) / 128 = p.val / 128 ^^^ 2 ^ s := by
    rw [show (128 : ℕ) = 2 ^ 7 from rfl, Nat.xor_div_two_pow, Nat.pow_div (by omega) (by decide), Nat.add_sub_cancel]
  have hm : (p.val ^^^ 2 ^ (s + 7)) % 128 = p.val % 128 := by
    rw [show (128 : ℕ) = 2 ^ 7 from rfl, Nat.xor_mod_two_pow,
      show 2 ^ (s + 7) % 2 ^ 7 = 0 from Nat.mod_eq_zero_of_dvd (Nat.pow_dvd_pow 2 (by omega)), Nat.xor_zero]
  show ValueIdx.ix2 _ _ = ValueIdx.ix2 _ _
  congr 1
  · apply Fin.ext; show (partner 8 s _).val = (partner 15 (s + 7) p).val / 128; rw [e8, e15, hd]
  · apply Fin.ext; show p.val % 128 = (partner 15 (s + 7) p).val % 128; rw [e15, hm]

theorem lane_partner {s : ℕ} (hs : s < 7) (p : Place) :
    (laneColumn ⟨p.val / 128, by omega⟩).col (partner 7 s ⟨p.val % 128, Nat.mod_lt _ (by decide)⟩) = ix (partner 15 s p) := by
  unfold laneColumn ix
  have e15 : (partner 15 s p).val = p.val ^^^ 2 ^ s := partner_val (by omega) p
  have e7 : (partner 7 s ⟨p.val % 128, Nat.mod_lt _ (by decide)⟩).val = p.val % 128 ^^^ 2 ^ s := partner_val hs _
  have hlt : 2 ^ s < 2 ^ 7 := Nat.pow_lt_pow_right (by decide) hs
  have hd : (p.val ^^^ 2 ^ s) / 128 = p.val / 128 := by
    rw [show (128 : ℕ) = 2 ^ 7 from rfl, Nat.xor_div_two_pow, Nat.div_eq_of_lt hlt, Nat.xor_zero]
  have hm : (p.val ^^^ 2 ^ s) % 128 = p.val % 128 ^^^ 2 ^ s := by
    rw [show (128 : ℕ) = 2 ^ 7 from rfl, Nat.xor_mod_two_pow, Nat.mod_eq_of_lt hlt]
  show ValueIdx.ix2 _ _ = ValueIdx.ix2 _ _
  congr 1
  · apply Fin.ext; show p.val / 128 = (partner 15 s p).val / 128; rw [e15, hd]
  · apply Fin.ext; show (partner 7 s _).val = (partner 15 s p).val % 128; rw [e7, e15, hm]

/-- The partner's element as a row pass fetches it: two rotations along the rows and a choice by the place's bit. -/
theorem row_fetch {α : Type} {s : ℕ} (hs : s < 8) (b : IVec S256x128 1)
    (hb : ∀ p : Place, b (ix p) = BitVec.ofBool (decide (p.val &&& 2 ^ (s + 7) ≠ 0))) (d nd : BitVec 32) (hd : d.toNat = 2 ^ s)
    (hnd : nd.toNat = 2 ^ 8 - 2 ^ s) (x : S256x128.Idx → α) (p : Place) :
    select b (dynamicRotate 0 d none x rotates_S256x128_d0) (dynamicRotate 0 nd none x rotates_S256x128_d0) (ix p)
      = x (ix (partner 15 (s + 7) p)) := by
  show Scalar.select (b (ix p)) _ _ = _
  rw [hb, select_ofBool, ← row_partner hs]
  have e : ix p = (rowColumn ⟨p.val % 128, Nat.mod_lt _ (by decide)⟩).col ⟨p.val / 128, by have := p.isLt; omega⟩ := by
    unfold ix rowColumn; rfl
  by_cases h : p.val &&& 2 ^ (s + 7) = 0
  · rw [decide_eq_false (not_not.mpr h), if_neg Bool.false_ne_true, e]
    exact Column.rotate_of_clear _ hs nd hnd x _ _ ((row_bit s p.val).mpr h)
  · rw [decide_eq_true h, if_pos rfl, e]
    exact Column.rotate_of_set _ hs d hd x _ _ (fun h' => h ((row_bit s p.val).mp h'))

/-- The partner's element as a lane pass fetches it. -/
theorem lane_fetch {α : Type} {s : ℕ} (hs : s < 7) (b : IVec S256x128 1)
    (hb : ∀ p : Place, b (ix p) = BitVec.ofBool (decide (p.val &&& 2 ^ s ≠ 0))) (d nd : BitVec 32) (hd : d.toNat = 2 ^ s)
    (hnd : nd.toNat = 2 ^ 7 - 2 ^ s) (x : S256x128.Idx → α) (p : Place) :
    select b (dynamicRotate 1 d none x rotates_S256x128_d1) (dynamicRotate 1 nd none x rotates_S256x128_d1) (ix p)
      = x (ix (partner 15 s p)) := by
  show Scalar.select (b (ix p)) _ _ = _
  rw [hb, select_ofBool, ← lane_partner hs]
  have e : ix p = (laneColumn ⟨p.val / 128, by have := p.isLt; omega⟩).col ⟨p.val % 128, Nat.mod_lt _ (by decide)⟩ := by
    unfold ix laneColumn; rfl
  by_cases h : p.val &&& 2 ^ s = 0
  · rw [decide_eq_false (not_not.mpr h), if_neg Bool.false_ne_true, e]
    exact Column.rotate_of_clear _ hs nd hnd x _ _ ((lane_bit hs p.val).mpr h)
  · rw [decide_eq_true h, if_pos rfl, e]
    exact Column.rotate_of_set _ hs d hd x _ _ (fun h' => h ((lane_bit hs p.val).mp h'))

/-- The places' own numbers. -/
theorem numbers (p : Place) : k0_pay50 (ix p) = BitVec.ofNat 32 p.val := by
  have e0 : iota .tc S256x128 32 [0] iota_S256x128_d0_w32 (ix p) = BitVec.ofNat 32 (p.val / 128) :=
    (rowColumn ⟨p.val % 128, Nat.mod_lt _ (by decide)⟩).iota_apply .tc iota_S256x128_d0_w32 ⟨p.val / 128, by omega⟩
  have e1 : iota .tc S256x128 32 [1] iota_S256x128_d1_w32 (ix p) = BitVec.ofNat 32 (p.val % 128) :=
    (laneColumn ⟨p.val / 128, by omega⟩).iota_apply .tc iota_S256x128_d1_w32 ⟨p.val % 128, Nat.mod_lt _ (by decide)⟩
  have e : k0_pay50 (ix p) = iota .tc S256x128 32 [0] iota_S256x128_d0_w32 (ix p) * 128#32 + iota .tc S256x128 32 [1] iota_S256x128_d1_w32 (ix p) := rfl
  rw [e, e0, e1]
  have hp := p.isLt
  apply BitVec.eq_of_toNat_eq
  simp only [BitVec.toNat_add, BitVec.toNat_mul, BitVec.toNat_ofNat]
  omega

/-- A bit of the places' own numbers, as the passes test it. -/
theorem bit_test (d : BitVec 32) {s : ℕ} (hd : d.toNat = 2 ^ s) (p : Place) :
    cmpi .ne (andi k0_pay50 (broadcast S256x128 d)) (broadcast S256x128 0#32) (ix p) = BitVec.ofBool (decide (p.val &&& 2 ^ s ≠ 0)) := by
  have hp : p.val < 2 ^ 32 := by have := p.isLt; omega
  show BitVec.ofBool (IntOp.andi (k0_pay50 (ix p)) d != 0#32) = _
  rw [numbers]
  congr 1
  rw [Bool.eq_iff_iff, bne_iff_ne, decide_eq_true_eq, Ne, and_distance_eq_zero_iff hp d hd]

/-- The order of the sort: a score and an original place; more is a higher score, and of equal scores the earlier place. -/
abbrev Key := EReal ×ₗ Placeᵒᵈ

/-- Two entries compared, as a pass does it. -/
theorem before_iff (x y : EReal) (u v : Place) :
    IntOp.ori (Ideal.cmp .ogt x y) (IntOp.andi (Ideal.cmp .oeq x y) (IntOp.cmpi .slt (BitVec.ofNat 32 u.val) (BitVec.ofNat 32 v.val)))
      = BitVec.ofBool (decide ((toLex (y, OrderDual.toDual v) : Key) < toLex (x, OrderDual.toDual u))) := by
  have hs : IntOp.cmpi .slt (BitVec.ofNat 32 u.val) (BitVec.ofNat 32 v.val) = BitVec.ofBool (decide (u < v)) := by
    show BitVec.ofBool (BitVec.slt _ _) = _
    congr 1
    have hu := u.isLt
    have hv := v.isLt
    rw [BitVec.slt_eq_decide, BitVec.toInt_eq_toNat_of_lt (by simp; omega), BitVec.toInt_eq_toNat_of_lt (by simp; omega),
      BitVec.toNat_ofNat, BitVec.toNat_ofNat, Nat.mod_eq_of_lt (by omega), Nat.mod_eq_of_lt (by omega)]
    simp only [Nat.cast_lt, Fin.lt_def]
  rw [hs]
  unfold Ideal.cmp
  have hl : ((toLex (y, OrderDual.toDual v) : Key) < toLex (x, OrderDual.toDual u)) ↔ y < x ∨ (x = y ∧ u < v) := by
    rw [Prod.Lex.toLex_lt_toLex]
    simp only [OrderDual.toDual_lt_toDual, eq_comm]
  have hl' : decide ((toLex (y, OrderDual.toDual v) : Key) < toLex (x, OrderDual.toDual u)) = (decide (y < x) || (decide (x = y) && decide (u < v))) := by
    rw [Bool.eq_iff_iff]; simp [hl]
  rw [hl']
  by_cases h1 : y < x <;> by_cases h2 : x = y <;> by_cases h3 : u < v <;> simp [h1, h2, h3] <;> rfl

/-- The arrays `a` hold the arrays `a0` read through `κ`. -/
structure Holds (a a0 : Arrs Ideal) (κ : Place → Place) : Prop where
  s : ∀ p, a.s (ix p) = a0.s (ix (κ p))
  i : ∀ p, a.i (ix p) = BitVec.ofNat 32 (κ p).val
  x1 : ∀ p, a.x1 (ix p) = a0.x1 (ix (κ p))
  y1 : ∀ p, a.y1 (ix p) = a0.y1 (ix (κ p))
  x2 : ∀ p, a.x2 (ix p) = a0.x2 (ix (κ p))
  y2 : ∀ p, a.y2 (ix p) = a0.y2 (ix (κ p))

/-- The key of the entry that starts at place `u`. -/
def key (a0 : Arrs Ideal) (u : Place) : Key := toLex (a0.s (ix u), OrderDual.toDual u)

theorem key_injective (a0 : Arrs Ideal) : Function.Injective (key a0) := fun u v h => by
  have := congrArg (fun k : Key => OrderDual.ofDual (ofLex k).2) h
  exact this

/-- Which places keep their own entry at one pass, given the comparison with the partner. -/
def keeps (s l : ℕ) : Place → Bool := upperXor s fun i => decide (i.val &&& 2 ^ (l + 1) = 0) == true

theorem keeps_partner {s l : ℕ} (hs : s < 15) (hsl : s ≤ l) (j : Place) : keeps s l (partner 15 s j) = !keeps s l j :=
  upperXor_partner hs _ j (sizeClear_partner hs hsl true j)

/-- The rearrangement of one pass. -/
def passed (a0 : Arrs Ideal) (s l : ℕ) (κ : Place → Place) (p : Place) : Place := κ (stageSrc 15 s (keeps s l) (key a0 ∘ κ) p)

theorem key_passed (a0 : Arrs Ideal) {s l : ℕ} (hs : s < 15) (hsl : s ≤ l) (κ : Place → Place) :
    key a0 ∘ passed a0 s l κ
      = Network.apply (stage 15 s fun i => decide (i.val &&& 2 ^ (l + 1) = 0) == true) (key a0 ∘ κ) := by
  funext p
  rw [← stage_upperXor]
  exact (apply_stage_src hs (keeps s l) (keeps_partner hs hsl) (key a0 ∘ κ) p).symm

/-- The choice one pass makes at a place, on any array read through `κ`. -/
theorem choose_passed {α : Type} (a0 : Arrs Ideal) {s l : ℕ} (κ : Place → Place) (x x0 px : S256x128.Idx → α) (g : IVec S256x128 1)
    (hx : ∀ p, x (ix p) = x0 (ix (κ p))) (hpx : ∀ p, px (ix p) = x (ix (partner 15 s p)))
    (hg : ∀ p, g (ix p) = BitVec.ofBool (decide (decide ((key a0 ∘ κ) (partner 15 s p) < (key a0 ∘ κ) p) = keeps s l p))) (p : Place) :
    select g x px (ix p) = x0 (ix (passed a0 s l κ p)) := by
  show Scalar.select (g (ix p)) _ _ = _
  rw [hg, select_ofBool, hpx, hx, hx]
  unfold passed stageSrc
  by_cases h : decide ((key a0 ∘ κ) (partner 15 s p) < (key a0 ∘ κ) p) = keeps s l p
  · simp only [h, decide_true, if_true]
  · simp only [h, decide_false, Bool.false_eq_true, if_false]

/-- The comparison of one pass, as printed: the entry is kept. -/
theorem keep_test (a0 : Arrs Ideal) {s l : ℕ} (κ : Place → Place) (xs ps : FVec Ideal S256x128 .f32) (xi pi : IVec S256x128 32)
    (hs : ∀ p, xs (ix p) = a0.s (ix (κ p))) (hi : ∀ p, xi (ix p) = BitVec.ofNat 32 (κ p).val)
    (hps : ∀ p, ps (ix p) = xs (ix (partner 15 s p))) (hpi : ∀ p, pi (ix p) = xi (ix (partner 15 s p)))
    (b b' : IVec S256x128 1) (hb : ∀ p : Place, b (ix p) = BitVec.ofBool (decide (p.val &&& 2 ^ s ≠ 0)))
    (hb' : ∀ p : Place, b' (ix p) = BitVec.ofBool (decide (p.val &&& 2 ^ (l + 1) ≠ 0))) (p : Place) :
    xori (xori (ori (cmpf .ogt xs ps) (andi (cmpf .oeq xs ps) (cmpi .slt xi pi))) b) b' (ix p)
      = BitVec.ofBool (decide (decide ((key a0 ∘ κ) (partner 15 s p) < (key a0 ∘ κ) p) = keeps s l p)) := by
  show IntOp.xori (IntOp.xori (IntOp.ori (Ideal.cmp .ogt (xs (ix p)) (ps (ix p)))
    (IntOp.andi (Ideal.cmp .oeq (xs (ix p)) (ps (ix p))) (IntOp.cmpi .slt (xi (ix p)) (pi (ix p))))) (b (ix p))) (b' (ix p)) = _
  rw [hb, hb', hps, hpi, hs, hs, hi, hi, before_iff, ofBool_xor, ofBool_xor]
  congr 1
  have ek : decide ((toLex (a0.s (ix (κ (partner 15 s p))), OrderDual.toDual (κ (partner 15 s p))) : Key)
      < toLex (a0.s (ix (κ p)), OrderDual.toDual (κ p))) = decide ((key a0 ∘ κ) (partner 15 s p) < (key a0 ∘ κ) p) := rfl
  rw [ek]
  unfold keeps upperXor
  generalize decide ((key a0 ∘ κ) (partner 15 s p) < (key a0 ∘ κ) p) = w
  by_cases h1 : p.val &&& 2 ^ s = 0 <;> by_cases h2 : p.val &&& 2 ^ (l + 1) = 0 <;> cases w <;> simp [h1, h2]

end Cert.Proof.Value
-- ==== Proof.Value.Greedy.lean ====
/-
  Greedy suppression, as plain mathematics over the extended reals: round by round the least eligible candidate is
  taken, its row is emitted, and the candidates that overlap it too much drop out. Going through the candidates in
  order, two at a time, takes the same candidates in the same rounds.
-/
module

public import Idealize.ShloMosaic.PureOps.Ideal
public import Mathlib.Data.Nat.Find

@[expose] public section

noncomputable section

namespace Cert.Proof.Value

open Idealize.ShloMosaic

/-- A box: left, top, right and bottom edge. -/
abbrev Box := Fin 4 → EReal

/-- The constant added to the union. -/
def eps : EReal := Ideal.ofBits .f32 0x3089705F#32
/-- The threshold on the overlap. -/
def thr : EReal := Ideal.ofBits .f32 0x3F333333#32
/-- The padding of the result. -/
def neg1 : EReal := Ideal.ofBits .f32 0xBF800000#32

theorem neg_inf : Ideal.ofBits .f32 0xFF800000#32 = ⊥ := by simp [Ideal.ofBits, Ideal.ieee]
theorem neg1_eq : neg1 = ((-1 : ℝ) : EReal) := by
  unfold neg1
  simp [Ideal.ofBits, Ideal.ieee, -EReal.coe_mul, -EReal.coe_neg]; norm_num
theorem bot_lt_neg1 : ⊥ < neg1 := by rw [neg1_eq]; exact EReal.bot_lt_coe _

/-- The area two boxes share. -/
def inter (a b : Box) : EReal := max (min (a 2) (b 2) - max (a 0) (b 0)) 0 * max (min (a 3) (b 3) - max (a 1) (b 1)) 0
/-- The area of a box. -/
def area (b : Box) : EReal := (b 2 - b 0) * (b 3 - b 1)
/-- The overlap of two boxes is under the threshold. -/
def clear (a b : Box) : Bool := decide (Ideal.div (inter a b) (area a + area b - inter a b + eps) < thr)

/-- A row of the result. -/
def entry (b : Box) (s : EReal) (l : ℕ) : EReal :=
  if l = 0 then b 0 else if l = 1 then b 1 else if l = 2 then b 2 else if l = 3 then b 3 else if l = 4 then s else neg1

variable (B : ℕ → Box) (S : ℕ → EReal)

open Classical in
/-- The least eligible candidate (0 if there is none). -/
def first (v : ℕ → Bool) : ℕ := if h : ∃ i, v i = true then Nat.find h else 0

theorem first_spec {v : ℕ → Bool} (h : ∃ i, v i = true) : v (first v) = true := by
  classical
  unfold first
  rw [dif_pos h]
  exact Nat.find_spec h

theorem first_eq {v : ℕ → Bool} {j : ℕ} (hj : v j = true) (hlt : ∀ i, i < j → v i = false) : first v = j := by
  classical
  unfold first
  rw [dif_pos ⟨j, hj⟩, Nat.find_eq_iff]
  exact ⟨hj, fun i hi => by rw [hlt i hi]; decide⟩

theorem first_min {v : ℕ → Bool} {i : ℕ} (hi : i < first v) : v i = false := by
  classical
  unfold first at hi
  by_cases h : ∃ i, v i = true
  · rw [dif_pos h] at hi
    exact Bool.eq_false_iff.mpr (Nat.find_min h hi)
  · rw [dif_neg h] at hi
    omega

/-- Who is eligible after a round. -/
def next (v : ℕ → Bool) (i : ℕ) : Bool := v i && clear (B (first v)) (B i) && decide (i ≠ first v)

/-- Who is eligible before round `n`. -/
def V : ℕ → ℕ → Bool
  | 0 => fun i => decide (i < 6000)
  | n + 1 => next B (V n)

open Classical in
/-- The row a round emits. -/
def rowAt (v : ℕ → Bool) (l : ℕ) : EReal := if ∃ i, v i = true then entry (B (first v)) (S (first v)) l else neg1

theorem V_lt (n i : ℕ) (h : V B n i = true) : i < 6000 := by
  induction n with
  | zero => exact of_decide_eq_true h
  | succ n ih =>
    refine ih ?_
    change next B (V B n) i = true at h
    unfold next at h
    simp only [Bool.and_eq_true] at h
    exact h.1.1

theorem V_succ_false {n i : ℕ} (h : V B n i = false) : V B (n + 1) i = false := by
  show next B (V B n) i = false
  unfold next
  rw [h]; rfl

theorem V_false_of_le {n m i : ℕ} (hnm : n ≤ m) (h : V B n i = false) : V B m i = false := by
  induction m, hnm using Nat.le_induction with
  | base => exact h
  | succ m _ ih => exact V_succ_false B ih

theorem rowAt_none {v : ℕ → Bool} (h : ∀ i, v i = false) (l : ℕ) : rowAt B S v l = neg1 := by
  unfold rowAt
  rw [if_neg]
  rintro ⟨i, hi⟩
  rw [h i] at hi
  exact absurd hi (by decide)

/-- What going through the candidates keeps: before candidate `j`, with `n` rows emitted. -/
structure Inv (j n : ℕ) (mask : ℕ → EReal) (out : ℕ → ℕ → EReal) : Prop where
  mask : ∀ i, j ≤ i → i < 6144 → mask i = if V B n i then 1 else 0
  done : ∀ i, i < j → V B n i = false
  rows : ∀ r, r < n → r < 1000 → ∀ l, l < 5 → out r l = rowAt B S (V B r) l
  rest : ∀ r, n ≤ r → r < 1000 → ∀ l, l < 5 → out r l = neg1

/-- A candidate that is taken is the round's least. -/
theorem taken {j n : ℕ} (hd : ∀ i, i < j → V B n i = false) (ht : V B n j = true) :
    (∀ i, V B (n + 1) i = (V B n i && clear (B j) (B i) && decide (i ≠ j))) ∧ (∀ i, i < j + 1 → V B (n + 1) i = false)
      ∧ ∀ l, rowAt B S (V B n) l = entry (B j) (S j) l := by
  have hf := first_eq ht hd
  have hv : ∀ i, V B (n + 1) i = (V B n i && clear (B j) (B i) && decide (i ≠ j)) := fun i => by
    show next B (V B n) i = _
    unfold next
    rw [hf]
  refine ⟨hv, fun i hi => ?_, fun l => ?_⟩
  · by_cases h : i = j
    · rw [hv, h]; simp
    · rw [hv, hd i (by omega)]; rfl
  · unfold rowAt
    rw [if_pos ⟨j, ht⟩, hf]

/-- A candidate that is not taken changes nothing. -/
theorem passed_over {j n : ℕ} (hd : ∀ i, i < j → V B n i = false) (ht : V B n j = false) : ∀ i, i < j + 1 → V B n i = false := by
  intro i hi
  by_cases h : i = j
  · rw [h, ht]
  · exact hd i (by omega)

/-- Two candidates at once. -/
theorem Inv.step {j n : ℕ} {mask : ℕ → EReal} {out : ℕ → ℕ → EReal} (h : Inv B S j n mask out) (hj : j + 1 < 6144) (hn : n < 1000)
    (t1 t2 : Bool) (h1 : t1 = V B n j) (h2 : t2 = (V B n (j + 1) && (!t1 || clear (B j) (B (j + 1)))))
    (mask' : ℕ → EReal) (out' : ℕ → ℕ → EReal)
    (hm : ∀ i, i < 6144 → mask' i = if ((clear (B j) (B i) && decide (i ≠ j) || !t1) && (clear (B (j + 1)) (B i) && decide (i ≠ j + 1) || !t2)) = true
      then mask i else 0)
    (ho : ∀ r, r < 1000 → ∀ l, l < 5 → out' r l = if t2 = true ∧ r = n + t1.toNat then entry (B (j + 1)) (S (j + 1)) l
      else if t1 = true ∧ r = n then entry (B j) (S j) l else out r l) :
    Inv B S (j + 2) (n + t1.toNat + t2.toNat) mask' out' := by
  cases e1 : t1
  · subst e1
    have hd1 := passed_over B h.done h1.symm
    have e2' : t2 = V B n (j + 1) := by rw [h2]; simp
    cases e2 : t2
    · subst e2
      exact
        { mask := fun i hi hi' => by
            rw [hm i hi', h.mask i (by omega) hi']
            simp
          done := passed_over B hd1 e2'.symm
          rows := fun r hr hr' l hl => by
            rw [ho r hr' l hl, ← h.rows r hr hr' l hl]
            simp
          rest := fun r hr hr' l hl => by
            rw [ho r hr' l hl, ← h.rest r hr hr' l hl]
            simp }
    · subst e2
      obtain ⟨hv, hd, hrow⟩ := taken B S hd1 e2'.symm
      exact
        { mask := fun i hi hi' => by
            rw [hm i hi', h.mask i (by omega) hi']
            show _ = if V B (n + 1) i = true then (1 : EReal) else 0
            rw [hv]
            cases V B n i <;> cases clear (B (j + 1)) (B i) <;> cases decide (i ≠ j + 1) <;> simp
          done := hd
          rows := fun r hr hr' l hl => by
            rw [ho r hr' l hl]
            simp only [Bool.toNat_false, Bool.toNat_true, Nat.add_zero] at hr ⊢
            by_cases hrn : r = n
            · rw [hrn, hrow]; simp
            · rw [← h.rows r (by omega) hr' l hl]; simp [hrn]
          rest := fun r hr hr' l hl => by
            rw [ho r hr' l hl]
            simp only [Bool.toNat_false, Bool.toNat_true, Nat.add_zero] at hr ⊢
            rw [← h.rest r (by omega) hr' l hl]
            simp [show r ≠ n by omega] }
  · subst e1
    obtain ⟨hv1, hd1, hrow1⟩ := taken B S h.done h1.symm
    have e2' : t2 = V B (n + 1) (j + 1) := by
      rw [h2, hv1]
      simp
    cases e2 : t2
    · subst e2
      exact
        { mask := fun i hi hi' => by
            rw [hm i hi', h.mask i (by omega) hi']
            show _ = if V B (n + 1) i = true then (1 : EReal) else 0
            rw [hv1]
            cases V B n i <;> cases clear (B j) (B i) <;> cases decide (i ≠ j) <;> simp
          done := passed_over B hd1 e2'.symm
          rows := fun r hr hr' l hl => by
            rw [ho r hr' l hl]
            simp only [Bool.toNat_false, Bool.toNat_true, Nat.add_zero] at hr ⊢
            by_cases hrn : r = n
            · rw [hrn, hrow1]; simp
            · rw [← h.rows r (by omega) hr' l hl]; simp [hrn]
          rest := fun r hr hr' l hl => by
            rw [ho r hr' l hl]
            simp only [Bool.toNat_false, Bool.toNat_true, Nat.add_zero] at hr ⊢
            rw [← h.rest r (by omega) hr' l hl]
            simp [show r ≠ n by omega] }
    · subst e2
      obtain ⟨hv, hd, hrow⟩ := taken B S hd1 e2'.symm
      exact
        { mask := fun i hi hi' => by
            rw [hm i hi', h.mask i (by omega) hi']
            show _ = if V B (n + 1 + 1) i = true then (1 : EReal) else 0
            rw [hv, hv1]
            cases V B n i <;> cases clear (B j) (B i) <;> cases decide (i ≠ j) <;> cases clear (B (j + 1)) (B i) <;>
              cases decide (i ≠ j + 1) <;> simp
          done := hd
          rows := fun r hr hr' l hl => by
            rw [ho r hr' l hl]
            simp only [Bool.toNat_true] at hr ⊢
            by_cases hrn1 : r = n + 1
            · rw [hrn1, hrow]; simp
            · by_cases hrn : r = n
              · rw [hrn, hrow1]; simp
              · rw [← h.rows r (by omega) hr' l hl]; simp [hrn, hrn1]
          rest := fun r hr hr' l hl => by
            rw [ho r hr' l hl]
            simp only [Bool.toNat_true] at hr ⊢
            rw [← h.rest r (by omega) hr' l hl]
            simp [show r ≠ n by omega, show r ≠ n + 1 by omega] }

/-- When the candidates are through or the rows full, every row is the round's. -/
theorem Inv.result {j n : ℕ} {mask : ℕ → EReal} {out : ℕ → ℕ → EReal} (h : Inv B S j n mask out) (hend : 6000 ≤ j ∨ 1000 ≤ n)
    (r : ℕ) (hr : r < 1000) (l : ℕ) (hl : l < 5) : out r l = rowAt B S (V B r) l := by
  by_cases hrn : r < n
  · exact h.rows r hrn hr l hl
  · rw [h.rest r (by omega) hr l hl, rowAt_none]
    intro i
    refine V_false_of_le B (by omega : n ≤ r) ?_
    by_cases hi : i < 6000
    · exact h.done i (by omega)
    · exact Bool.eq_false_iff.mpr fun hh => hi (V_lt B n i hh)

end Cert.Proof.Value
-- ==== Proof.Value.KernelHost.lean ====
/-
  What the kernel stages, from the arguments: the scores padded with −1, the coordinates padded with zeros.
-/
module

public import Idealize.ShloMosaic.Lib.Pointwise
public import proofs.«01_k».proof.Proof.KI.Result
public import proofs.«01_k».proof.Proof.Value.Sort
public import proofs.«01_k».proof.Proof.Value.Greedy

@[expose] public section

noncomputable section

namespace Cert.Proof.Value

open Idealize.ShloMosaic Idealize.ShloMosaic.TcCoe Cert.KernelIdeal Cert.KernelIdeal.Gen Cert.Proof.KI

variable (m : (ℓ : Loc nD τ sig) → Buf (Elt Idealize.ShloMosaic.Ideal) ℓ) (c : Dev nD)

/-- The boxes and the scores. -/
abbrev boxesOf : FVec Idealize.ShloMosaic.Ideal S20000x4 .f32 := m ((c.tc : Thread nD τ).loc main_arg0)
abbrev scoresOf : FVec Idealize.ShloMosaic.Ideal S20000 .f32 := m ((c.tc : Thread nD τ).loc main_arg1)

theorem host_scores : KI.V m c main_v2 = shapeCast S256x128 (concatenate S32768 0 [⟨S20000, scoresOf m c⟩, ⟨S12768, broadcastInDim S12768 ![] bcast_S_S12768 (constant (F := Idealize.ShloMosaic.Ideal) S_ .f32 0xBF800000#32)⟩] concatenates_S20000_S12768_S32768_d0) shapeCasts_S32768_S256x128 := by
  show StableHlo.after (List.flatten [hostOps0]) _ _ = _
  simp only [hostOps0, List.flatten_cons, List.flatten_nil, List.append_nil, List.cons_append, List.nil_append]
  after_results
  rfl

theorem stg0_eq : stg0 m c = KI.V m c main_v2 := by
  have e : win0_0.index t0_0 0 = 0 ∧ win0_0.index t0_0 1 = 0 := by decide +kernel
  funext y
  refine congrArg (KI.V m c main_v2) ?_
  funext a
  refine Fin.ext ?_
  fin_cases a
  · blk_simp
    rw [e.1, Nat.zero_mul, Nat.zero_add]
  · blk_simp
    rw [e.2, Nat.zero_mul, Nat.zero_add]

theorem stg1_eq : stg1 m c = KI.V m c main_v7 := by
  have e : win0_1.index t0_0 0 = 0 ∧ win0_1.index t0_0 1 = 0 := by decide +kernel
  funext y
  refine congrArg (KI.V m c main_v7) ?_
  funext a
  refine Fin.ext ?_
  fin_cases a
  · blk_simp
    rw [e.1, Nat.zero_mul, Nat.zero_add]
  · blk_simp
    rw [e.2, Nat.zero_mul, Nat.zero_add]

theorem stg2_eq : stg2 m c = KI.V m c main_v12 := by
  have e : win0_2.index t0_0 0 = 0 ∧ win0_2.index t0_0 1 = 0 := by decide +kernel
  funext y
  refine congrArg (KI.V m c main_v12) ?_
  funext a
  refine Fin.ext ?_
  fin_cases a
  · blk_simp
    rw [e.1, Nat.zero_mul, Nat.zero_add]
  · blk_simp
    rw [e.2, Nat.zero_mul, Nat.zero_add]

theorem stg3_eq : stg3 m c = KI.V m c main_v17 := by
  have e : win0_3.index t0_0 0 = 0 ∧ win0_3.index t0_0 1 = 0 := by decide +kernel
  funext y
  refine congrArg (KI.V m c main_v17) ?_
  funext a
  refine Fin.ext ?_
  fin_cases a
  · blk_simp
    rw [e.1, Nat.zero_mul, Nat.zero_add]
  · blk_simp
    rw [e.2, Nat.zero_mul, Nat.zero_add]

theorem stg4_eq : stg4 m c = KI.V m c main_v22 := by
  have e : win0_4.index t0_0 0 = 0 ∧ win0_4.index t0_0 1 = 0 := by decide +kernel
  funext y
  refine congrArg (KI.V m c main_v22) ?_
  funext a
  refine Fin.ext ?_
  fin_cases a
  · blk_simp
    rw [e.1, Nat.zero_mul, Nat.zero_add]
  · blk_simp
    rw [e.2, Nat.zero_mul, Nat.zero_add]

theorem host_side0 : KI.V m c main_v7 = shapeCast S256x128 (concatenate S32768 0 [⟨S20000, shapeCast S20000 (extractStridedSlice S20000x1 ![0, 0] (boxesOf m c) slices_S20000x4_S20000x1_0_0) shapeCasts_S20000x1_S20000⟩, ⟨S12768, broadcastInDim S12768 ![] bcast_S_S12768 (constant (F := Idealize.ShloMosaic.Ideal) S_ .f32 0x00000000#32)⟩] concatenates_S20000_S12768_S32768_d0) shapeCasts_S32768_S256x128 := by
  show StableHlo.after (List.flatten [hostOps0]) _ _ = _
  simp only [hostOps0, List.flatten_cons, List.flatten_nil, List.append_nil, List.cons_append, List.nil_append]
  after_results
  rfl

theorem host_side1 : KI.V m c main_v12 = shapeCast S256x128 (concatenate S32768 0 [⟨S20000, shapeCast S20000 (extractStridedSlice S20000x1 ![0, 1] (boxesOf m c) slices_S20000x4_S20000x1_0_1) shapeCasts_S20000x1_S20000⟩, ⟨S12768, broadcastInDim S12768 ![] bcast_S_S12768 (constant (F := Idealize.ShloMosaic.Ideal) S_ .f32 0x00000000#32)⟩] concatenates_S20000_S12768_S32768_d0) shapeCasts_S32768_S256x128 := by
  show StableHlo.after (List.flatten [hostOps0]) _ _ = _
  simp only [hostOps0, List.flatten_cons, List.flatten_nil, List.append_nil, List.cons_append, List.nil_append]
  after_results
  rfl

theorem host_side2 : KI.V m c main_v17 = shapeCast S256x128 (concatenate S32768 0 [⟨S20000, shapeCast S20000 (extractStridedSlice S20000x1 ![0, 2] (boxesOf m c) slices_S20000x4_S20000x1_0_2) shapeCasts_S20000x1_S20000⟩, ⟨S12768, broadcastInDim S12768 ![] bcast_S_S12768 (constant (F := Idealize.ShloMosaic.Ideal) S_ .f32 0x00000000#32)⟩] concatenates_S20000_S12768_S32768_d0) shapeCasts_S32768_S256x128 := by
  show StableHlo.after (List.flatten [hostOps0]) _ _ = _
  simp only [hostOps0, List.flatten_cons, List.flatten_nil, List.append_nil, List.cons_append, List.nil_append]
  after_results
  rfl

theorem host_side3 : KI.V m c main_v22 = shapeCast S256x128 (concatenate S32768 0 [⟨S20000, shapeCast S20000 (extractStridedSlice S20000x1 ![0, 3] (boxesOf m c) slices_S20000x4_S20000x1_0_3) shapeCasts_S20000x1_S20000⟩, ⟨S12768, broadcastInDim S12768 ![] bcast_S_S12768 (constant (F := Idealize.ShloMosaic.Ideal) S_ .f32 0x00000000#32)⟩] concatenates_S20000_S12768_S32768_d0) shapeCasts_S32768_S256x128 := by
  show StableHlo.after (List.flatten [hostOps0]) _ _ = _
  simp only [hostOps0, List.flatten_cons, List.flatten_nil, List.append_nil, List.cons_append, List.nil_append]
  after_results
  rfl

theorem padded_at (x : FVec Idealize.ShloMosaic.Ideal S20000 .f32) (y : FVec Idealize.ShloMosaic.Ideal S12768 .f32) (p : Place) :
    shapeCast S256x128 (concatenate S32768 0 [⟨S20000, x⟩, ⟨S12768, y⟩] concatenates_S20000_S12768_S32768_d0) shapeCasts_S32768_S256x128 (ix p)
      = if h : p.val < 20000 then x (ix1 ⟨p.val, h⟩) else y (ix1 ⟨p.val - 20000, by have := p.isLt; omega⟩) := by
  have e : ix p = Idealize.ShloMosaic.ix2 ⟨p.val / 128, by have := p.isLt; omega⟩ ⟨p.val % 128, by omega⟩ := (ix2_eq_valueIdx _ _).symm
  rw [e]
  pointwise

theorem column0_at (b : FVec Idealize.ShloMosaic.Ideal S20000x4 .f32) (p : Fin 20000) :
    shapeCast S20000 (extractStridedSlice S20000x1 ![0, 0] b slices_S20000x4_S20000x1_0_0) shapeCasts_S20000x1_S20000 (ix1 p)
      = b (Idealize.ShloMosaic.ix2 p 0) := by
  pointwise

theorem column1_at (b : FVec Idealize.ShloMosaic.Ideal S20000x4 .f32) (p : Fin 20000) :
    shapeCast S20000 (extractStridedSlice S20000x1 ![0, 1] b slices_S20000x4_S20000x1_0_1) shapeCasts_S20000x1_S20000 (ix1 p)
      = b (Idealize.ShloMosaic.ix2 p 1) := by
  pointwise

theorem column2_at (b : FVec Idealize.ShloMosaic.Ideal S20000x4 .f32) (p : Fin 20000) :
    shapeCast S20000 (extractStridedSlice S20000x1 ![0, 2] b slices_S20000x4_S20000x1_0_2) shapeCasts_S20000x1_S20000 (ix1 p)
      = b (Idealize.ShloMosaic.ix2 p 2) := by
  pointwise

theorem column3_at (b : FVec Idealize.ShloMosaic.Ideal S20000x4 .f32) (p : Fin 20000) :
    shapeCast S20000 (extractStridedSlice S20000x1 ![0, 3] b slices_S20000x4_S20000x1_0_3) shapeCasts_S20000x1_S20000 (ix1 p)
      = b (Idealize.ShloMosaic.ix2 p 3) := by
  pointwise

/-- What the sort starts from: the scores, then the padding; and on the real places the boxes' sides. -/
abbrev firstArrs := startArrs (stg0 m c) (stg1 m c) (stg2 m c) (stg3 m c) (stg4 m c)

theorem begin_score (p : Place) (h : p.val < 20000) : (firstArrs m c).s (ix p) = scoresOf m c (ix1 ⟨p.val, h⟩) := by
  have e : (firstArrs m c).s = stg0 m c := by
    simp only [firstArrs, startArrs, k0_pay52, shapeCast_self]
  rw [e, stg0_eq, host_scores, padded_at, dif_pos h]

theorem begin_pad (p : Place) (h : 20000 ≤ p.val) : (firstArrs m c).s (ix p) = neg1 := by
  have e : (firstArrs m c).s = stg0 m c := by
    simp only [firstArrs, startArrs, k0_pay52, shapeCast_self]
  rw [e, stg0_eq, host_scores, padded_at, dif_neg (Nat.not_lt.2 h)]
  rfl

theorem begin_x1 (p : Place) (h : p.val < 20000) :
    (firstArrs m c).x1 (ix p) = boxesOf m c (Idealize.ShloMosaic.ix2 ⟨p.val, h⟩ 0) := by
  have e : (firstArrs m c).x1 = stg1 m c := by
    simp only [firstArrs, startArrs, k0_pay54, shapeCast_self]
  rw [e, stg1_eq, host_side0, padded_at, dif_pos h, column0_at]

theorem begin_y1 (p : Place) (h : p.val < 20000) :
    (firstArrs m c).y1 (ix p) = boxesOf m c (Idealize.ShloMosaic.ix2 ⟨p.val, h⟩ 1) := by
  have e : (firstArrs m c).y1 = stg2 m c := by
    simp only [firstArrs, startArrs, k0_pay55, shapeCast_self]
  rw [e, stg2_eq, host_side1, padded_at, dif_pos h, column1_at]

theorem begin_x2 (p : Place) (h : p.val < 20000) :
    (firstArrs m c).x2 (ix p) = boxesOf m c (Idealize.ShloMosaic.ix2 ⟨p.val, h⟩ 2) := by
  have e : (firstArrs m c).x2 = stg3 m c := by
    simp only [firstArrs, startArrs, k0_pay56, shapeCast_self]
  rw [e, stg3_eq, host_side2, padded_at, dif_pos h, column2_at]

theorem begin_y2 (p : Place) (h : p.val < 20000) :
    (firstArrs m c).y2 (ix p) = boxesOf m c (Idealize.ShloMosaic.ix2 ⟨p.val, h⟩ 3) := by
  have e : (firstArrs m c).y2 = stg4 m c := by
    simp only [firstArrs, startArrs, k0_pay1, shapeCast_self]
  rw [e, stg4_eq, host_side3, padded_at, dif_pos h, column3_at]

end Cert.Proof.Value
-- ==== Proof.Value.SortRun.lean ====
/-
  The whole sort: pass by pass the arrays hold the starting arrays read through a rearrangement whose keys are the
  sorting network's so far, so at the end the keys descend and the rearrangement is a permutation of the places.
-/
module

public import proofs.«01_k».proof.Proof.Value.Sort

@[expose] public section

noncomputable section

namespace Cert.Proof.Value

open Cert.KernelIdeal Cert.KernelIdeal.Gen Cert.Proof.KI

open Idealize.ShloMosaic Idealize.ShloMosaic.SortNet

/-- Stage `t` is level `t`: the numbers a row pass computes. -/
theorem row_words : ∀ (t : Fin k0_t1_loop.trips) (k : Fin (k0_t2_loop t).trips),
    k.val + 7 ≤ t.val ∧ t.val < 15 ∧
    (Scalar.shli 1#32 (Scalar.subi (Scalar.subi (Scf.iv 1#32 1#32 t) 1#32) (Scf.iv 0#32 1#32 k))).toNat = 2 ^ (t.val - k.val - 7 + 7) ∧
    (Scalar.shrsi (Scalar.shli 1#32 (Scalar.subi (Scalar.subi (Scf.iv 1#32 1#32 t) 1#32) (Scf.iv 0#32 1#32 k))) 7#32).toNat = 2 ^ (t.val - k.val - 7) ∧
    (Scalar.andi (Scalar.subi 256#32 (Scalar.shrsi (Scalar.shli 1#32 (Scalar.subi (Scalar.subi (Scf.iv 1#32 1#32 t) 1#32) (Scf.iv 0#32 1#32 k))) 7#32)) 255#32).toNat
      = 2 ^ 8 - 2 ^ (t.val - k.val - 7) ∧
    (Scalar.shli 1#32 (Scf.iv 1#32 1#32 t)).toNat = 2 ^ (t.val + 1) := by decide +kernel

/-- The numbers a lane pass computes. -/
theorem lane_words : ∀ (t : Fin k0_t1_loop.trips) (k : Fin (k0_t4_loop t).trips),
    (k0_t2_loop t).trips + k.val ≤ t.val ∧ t.val < 15 ∧ t.val - ((k0_t2_loop t).trips + k.val) < 7 ∧
    (Scalar.shli 1#32 (Scalar.subi (Scalar.subi (Scf.iv 1#32 1#32 t) 1#32) (Scf.iv (rowCount t) 1#32 k))).toNat
      = 2 ^ (t.val - ((k0_t2_loop t).trips + k.val)) ∧
    (Scalar.andi (Scalar.subi 128#32 (Scalar.shli 1#32 (Scalar.subi (Scalar.subi (Scf.iv 1#32 1#32 t) 1#32) (Scf.iv (rowCount t) 1#32 k)))) 127#32).toNat
      = 2 ^ 7 - 2 ^ (t.val - ((k0_t2_loop t).trips + k.val)) ∧
    (Scalar.shli 1#32 (Scf.iv 1#32 1#32 t)).toNat = 2 ^ (t.val + 1) := by decide +kernel

theorem stage_trips : ∀ t : Fin k0_t1_loop.trips, (k0_t2_loop t).trips + (k0_t4_loop t).trips = t.val + 1 := by decide +kernel

theorem level_trips : k0_t1_loop.trips = 15 := by decide +kernel

section passes

variable (t : Fin k0_t1_loop.trips) (a : Arrs Ideal)

/-- The distance of a row pass. -/
abbrev rowW (k : Fin (k0_t2_loop t).trips) : BitVec 32 :=
  Scalar.shli 1#32 (Scalar.subi (Scalar.subi (Scf.iv 1#32 1#32 t) 1#32) (Scf.iv 0#32 1#32 k))
/-- The distance in rows. -/
abbrev rowD (k : Fin (k0_t2_loop t).trips) : BitVec 32 := Scalar.shrsi (rowW t k) 7#32
/-- The distance the other way round. -/
abbrev rowN (k : Fin (k0_t2_loop t).trips) : BitVec 32 := Scalar.andi (Scalar.subi 256#32 (rowD t k)) 255#32
/-- The bit of the place that a row pass tests. -/
abbrev rowB (k : Fin (k0_t2_loop t).trips) : IVec S256x128 1 :=
  cmpi .ne (andi k0_pay50 (broadcast S256x128 (rowW t k))) (broadcast S256x128 0#32)
/-- The bit of the place that tells a level's direction. -/
abbrev levelB : IVec S256x128 1 :=
  cmpi .ne (andi k0_pay50 (broadcast S256x128 (Scalar.shli 1#32 (Scf.iv 1#32 1#32 t)))) (broadcast S256x128 0#32)
/-- The partners in a row pass. -/
abbrev rowP {α : Type} (k : Fin (k0_t2_loop t).trips) (x : S256x128.Idx → α) : S256x128.Idx → α :=
  select (rowB t k) (dynamicRotate 0 (rowD t k) none x rotates_S256x128_d0) (dynamicRotate 0 (rowN t k) none x rotates_S256x128_d0)
/-- Who keeps the own entry, given the partners and the bit. -/
abbrev keepG (ps : FVec Ideal S256x128 .f32) (pi : IVec S256x128 32) (b : IVec S256x128 1) : IVec S256x128 1 :=
  xori (xori (ori (cmpf .ogt a.s ps) (andi (cmpf .oeq a.s ps) (cmpi .slt a.i pi))) b) (levelB t)

theorem rowTrip_eq (k : Fin (k0_t2_loop t).trips) :
    rowTrip k0_pay50 t (Scf.iv 1#32 1#32 t) k a =
      { s := select (keepG t a (rowP t k a.s) (rowP t k a.i) (rowB t k)) a.s (rowP t k a.s)
        i := select (keepG t a (rowP t k a.s) (rowP t k a.i) (rowB t k)) a.i (rowP t k a.i)
        x1 := select (keepG t a (rowP t k a.s) (rowP t k a.i) (rowB t k)) a.x1 (rowP t k a.x1)
        y1 := select (keepG t a (rowP t k a.s) (rowP t k a.i) (rowB t k)) a.y1 (rowP t k a.y1)
        x2 := select (keepG t a (rowP t k a.s) (rowP t k a.i) (rowB t k)) a.x2 (rowP t k a.x2)
        y2 := select (keepG t a (rowP t k a.s) (rowP t k a.i) (rowB t k)) a.y2 (rowP t k a.y2) } := by
  simp only [rowTrip, k0_pay26, k0_pay27, k0_pay25, k0_pay24, k0_pay23, k0_pay22, k0_pay2, k0_pay3, k0_pay4, k0_pay5,
    shapeCast_self]

/-- The distance of a lane pass. -/
abbrev laneW (k : Fin (k0_t4_loop t).trips) : BitVec 32 :=
  Scalar.shli 1#32 (Scalar.subi (Scalar.subi (Scf.iv 1#32 1#32 t) 1#32) (Scf.iv (rowCount t) 1#32 k))
/-- The distance the other way round. -/
abbrev laneN (k : Fin (k0_t4_loop t).trips) : BitVec 32 := Scalar.andi (Scalar.subi 128#32 (laneW t k)) 127#32
/-- The bit of the place that a lane pass tests. -/
abbrev laneB (k : Fin (k0_t4_loop t).trips) : IVec S256x128 1 :=
  cmpi .ne (andi k0_pay50 (broadcast S256x128 (laneW t k))) (broadcast S256x128 0#32)
/-- The partners in a lane pass. -/
abbrev laneP {α : Type} (k : Fin (k0_t4_loop t).trips) (x : S256x128.Idx → α) : S256x128.Idx → α :=
  select (laneB t k) (dynamicRotate 1 (laneW t k) none x rotates_S256x128_d1) (dynamicRotate 1 (laneN t k) none x rotates_S256x128_d1)

theorem laneTrip_eq (k : Fin (k0_t4_loop t).trips) :
    laneTrip k0_pay50 t (Scf.iv 1#32 1#32 t) (rowCount t) k a =
      { s := select (keepG t a (laneP t k a.s) (laneP t k a.i) (laneB t k)) a.s (laneP t k a.s)
        i := select (keepG t a (laneP t k a.s) (laneP t k a.i) (laneB t k)) a.i (laneP t k a.i)
        x1 := select (keepG t a (laneP t k a.s) (laneP t k a.i) (laneB t k)) a.x1 (laneP t k a.x1)
        y1 := select (keepG t a (laneP t k a.s) (laneP t k a.i) (laneB t k)) a.y1 (laneP t k a.y1)
        x2 := select (keepG t a (laneP t k a.s) (laneP t k a.i) (laneB t k)) a.x2 (laneP t k a.x2)
        y2 := select (keepG t a (laneP t k a.s) (laneP t k a.i) (laneB t k)) a.y2 (laneP t k a.y2) } := by
  simp only [laneTrip, k0_pay38, k0_pay39, k0_pay37, k0_pay36, k0_pay35, k0_pay34, k0_pay40, k0_pay41, k0_pay10, k0_pay11, k0_pay12, k0_pay13,
    shapeCast_self]

/-- One pass, however it fetches the partners. -/
theorem pass_holds {s l : ℕ} (a0 : Arrs Ideal) (κ : Place → Place) (h : Holds a a0 κ) (hl : t.val = l)
    (hj : (Scalar.shli 1#32 (Scf.iv 1#32 1#32 t)).toNat = 2 ^ (t.val + 1)) (b : IVec S256x128 1)
    (P : ∀ {α : Type}, (S256x128.Idx → α) → S256x128.Idx → α)
    (hP : ∀ {α : Type} (x : S256x128.Idx → α) (p : Place), P x (ix p) = x (ix (partner 15 s p)))
    (hb : ∀ p : Place, b (ix p) = BitVec.ofBool (decide (p.val &&& 2 ^ s ≠ 0))) :
    Holds { s := select (keepG t a (P a.s) (P a.i) b) a.s (P a.s)
            i := select (keepG t a (P a.s) (P a.i) b) a.i (P a.i)
            x1 := select (keepG t a (P a.s) (P a.i) b) a.x1 (P a.x1)
            y1 := select (keepG t a (P a.s) (P a.i) b) a.y1 (P a.y1)
            x2 := select (keepG t a (P a.s) (P a.i) b) a.x2 (P a.x2)
            y2 := select (keepG t a (P a.s) (P a.i) b) a.y2 (P a.y2) } a0 (passed a0 s l κ) := by
  subst hl
  have hg := keep_test a0 κ a.s (P a.s) a.i (P a.i) h.s h.i (hP a.s) (hP a.i) b (levelB t) hb (bit_test _ hj)
  have hi0 : ∀ p, a.i (ix p) = (fun j : S256x128.Idx => BitVec.ofNat 32 ((j 0).val * 128 + (j 1).val)) (ix (κ p)) := fun p => by
    rw [h.i]
    congr 1
    show (κ p).val = (κ p).val / 128 * 128 + (κ p).val % 128
    omega
  have hi1 := choose_passed a0 κ a.i (fun j : S256x128.Idx => BitVec.ofNat 32 ((j 0).val * 128 + (j 1).val)) (P a.i) _ hi0 (hP a.i) hg
  exact
    { s := choose_passed a0 κ a.s a0.s (P a.s) _ h.s (hP a.s) hg
      i := fun p => by
        refine (hi1 p).trans ?_
        show BitVec.ofNat 32 ((passed a0 s t.val κ p).val / 128 * 128 + (passed a0 s t.val κ p).val % 128) = _
        congr 1
        omega
      x1 := choose_passed a0 κ a.x1 a0.x1 (P a.x1) _ h.x1 (hP a.x1) hg
      y1 := choose_passed a0 κ a.y1 a0.y1 (P a.y1) _ h.y1 (hP a.y1) hg
      x2 := choose_passed a0 κ a.x2 a0.x2 (P a.x2) _ h.x2 (hP a.x2) hg
      y2 := choose_passed a0 κ a.y2 a0.y2 (P a.y2) _ h.y2 (hP a.y2) hg }

/-- A row pass on arrays that hold the start read through `κ`. -/
theorem rowTrip_holds (k : Fin (k0_t2_loop t).trips) (a0 : Arrs Ideal) (κ : Place → Place) (h : Holds a a0 κ) :
    Holds (rowTrip k0_pay50 t (Scf.iv 1#32 1#32 t) k a) a0 (passed a0 (t.val - k.val) t.val κ) := by
  obtain ⟨h7, h15, hw, hd, hnd, hj⟩ := row_words t k
  have es : t.val - k.val = t.val - k.val - 7 + 7 := by omega
  rw [rowTrip_eq, es]
  exact pass_holds t a a0 κ h rfl hj (rowB t k) (fun x => rowP t k x)
    (fun x p => row_fetch (by omega) (rowB t k) (bit_test _ hw) _ _ hd hnd x p) (bit_test _ hw)

/-- A lane pass on arrays that hold the start read through `κ`. -/
theorem laneTrip_holds (k : Fin (k0_t4_loop t).trips) (a0 : Arrs Ideal) (κ : Place → Place) (h : Holds a a0 κ) :
    Holds (laneTrip k0_pay50 t (Scf.iv 1#32 1#32 t) (rowCount t) k a) a0
      (passed a0 (t.val - ((k0_t2_loop t).trips + k.val)) t.val κ) := by
  obtain ⟨h7, h15, hs, hw, hnd, hj⟩ := lane_words t k
  rw [laneTrip_eq]
  exact pass_holds t a a0 κ h rfl hj (laneB t k) (fun x => laneP t k x)
    (fun x p => lane_fetch hs (laneB t k) (bit_test _ hw) _ _ hw hnd x p) (bit_test _ hw)

end passes

/-- The rearrangement after the first `n` passes of level `l`. -/
def passes (a0 : Arrs Ideal) (l : ℕ) (κ : Place → Place) : ℕ → Place → Place
  | 0 => κ
  | n + 1 => passed a0 (l - n) l (passes a0 l κ n)

theorem rows_hold (t : Fin k0_t1_loop.trips) (a a0 : Arrs Ideal) (κ : Place → Place) (h : Holds a a0 κ) :
    ∀ n, n ≤ (k0_t2_loop t).trips →
      Holds (iterTrips (rowTrip k0_pay50 t (Scf.iv 1#32 1#32 t)) n a) a0 (passes a0 t.val κ n)
  | 0, _ => h
  | n + 1, hn => by
    have e := iterTrips_succ (rowTrip k0_pay50 t (Scf.iv 1#32 1#32 t)) ⟨n, hn⟩ a
    rw [show iterTrips (rowTrip k0_pay50 t (Scf.iv 1#32 1#32 t)) (n + 1) a = _ from e]
    exact rowTrip_holds t _ ⟨n, hn⟩ a0 _ (rows_hold t a a0 κ h n (by omega))

theorem lanes_hold (t : Fin k0_t1_loop.trips) (a a0 : Arrs Ideal) (κ : Place → Place) (T : ℕ) (hT : (k0_t2_loop t).trips = T)
    (h : Holds a a0 (passes a0 t.val κ T)) (n : ℕ) (hn : n ≤ (k0_t4_loop t).trips) :
      Holds (iterTrips (laneTrip k0_pay50 t (Scf.iv 1#32 1#32 t) (rowCount t)) n a) a0 (passes a0 t.val κ (T + n)) := by
  induction n with
  | zero => exact h
  | succ n ih =>
    have e := iterTrips_succ (laneTrip k0_pay50 t (Scf.iv 1#32 1#32 t) (rowCount t)) ⟨n, hn⟩ a
    rw [show iterTrips (laneTrip k0_pay50 t (Scf.iv 1#32 1#32 t) (rowCount t)) (n + 1) a = _ from e, ← Nat.add_assoc]
    have h' := laneTrip_holds t _ ⟨n, hn⟩ a0 _ (ih (by omega))
    rw [hT] at h'
    exact h'

theorem stageTrip_holds (t : Fin k0_t1_loop.trips) (a a0 : Arrs Ideal) (κ : Place → Place) (h : Holds a a0 κ) :
    Holds (stageTrip k0_pay50 t a) a0 (passes a0 t.val κ (t.val + 1)) := by
  have := lanes_hold t _ a0 κ _ rfl (rows_hold t a a0 κ h _ (le_refl _)) _ (le_refl _)
  rw [stage_trips t] at this
  exact this

/-- The rearrangement after the first `l` levels. -/
def levels (a0 : Arrs Ideal) : ℕ → Place → Place
  | 0 => id
  | l + 1 => passes a0 l (levels a0 l) (l + 1)

theorem levels_hold (a0 : Arrs Ideal) (h : Holds a0 a0 id) :
    ∀ l, l ≤ k0_t1_loop.trips → Holds (iterTrips (stageTrip k0_pay50) l a0) a0 (levels a0 l)
  | 0, _ => h
  | l + 1, hl => by
    have e := iterTrips_succ (stageTrip (F := Ideal) k0_pay50) ⟨l, hl⟩ a0
    rw [show iterTrips (stageTrip (F := Ideal) k0_pay50) (l + 1) a0 = _ from e]
    exact stageTrip_holds ⟨l, hl⟩ _ a0 _ (levels_hold a0 h l (by omega))

/-! ## The keys -/

theorem key_passes (a0 : Arrs Ideal) (l : ℕ) (hl : l < 15) (κ : Place → Place) :
    ∀ n, n ≤ l + 1 → key a0 ∘ passes a0 l κ n
      = Network.apply (((List.range n).map (l - ·)).flatMap fun s => stage 15 s fun i => decide (i.val &&& 2 ^ (l + 1) = 0) == true) (key a0 ∘ κ)
  | 0, _ => rfl
  | n + 1, hn => by
    rw [List.range_succ, List.map_append, List.flatMap_append, Network.apply_append, ← key_passes a0 l hl κ n (by omega)]
    simp only [List.map_cons, List.map_nil, List.flatMap_cons, List.flatMap_nil, List.append_nil]
    exact key_passed a0 (by omega) (by omega) _

theorem range_reverse : ∀ l : Fin 15, (List.range (l.val + 1)).reverse = (List.range (l.val + 1)).map (l.val - ·) := by decide

theorem key_levels (a0 : Arrs Ideal) : ∀ l, l ≤ 15 → key a0 ∘ levels a0 l = Network.apply (levelsNet 15 true l) (key a0)
  | 0, _ => rfl
  | l + 1, hl => by
    rw [levelsNet_succ, Network.apply_append, ← key_levels a0 l (by omega)]
    unfold levelNet
    rw [range_reverse ⟨l, by omega⟩]
    exact key_passes a0 l (by omega) _ (l + 1) (le_refl _)

/-- The whole sort: the arrays hold the start read through a permutation along which the keys descend. -/
theorem sorted_holds (a0 : Arrs Ideal) (h : Holds a0 a0 id) :
    ∃ σ : Equiv.Perm Place, Holds (iterTrips (stageTrip k0_pay50) k0_t1_loop.trips a0) a0 σ ∧ Antitone (key a0 ∘ σ) := by
  have hk := key_levels a0 15 (le_refl _)
  obtain ⟨σ, hσ⟩ := Network.exists_perm (levelsNet 15 true 15) (key a0)
  have e : levels a0 15 = σ := by
    funext p
    exact key_injective a0 (congrFun (hk.trans hσ) p)
  refine ⟨σ, ?_, ?_⟩
  · rw [← e]
    have := levels_hold a0 h k0_t1_loop.trips (le_refl _)
    rw [show levels a0 k0_t1_loop.trips = levels a0 15 by rw [level_trips]] at this
    exact this
  · rw [← hσ, ← sortNet_eq_levelsNet]
    exact sortNet_apply_antitone 15 _

theorem start_holds (x0 x1 x2 x3 x4 : Vec Ideal S256x128 .f32) : Holds (startArrs x0 x1 x2 x3 x4) (startArrs x0 x1 x2 x3 x4) id where
  s _ := rfl
  i p := by
    show k0_pay53 (ix p) = _
    unfold k0_pay53
    rw [shapeCast_self]
    exact numbers p
  x1 _ := rfl
  y1 _ := rfl
  x2 _ := rfl
  y2 _ := rfl

end Cert.Proof.Value
-- ==== Proof.Value.SelPay.lean ====
/-
  The selection's vector expressions, read at an index over the extended reals.
-/
module

public import Idealize.ShloMosaic.Lib.Pointwise
public import proofs.«01_k».proof.Proof.KI.Body
public import proofs.«01_k».proof.Proof.Value.Greedy

@[expose] public section

noncomputable section

namespace Cert.Proof.Value

open Idealize.ShloMosaic Cert.KernelIdeal Cert.KernelIdeal.Gen Cert.Proof.KI

theorem word_is (m n : ℕ) (hm : m < 2 ^ 32) (hn : n < 2 ^ 32) : IntOp.cmpi .eq (BitVec.ofNat 32 m) (BitVec.ofNat 32 n) = BitVec.ofBool (decide (m = n)) := by
  show BitVec.ofBool (BitVec.ofNat 32 m == BitVec.ofNat 32 n) = _
  congr 1
  rw [Bool.eq_iff_iff, beq_iff_eq, decide_eq_true_eq]
  constructor
  · intro h
    have := congrArg BitVec.toNat h
    rw [BitVec.toNat_ofNat, BitVec.toNat_ofNat, Nat.mod_eq_of_lt hm, Nat.mod_eq_of_lt hn] at this
    exact this
  · rintro rfl; rfl

theorem lane_is (l : Fin 128) (k : ℕ) (hk : k < 128) : IntOp.cmpi .eq (BitVec.ofNat 32 l.val) (BitVec.ofNat 32 k) = BitVec.ofBool (decide (l.val = k)) :=
  word_is _ _ (by omega) (by omega)

theorem lanes_at (l : Fin 128) : lanes (ix2 0 l) = BitVec.ofNat 32 l.val := by
  unfold lanes
  pointwise

theorem ofBool_real (b : Bool) : (FloatOps.sitofp (F := Ideal) FTy.f32 (BitVec.setWidth 32 (BitVec.ofBool b)) : EReal) = if b = true then 1 else 0 := by
  cases b
  · show (((BitVec.setWidth 32 (BitVec.ofBool false)).toInt : ℝ) : EReal) = _
    rw [show (BitVec.setWidth 32 (BitVec.ofBool false)).toInt = 0 from by decide]
    simp
  · show (((BitVec.setWidth 32 (BitVec.ofBool true)).toInt : ℝ) : EReal) = _
    rw [show (BitVec.setWidth 32 (BitVec.ofBool true)).toInt = 1 from by decide]
    simp

theorem select_bool {α : Type} (b : Bool) (x y : α) : Scalar.select (BitVec.ofBool b) x y = if b = true then x else y := by
  cases b <;> rfl

theorem hot (j : BitVec 32) (l : Fin 128) : (k0_pay57 (F := Ideal) lanes j (ix2 0 l) : EReal) = if l.val = j.toNat % 128 then 1 else 0 := by
  unfold k0_pay57 lanes
  pointwise
  have e : Scalar.andi j 127#32 = BitVec.ofNat 32 (j.toNat % 128) := by
    apply BitVec.eq_of_toNat_eq
    show (j &&& 127#32).toNat = _
    rw [BitVec.toNat_and, BitVec.toNat_ofNat, BitVec.toNat_ofNat, show 127 % 2 ^ 32 = 2 ^ 7 - 1 from rfl, Nat.and_two_pow_sub_one_eq_mod]
    have := Nat.mod_lt j.toNat (show 0 < 128 by decide)
    omega
  rw [e, lane_is l _ (Nat.mod_lt _ (by decide)), ofBool_real]
  simp only [decide_eq_true_eq]

theorem hot2 (j : BitVec 32) (l : Fin 128) : (k0_pay68 (F := Ideal) lanes j (ix2 0 l) : EReal) = if l.val = j.toNat % 128 then 1 else 0 := hot j l

theorem pick (j : BitVec 32) (x : FVec Ideal S1x128 .f32) : (k0_pay58 (F := Ideal) lanes j x (ix2 0 0) : EReal) = x (ix2 0 ⟨j.toNat % 128, by omega⟩) := by
  unfold k0_pay58
  pointwise
  simp only [hot]
  rw [Finset.sum_eq_single ⟨j.toNat % 128, Nat.mod_lt _ (by decide)⟩]
  · rw [if_pos rfl, mul_one]
  · intro b _ hb
    rw [if_neg (fun h => hb (Fin.ext h)), mul_zero]
  · intro h
    exact absurd (Finset.mem_univ _) h

theorem pick8 (j : BitVec 32) (x : FVec Ideal S8x128 .f32) (k : Fin 8) : (k0_pay59 (F := Ideal) lanes j x (ix2 k 0) : EReal) = x (ix2 k ⟨j.toNat % 128, by omega⟩) := by
  unfold k0_pay59
  pointwise
  simp only [hot]
  rw [Finset.sum_eq_single ⟨j.toNat % 128, Nat.mod_lt _ (by decide)⟩]
  · rw [if_pos rfl, mul_one]
  · intro b _ hb
    rw [if_neg (fun h => hb (Fin.ext h)), mul_zero]
  · intro h
    exact absurd (Finset.mem_univ _) h

theorem spread0 (j : BitVec 32) (x : FVec Ideal S8x128 .f32) (l : Fin 128) : (k0_pay60 (F := Ideal) lanes j x (ix2 0 l) : EReal) = x (ix2 0 ⟨j.toNat % 128, by omega⟩) := by
  rw [← pick8 j x 0]
  unfold k0_pay60
  pointwise
theorem spread1 (j : BitVec 32) (x : FVec Ideal S8x128 .f32) (l : Fin 128) : (k0_pay61 (F := Ideal) lanes j x (ix2 0 l) : EReal) = x (ix2 1 ⟨j.toNat % 128, by omega⟩) := by
  rw [← pick8 j x 1]
  unfold k0_pay61
  pointwise
theorem spread2 (j : BitVec 32) (x : FVec Ideal S8x128 .f32) (l : Fin 128) : (k0_pay62 (F := Ideal) lanes j x (ix2 0 l) : EReal) = x (ix2 2 ⟨j.toNat % 128, by omega⟩) := by
  rw [← pick8 j x 2]
  unfold k0_pay62
  pointwise
theorem spread3 (j : BitVec 32) (x : FVec Ideal S8x128 .f32) (l : Fin 128) : (k0_pay63 (F := Ideal) lanes j x (ix2 0 l) : EReal) = x (ix2 3 ⟨j.toNat % 128, by omega⟩) := by
  rw [← pick8 j x 3]
  unfold k0_pay63
  pointwise

/-- The row emitted: the box, the score, and −1 past lane 4. -/
theorem emitted (j : BitVec 32) (x : FVec Ideal S8x128 .f32) (l : Fin 128) :
    (k0_pay67 (k0_pay60 lanes j x) (k0_pay61 lanes j x) (k0_pay64 lanes) (k0_pay65 lanes) (k0_pay66 (F := Ideal) lanes j x) (ix2 0 l) : EReal)
      = entry (fun k => x (ix2 ⟨k.val, by omega⟩ ⟨j.toNat % 128, by omega⟩)) (x (ix2 4 ⟨j.toNat % 128, by omega⟩)) l.val := by
  unfold k0_pay67 k0_pay66 k0_pay65 k0_pay64
  pointwise [spread0, spread1, spread2, spread3, pick8]
  have e : ∀ k, k < 128 → IntOp.cmpi .eq (lanes (ix2 0 l)) (BitVec.ofNat 32 k) = BitVec.ofBool (decide (l.val = k)) := fun k hk => by
    rw [← lane_is l k hk, lanes_at]
  rw [e 0 (by decide), e 1 (by decide), e 2 (by decide), e 3 (by decide), e 4 (by decide)]
  simp only [select_bool, decide_eq_true_eq]
  rfl

theorem emitted2 (j : BitVec 32) (x : FVec Ideal S8x128 .f32) (l : Fin 128) :
    (k0_pay75 (F := Ideal) lanes j x (ix2 0 l) : EReal)
      = entry (fun k => x (ix2 ⟨k.val, by omega⟩ ⟨j.toNat % 128, by omega⟩)) (x (ix2 4 ⟨j.toNat % 128, by omega⟩)) l.val := by
  refine Eq.trans ?_ (emitted j x l)
  rfl

theorem fold_one (x : EReal) : Finset.fold max (Ideal.ofBits .f32 0xFF800000#32) (fun _ : Fin 1 × Fin 1 => x) Finset.univ = x := by
  rw [neg_inf, show (Finset.univ : Finset (Fin 1 × Fin 1)) = {(0, 0)} from by decide, Finset.fold_singleton]
  exact max_bot_right _

/-- The largest of one entry is the entry. -/
theorem single (x : FVec Ideal S1x1 .f32) : (k0_pay78 (F := Ideal) x : EReal) = x (ix2 0 0) := by
  unfold k0_pay78
  pointwise
  exact fold_one _

theorem single2 (x : FVec Ideal S1x1 .f32) : (k0_pay79 (F := Ideal) x : EReal) = x (ix2 0 0) := single x

theorem zero_bits : Ideal.ofBits .f32 0x00000000#32 = 0 := Ideal.ofBits_zero_f32

/-- The test between the two candidates. -/
theorem pair (a b : Box) (x0 x1 x2 x3 y0 y1 y2 y3 : FVec Ideal S1x128 .f32)
    (h0 : x0 (ix2 0 0) = a 0) (h1 : x1 (ix2 0 0) = a 1) (h2 : x2 (ix2 0 0) = a 2) (h3 : x3 (ix2 0 0) = a 3)
    (k0 : y0 (ix2 0 0) = b 0) (k1 : y1 (ix2 0 0) = b 1) (k2 : y2 (ix2 0 0) = b 2) (k3 : y3 (ix2 0 0) = b 3) :
    (k0_pay77 (F := Ideal) x0 x1 x2 x3 y0 y1 y2 y3 (maximumf x0 y0) : EReal) = if clear a b = true then 1 else 0 := by
  unfold k0_pay77
  pointwise [h0, h1, h2, h3, k0, k1, k2, k3]
  refine (fold_one _).trans ?_
  rw [ofBool_real]
  rfl

/-- The candidates that stay after the first. -/
theorem stay1 (j : BitVec 32) (v : IVec S48x128 32) (a b : Box) (x0 x1 x2 x3 : FVec Ideal S1x128 .f32) (y0 y1 y2 y3 w : FVec Ideal S48x128 .f32) (r : Fin 48) (l : Fin 128)
    (h0 : ∀ l, x0 (ix2 0 l) = a 0) (h1 : ∀ l, x1 (ix2 0 l) = a 1) (h2 : ∀ l, x2 (ix2 0 l) = a 2) (h3 : ∀ l, x3 (ix2 0 l) = a 3)
    (k0 : y0 (ix2 r l) = b 0) (k1 : y1 (ix2 r l) = b 1) (k2 : y2 (ix2 r l) = b 2) (k3 : y3 (ix2 r l) = b 3) (hw : w (ix2 r l) = area b) :
    k0_pay80 (F := Ideal) v j x0 x1 x2 x3 y0 y1 y2 y3 w (ix2 r l) = IntOp.andi (BitVec.ofBool (clear a b)) (IntOp.cmpi .ne (v (ix2 r l)) j) := by
  unfold k0_pay80
  pointwise [h0, h1, h2, h3, k0, k1, k2, k3, hw]
  rfl

theorem stay2 (j : BitVec 32) (v : IVec S48x128 32) (a b : Box) (x0 x1 x2 x3 : FVec Ideal S1x128 .f32) (y0 y1 y2 y3 w m : FVec Ideal S48x128 .f32) (t1 t2 : BitVec 1) (st : IVec S48x128 1)
    (r : Fin 48) (l : Fin 128)
    (h0 : ∀ l, x0 (ix2 0 l) = a 0) (h1 : ∀ l, x1 (ix2 0 l) = a 1) (h2 : ∀ l, x2 (ix2 0 l) = a 2) (h3 : ∀ l, x3 (ix2 0 l) = a 3)
    (k0 : y0 (ix2 r l) = b 0) (k1 : y1 (ix2 r l) = b 1) (k2 : y2 (ix2 r l) = b 2) (k3 : y3 (ix2 r l) = b 3) (hw : w (ix2 r l) = area b) :
    (k0_pay83 (F := Ideal) v j x0 x1 x2 x3 t1 t2 st (k0_pay81 x0 y0) (k0_pay82 x1 y1) y2 y3 w m (ix2 r l) : EReal)
      = Scalar.select (IntOp.andi (IntOp.ori (st (ix2 r l)) (Scalar.xori t1 1#1)) (IntOp.ori (IntOp.andi (BitVec.ofBool (clear a b)) (IntOp.cmpi .ne (v (ix2 r l)) j)) (Scalar.xori t2 1#1)))
        (m (ix2 r l)) 0 := by
  unfold k0_pay83 k0_pay82 k0_pay81
  pointwise [h0, h1, h2, h3, k0, k1, k2, k3, hw]
  rfl

theorem areas (y0 y1 y2 y3 : FVec Ideal S48x128 .f32) (b : Box) (r : Fin 48) (l : Fin 128)
    (k0 : y0 (ix2 r l) = b 0) (k1 : y1 (ix2 r l) = b 1) (k2 : y2 (ix2 r l) = b 2) (k3 : y3 (ix2 r l) = b 3) : (k0_pay19 (F := Ideal) y0 y1 y2 y3 (ix2 r l) : EReal) = area b := by
  unfold k0_pay19
  pointwise [k0, k1, k2, k3]
  rfl

theorem number48 (r : Fin 48) (l : Fin 128) : k0_pay18 k0_pay50 (ix2 r l) = BitVec.ofNat 32 (r.val * 128 + l.val) := by
  unfold k0_pay18 k0_pay50
  pointwise
  apply BitVec.eq_of_toNat_eq
  show ((BitVec.ofNat 32 r.val * 128#32) + BitVec.ofNat 32 l.val).toNat = _
  rw [BitVec.toNat_add, BitVec.toNat_mul, BitVec.toNat_ofNat, BitVec.toNat_ofNat, BitVec.toNat_ofNat, BitVec.toNat_ofNat]
  omega

theorem start_mask (r : Fin 48) (l : Fin 128) : (k0_pay20 (F := Ideal) k0_pay50 (ix2 r l) : EReal) = if r.val * 128 + l.val < 6000 then 1 else 0 := by
  unfold k0_pay20
  pointwise [number48]
  have e : IntOp.cmpi CmpIPredicate.slt (BitVec.ofNat 32 (r.val * 128 + l.val)) 6000#32 = BitVec.ofBool (decide (r.val * 128 + l.val < 6000)) := by
    show BitVec.ofBool ((BitVec.ofNat 32 (r.val * 128 + l.val)).slt 6000#32) = _
    congr 1
    have ht : (BitVec.ofNat 32 (r.val * 128 + l.val)).toInt = ((r.val * 128 + l.val : ℕ) : ℤ) := by
      rw [BitVec.toInt_eq_toNat_of_lt (by rw [BitVec.toNat_ofNat]; omega), BitVec.toNat_ofNat]
      omega
    rw [Bool.eq_iff_iff, BitVec.slt_iff_toInt_lt, decide_eq_true_eq, ht, show (6000#32 : BitVec 32).toInt = 6000 from by decide]
    omega
  rw [e, ofBool_real]
  simp only [decide_eq_true_eq]

theorem packed (x : Fin 5 → FVec Ideal S1x128 .f32) (k : Fin 5) (l : Fin 128) :
    k0_pay21 (F := Ideal) (x 0) (x 1) (x 2) (x 3) (x 4) (ix2 ⟨k.val, by omega⟩ l) = x k (ix2 0 l) := by
  unfold k0_pay21
  fin_cases k
  · pointwise
  · pointwise
  · pointwise
  · pointwise
  · pointwise

theorem start_out (r : Fin 1000) (l : Fin 128) : (k0_pay51 (F := Ideal) (ix2 r l) : EReal) = neg1 := by
  unfold k0_pay51
  pointwise
  rfl

end Cert.Proof.Value
-- ==== Proof.Value.SelStep.lean ====
/-
  The kernel's selection, trip by trip: it keeps the invariant of going through the candidates in order two at a time.
-/
module

public import proofs.«01_k».proof.Proof.Value.SelPay

@[expose] public section

noncomputable section

namespace Cert.Proof.Value

open Idealize.ShloMosaic Cert.KernelIdeal Cert.KernelIdeal.Gen Cert.Proof.KI

/-- What the selection reads, as candidates: boxes and scores by place. -/
structure Reads (X : Fixed Idealize.ShloMosaic.Ideal) (S : ℕ → EReal) (B : ℕ → Box) : Prop where
  x1 : ∀ (r : Fin 48) (l : Fin 128), X.x1 (ix2 ⟨r.val, by omega⟩ l) = B (r.val * 128 + l.val) 0
  y1 : ∀ (r : Fin 48) (l : Fin 128), X.y1 (ix2 ⟨r.val, by omega⟩ l) = B (r.val * 128 + l.val) 1
  x2 : ∀ (r : Fin 48) (l : Fin 128), X.x2 (ix2 ⟨r.val, by omega⟩ l) = B (r.val * 128 + l.val) 2
  y2 : ∀ (r : Fin 48) (l : Fin 128), X.y2 (ix2 ⟨r.val, by omega⟩ l) = B (r.val * 128 + l.val) 3
  area : ∀ (r : Fin 48) (l : Fin 128), X.area (ix2 r l) = area (B (r.val * 128 + l.val))
  pack : ∀ (r : Fin 48) (l : Fin 128) (k : Fin 4), X.pack (ix2 ⟨8 * r.val + k.val, by omega⟩ l) = B (r.val * 128 + l.val) k
  score : ∀ (r : Fin 48) (l : Fin 128), X.pack (ix2 ⟨8 * r.val + 4, by omega⟩ l) = S (r.val * 128 + l.val)

/-- The mask's entry of a candidate. -/
def maskAt (m : FVec Ideal S48x128 .f32) (i : ℕ) : EReal := if h : i < 6144 then m (ix2 ⟨i / 128, by omega⟩ ⟨i % 128, by omega⟩) else 0
/-- The result's entries. -/
def outAt (o : FVec Ideal S1000x128 .f32) (r l : ℕ) : EReal := if h : r < 1000 ∧ l < 128 then o (ix2 ⟨r, h.1⟩ ⟨l, h.2⟩) else 0

/-- What the selection keeps. -/
structure Going (B : ℕ → Box) (S : ℕ → EReal) (s : Sel Idealize.ShloMosaic.Ideal) : Prop where
  even : s.j.toNat % 2 = 0
  inv : Inv B S s.j.toNat s.n.toNat (maskAt s.mask) (outAt s.out)

theorem half : Ideal.ofBits .f32 0x3F000000#32 = ((1 / 2 : ℝ) : EReal) := by
  simp [Ideal.ofBits, Ideal.ieee, -EReal.coe_mul, -EReal.coe_neg]; norm_num

theorem over_half (b : Bool) (x : EReal) (hx : x = if b = true then 1 else 0) :
    Scalar.cmpf (F := Ideal) (φ := .f32) .ogt x (Scalar.ofBits .f32 0x3F000000#32) = BitVec.ofBool b := by
  show BitVec.ofBool (decide (Ideal.ofBits .f32 0x3F000000#32 < x)) = _
  rw [half, hx]
  cases b
  · rw [if_neg (by decide), decide_eq_false]
    rw [not_lt]
    exact_mod_cast (by norm_num : (0 : ℝ) ≤ 1 / 2)
  · rw [if_pos rfl, decide_eq_true]
    exact_mod_cast (by norm_num : (1 / 2 : ℝ) < 1)

section
variable {X : Fixed Idealize.ShloMosaic.Ideal} {S : ℕ → EReal} {B : ℕ → Box} {s : Sel Idealize.ShloMosaic.Ideal}

theorem second_toNat (h : s.j.toNat < 6143) : (second s).toNat = s.j.toNat + 1 := by
  have := toNat_second s.j (by omega)
  unfold second
  omega

theorem maskRow_at (h : k0_chk1 s.j) (hj : s.j.toNat < 6144) (l : Fin 128) : maskRow s h (ix2 0 l) = s.mask (ix2 ⟨s.j.toNat / 128, by omega⟩ l) := by
  unfold maskRow
  show s.mask _ = s.mask _
  congr 1
  funext q
  fin_cases q
  · apply Fin.ext
    show (Scalar.shrsi s.j 7#32).toNat + 1 * 0 = s.j.toNat / 128
    rw [toNat_shrsi7 _ (by omega)]
    omega
  · apply Fin.ext
    show 0 + 1 * l.val = l.val
    omega

theorem maskRow2_at (h : k0_chk1 s.j) (hj : s.j.toNat < 6143) (l : Fin 128) : maskRow2 s h (ix2 0 l) = s.mask (ix2 ⟨(s.j.toNat + 1) / 128, by omega⟩ l) := by
  have h2 := second_toNat hj
  unfold maskRow2
  show s.mask _ = s.mask _
  congr 1
  funext q
  fin_cases q
  · apply Fin.ext
    show (Scalar.shrsi (second s) 7#32).toNat + 1 * 0 = (s.j.toNat + 1) / 128
    rw [toNat_shrsi7 _ (by omega)]
    omega
  · apply Fin.ext
    show 0 + 1 * l.val = l.val
    omega

theorem packRow_at (h : k0_chk1 s.j) (hj : s.j.toNat < 6144) (k : Fin 8) (l : Fin 128) : packRow X s h (ix2 k l) = X.pack (ix2 ⟨8 * (s.j.toNat / 128) + k.val, by omega⟩ l) := by
  have e := toNat_shrsi7 s.j (by omega)
  unfold packRow
  show X.pack _ = X.pack _
  congr 1
  funext q
  fin_cases q
  · apply Fin.ext
    show (Scalar.muli (Scalar.shrsi s.j 7#32) 8#32).toNat + 1 * k.val = 8 * (s.j.toNat / 128) + k.val
    rw [toNat_muli8 _ (by omega)]
    omega
  · apply Fin.ext
    show 0 + 1 * l.val = l.val
    omega

theorem packRow2_at (h : k0_chk1 s.j) (hj : s.j.toNat < 6143) (k : Fin 8) (l : Fin 128) :
    packRow2 X s h (ix2 k l) = X.pack (ix2 ⟨8 * ((s.j.toNat + 1) / 128) + k.val, by omega⟩ l) := by
  have h2 := second_toNat hj
  have e := toNat_shrsi7 (second s) (by omega)
  unfold packRow2
  show X.pack _ = X.pack _
  congr 1
  funext q
  fin_cases q
  · apply Fin.ext
    show (Scalar.muli (Scalar.shrsi (second s) 7#32) 8#32).toNat + 1 * k.val = 8 * ((s.j.toNat + 1) / 128) + k.val
    rw [toNat_muli8 _ (by omega)]
    omega
  · apply Fin.ext
    show 0 + 1 * l.val = l.val
    omega

theorem top_at (X : Fixed Idealize.ShloMosaic.Ideal) (r : Fin 48) (l : Fin 128) :
    topX1 X (ix2 r l) = X.x1 (ix2 ⟨r.val, by omega⟩ l) ∧ topY1 X (ix2 r l) = X.y1 (ix2 ⟨r.val, by omega⟩ l) ∧ topX2 X (ix2 r l) = X.x2 (ix2 ⟨r.val, by omega⟩ l)
      ∧ topY2 X (ix2 r l) = X.y2 (ix2 ⟨r.val, by omega⟩ l) ∧ areaRead X (ix2 r l) = X.area (ix2 r l) ∧ ∀ s : Sel Idealize.ShloMosaic.Ideal, maskRead s (ix2 r l) = s.mask (ix2 r l) := by
  unfold topX1 topY1 topX2 topY2 areaRead maskRead
  refine ⟨?_, ?_, ?_, ?_, ?_, fun s => ?_⟩
  · show X.x1 _ = X.x1 _
    congr 1; funext q; fin_cases q <;> apply Fin.ext
    · show 0 + 1 * r.val = r.val; omega
    · show 0 + 1 * l.val = l.val; omega
  · show X.y1 _ = X.y1 _
    congr 1; funext q; fin_cases q <;> apply Fin.ext
    · show 0 + 1 * r.val = r.val; omega
    · show 0 + 1 * l.val = l.val; omega
  · show X.x2 _ = X.x2 _
    congr 1; funext q; fin_cases q <;> apply Fin.ext
    · show 0 + 1 * r.val = r.val; omega
    · show 0 + 1 * l.val = l.val; omega
  · show X.y2 _ = X.y2 _
    congr 1; funext q; fin_cases q <;> apply Fin.ext
    · show 0 + 1 * r.val = r.val; omega
    · show 0 + 1 * l.val = l.val; omega
  · show X.area _ = X.area _
    congr 1; funext q; fin_cases q <;> apply Fin.ext
    · show 0 + 1 * r.val = r.val; omega
    · show 0 + 1 * l.val = l.val; omega
  · show s.mask _ = s.mask _
    congr 1; funext q; fin_cases q <;> apply Fin.ext
    · show 0 + 1 * r.val = r.val; omega
    · show 0 + 1 * l.val = l.val; omega

variable (R : Reads X S B)
include R

theorem first_box (h : k0_chk1 s.j) (hj : s.j.toNat < 6144) (k : Fin 4) :
    packRow X s h (ix2 ⟨k.val, by omega⟩ ⟨s.j.toNat % 128, by omega⟩) = B s.j.toNat k := by
  rw [packRow_at h hj, R.pack ⟨s.j.toNat / 128, by omega⟩ ⟨s.j.toNat % 128, by omega⟩ k]
  congr 1
  show s.j.toNat / 128 * 128 + s.j.toNat % 128 = _
  omega

theorem first_score (h : k0_chk1 s.j) (hj : s.j.toNat < 6144) : packRow X s h (ix2 4 ⟨s.j.toNat % 128, by omega⟩) = S s.j.toNat := by
  rw [packRow_at h hj]
  refine (R.score ⟨s.j.toNat / 128, by omega⟩ ⟨s.j.toNat % 128, by omega⟩).trans ?_
  congr 1
  show s.j.toNat / 128 * 128 + s.j.toNat % 128 = _
  omega

theorem second_box (h : k0_chk1 s.j) (hj : s.j.toNat < 6143) (k : Fin 4) :
    packRow2 X s h (ix2 ⟨k.val, by omega⟩ ⟨(second s).toNat % 128, by omega⟩) = B (s.j.toNat + 1) k := by
  have e : (⟨(second s).toNat % 128, by omega⟩ : Fin 128) = ⟨(s.j.toNat + 1) % 128, by omega⟩ := Fin.ext (congrArg (· % 128) (second_toNat hj))
  rw [packRow2_at h hj, e, R.pack ⟨(s.j.toNat + 1) / 128, by omega⟩ ⟨(s.j.toNat + 1) % 128, by omega⟩ k]
  congr 1
  show (s.j.toNat + 1) / 128 * 128 + (s.j.toNat + 1) % 128 = _
  omega

theorem second_score (h : k0_chk1 s.j) (hj : s.j.toNat < 6143) : packRow2 X s h (ix2 4 ⟨(second s).toNat % 128, by omega⟩) = S (s.j.toNat + 1) := by
  have e : (⟨(second s).toNat % 128, by omega⟩ : Fin 128) = ⟨(s.j.toNat + 1) % 128, by omega⟩ := Fin.ext (congrArg (· % 128) (second_toNat hj))
  rw [packRow2_at h hj, e]
  refine (R.score ⟨(s.j.toNat + 1) / 128, by omega⟩ ⟨(s.j.toNat + 1) % 128, by omega⟩).trans ?_
  congr 1
  show (s.j.toNat + 1) / 128 * 128 + (s.j.toNat + 1) % 128 = _
  omega

variable (G : Going B S s)
include G

omit R in
theorem take1_eq (h : k0_chk1 s.j) (hj : s.j.toNat < 6144) : take1 lanes s h = BitVec.ofBool (V B s.n.toNat s.j.toNat) := by
  unfold take1
  refine over_half _ _ ?_
  rw [single, pick, maskRow_at h hj, ← G.inv.mask _ le_rfl hj]
  unfold maskAt
  rw [dif_pos hj]

omit R in
theorem mask2_eq (h : k0_chk1 s.j) (hj : s.j.toNat < 6143) : mask2 lanes s h = BitVec.ofBool (V B s.n.toNat (s.j.toNat + 1)) := by
  unfold mask2
  refine over_half _ _ ?_
  have e : (⟨(second s).toNat % 128, by omega⟩ : Fin 128) = ⟨(s.j.toNat + 1) % 128, by omega⟩ := Fin.ext (congrArg (· % 128) (second_toNat hj))
  refine (single2 _).trans ((pick (second s) _).trans ?_)
  rw [maskRow2_at h hj, e, ← G.inv.mask _ (by omega) (by omega)]
  unfold maskAt
  rw [dif_pos (by omega)]

omit G in
theorem apart_eq (h : k0_chk1 s.j) (hj : s.j.toNat < 6143) : apart lanes X s h = BitVec.ofBool (clear (B s.j.toNat) (B (s.j.toNat + 1))) := by
  unfold apart
  refine over_half _ _ (pair _ _ _ _ _ _ _ _ _ _ ?_ ?_ ?_ ?_ ?_ ?_ ?_ ?_)
  · exact (spread0 _ _ _).trans (first_box R h (by omega) 0)
  · exact (spread1 _ _ _).trans (first_box R h (by omega) 1)
  · exact (spread2 _ _ _).trans (first_box R h (by omega) 2)
  · exact (spread3 _ _ _).trans (first_box R h (by omega) 3)
  · exact (spread0 _ _ _).trans (second_box R h (by omega) 0)
  · exact (spread1 _ _ _).trans (second_box R h (by omega) 1)
  · exact (spread2 _ _ _).trans (second_box R h (by omega) 2)
  · exact (spread3 _ _ _).trans (second_box R h (by omega) 3)

theorem take2_eq (h : k0_chk1 s.j) (hj : s.j.toNat < 6143) : take2 lanes X s h
    = BitVec.ofBool (V B s.n.toNat (s.j.toNat + 1) && (!V B s.n.toNat s.j.toNat || clear (B s.j.toNat) (B (s.j.toNat + 1)))) := by
  have e1 : (Scalar.addi s.j 1#32).toNat = s.j.toNat + 1 := by
    show (s.j + 1#32).toNat = _
    rw [BitVec.toNat_add]
    show (s.j.toNat + 1) % 2 ^ 32 = _
    omega
  have e2 : Scalar.cmpi .slt (Scalar.addi s.j 1#32) 6144#32 = 1#1 := (slt_iff (by omega) (by decide)).mpr (by rw [e1]; show _ < 6144; omega)
  unfold take2
  rw [take1_eq G h (by omega), mask2_eq G h hj, apart_eq R h hj, e2]
  generalize V B s.n.toNat (s.j.toNat + 1) = a
  generalize V B s.n.toNat s.j.toNat = b
  generalize clear _ _ = c
  revert a b c
  decide

omit R G in
theorem extui_toNat (b : Bool) : (Scalar.extui (BitVec.ofBool b) : BitVec 32).toNat = b.toNat := by cases b <;> rfl

omit R G in
theorem word_ne (i : ℕ) (hi : i < 6144) (j : BitVec 32) : IntOp.cmpi .ne (BitVec.ofNat 32 i) j = BitVec.ofBool (decide (i ≠ j.toNat)) := by
  show BitVec.ofBool (BitVec.ofNat 32 i != j) = _
  congr 1
  rw [Bool.eq_iff_iff, bne_iff_ne, decide_eq_true_eq, not_iff_not]
  constructor
  · rintro rfl
    rw [BitVec.toNat_ofNat]
    omega
  · intro h
    apply BitVec.eq_of_toNat_eq
    rw [BitVec.toNat_ofNat, h]
    have := j.isLt
    omega

theorem nextMask_eq (h : k0_chk1 s.j) (hj : s.j.toNat < 6143) (r : Fin 48) (l : Fin 128) (t1 t2 : Bool)
    (h1 : take1 lanes s h = BitVec.ofBool t1) (h2 : take2 lanes X s h = BitVec.ofBool t2) :
    nextMask lanes (k0_pay18 k0_pay50) X s h (ix2 r l)
      = if ((clear (B s.j.toNat) (B (r.val * 128 + l.val)) && decide (r.val * 128 + l.val ≠ s.j.toNat) || !t1)
          && (clear (B (s.j.toNat + 1)) (B (r.val * 128 + l.val)) && decide (r.val * 128 + l.val ≠ s.j.toNat + 1) || !t2)) = true
        then s.mask (ix2 r l) else (0 : EReal) := by
  obtain ⟨q1, q2, q3, q4, q5, q6⟩ := top_at X r l
  have k1 := q1.trans (R.x1 r l)
  have k2 := q2.trans (R.y1 r l)
  have k3 := q3.trans (R.x2 r l)
  have k4 := q4.trans (R.y2 r l)
  have k5 := q5.trans (R.area r l)
  unfold nextMask
  refine (stay2 (second s) _ (B (s.j.toNat + 1)) (B (r.val * 128 + l.val)) _ _ _ _ _ _ _ _ _ _ _ _ _ r l
    (fun l => (spread0 _ _ l).trans (second_box R h hj 0)) (fun l => (spread1 _ _ l).trans (second_box R h hj 1))
    (fun l => (spread2 _ _ l).trans (second_box R h hj 2)) (fun l => (spread3 _ _ l).trans (second_box R h hj 3)) k1 k2 k3 k4 k5).trans ?_
  rw [stay1 s.j _ (B s.j.toNat) (B (r.val * 128 + l.val)) _ _ _ _ _ _ _ _ _ r l
    (fun l => (spread0 _ _ l).trans (first_box R h (by omega) 0)) (fun l => (spread1 _ _ l).trans (first_box R h (by omega) 1))
    (fun l => (spread2 _ _ l).trans (first_box R h (by omega) 2)) (fun l => (spread3 _ _ l).trans (first_box R h (by omega) 3)) k1 k2 k3 k4 k5,
    number48, word_ne _ (by omega), word_ne _ (by omega), second_toNat hj, q6 s, h1, h2]
  generalize decide (r.val * 128 + l.val ≠ s.j.toNat) = a
  generalize decide (r.val * 128 + l.val ≠ s.j.toNat + 1) = b
  generalize clear (B s.j.toNat) _ = c
  generalize clear (B (s.j.toNat + 1)) _ = d
  rw [show IntOp.andi (IntOp.ori (IntOp.andi (BitVec.ofBool c) (BitVec.ofBool a)) (Scalar.xori (BitVec.ofBool t1) 1#1))
      (IntOp.ori (IntOp.andi (BitVec.ofBool d) (BitVec.ofBool b)) (Scalar.xori (BitVec.ofBool t2) 1#1))
      = BitVec.ofBool ((c && a || !t1) && (d && b || !t2)) by clear h1 h2; revert a b c d t1 t2; decide]
  exact select_bool _ _ _

omit G in
theorem row1_at (h : k0_chk1 s.j) (hj : s.j.toNat < 6144) (l : Fin 128) : row1 lanes X s h (ix2 0 l) = entry (B s.j.toNat) (S s.j.toNat) l.val := by
  unfold row1
  refine (emitted _ _ l).trans ?_
  rw [first_score R h hj]
  congr 1
  funext k
  exact first_box R h hj k

omit G in
theorem row2_at (h : k0_chk1 s.j) (hj : s.j.toNat < 6143) (l : Fin 128) : row2 lanes X s h (ix2 0 l) = entry (B (s.j.toNat + 1)) (S (s.j.toNat + 1)) l.val := by
  unfold row2
  refine (emitted2 _ _ l).trans ?_
  rw [second_score R h hj]
  congr 1
  funext k
  exact second_box R h hj k

omit R G in
theorem out1_at (h : Live s) (t1 : Bool) (h1 : take1 lanes s (chk1_of _ h.1) = BitVec.ofBool t1) (r : Fin 1000) (l : Fin 128) :
    out1 lanes X s h (ix2 r l) = if t1 = true ∧ r.val = s.n.toNat then row1 lanes X s (chk1_of _ h.1) (ix2 0 l) else s.out (ix2 r l) := by
  have hc : k0_cond1 (take1 lanes s (chk1_of _ h.1)) = 1#1 ↔ t1 = true := by
    rw [h1]; cases t1 <;> decide
  have ho : k0_off7 s.n = ![s.n.toNat, 0] := rfl
  have hr : ∀ G : Vec Idealize.ShloMosaic.Ideal S1000x128 .f32, (Memref.whole cc0_stg5_0 : Memref sig .tc _ _ _).view.read (Elt Idealize.ShloMosaic.Ideal) G = G := fun G => rfl
  rw [← hr (out1 lanes X s h)]
  unfold out1
  by_cases ht : t1 = true
  · rw [dif_pos (hc.mpr ht)]
    by_cases hrn : r.val = s.n.toNat
    · rw [if_pos ⟨ht, hrn⟩]
      refine (View.read_writes_cons_rows_of_mem (Val := Elt Idealize.ShloMosaic.Ideal) (d := ![1000, 128]) (v := (Memref.whole cc0_stg5_0 : Memref sig .tc .vmem S1000x128 .f32).view) (size := ![1, 128]) (o := s.n.toNat) (f := s.out)
        (inb := k0_off7_inb s.n _ (chk2_of _ _ h.2) (hc.mpr ht)) (w := _) (L := []) (y := ix2 r l) (x := ix2 0 l) ho (by show r.val = s.n.toNat + 0; omega) rfl)
    · rw [if_neg (fun hh => hrn hh.2)]
      refine (View.read_writes_cons_rows_of_not_mem (Val := Elt Idealize.ShloMosaic.Ideal) (d := ![1000, 128]) (v := (Memref.whole cc0_stg5_0 : Memref sig .tc .vmem S1000x128 .f32).view) (size := ![1, 128]) (o := s.n.toNat) (W := 1) (f := s.out)
        (inb := k0_off7_inb s.n _ (chk2_of _ _ h.2) (hc.mpr ht)) (w := _) (L := []) (y := ix2 r l) ho rfl (by show r.val < s.n.toNat ∨ s.n.toNat + 1 ≤ r.val; omega)).trans ?_
      rw [View.writes_nil, hr]
  · rw [dif_neg (fun hh => ht (hc.mp hh)), if_neg (fun hh => ht hh.1), hr]

omit R G in
theorem store_word : ∀ (t : Bool) (c : BitVec 1),
    Scalar.cmpi .ne (Scalar.extui (Scalar.andi (BitVec.ofBool t) c) : BitVec 32) 0#32 = 1#1 ↔ t = true ∧ c = 1#1 := by decide

omit R G in
theorem out2_at (h : Live s) (t1 t2 : Bool) (h1 : take1 lanes s (chk1_of _ h.1) = BitVec.ofBool t1) (h2 : take2 lanes X s (chk1_of _ h.1) = BitVec.ofBool t2) (r : Fin 1000) (l : Fin 128) :
    out2 lanes X s h (ix2 r l) = if t2 = true ∧ r.val = s.n.toNat + t1.toNat then row2 lanes X s (chk1_of _ h.1) (ix2 0 l) else out1 lanes X s h (ix2 r l) := by
  have hn : (Scalar.addi s.n (Scalar.extui (take1 lanes s (chk1_of _ h.1)))).toNat = s.n.toNat + t1.toNat := by
    rw [toNat_add_extui _ _ (by have := h.2; omega), h1, extui_toNat]
  have hc : k0_cond2 s.j s.n (take1 lanes s (chk1_of _ h.1)) (mask2 lanes s (chk1_of _ h.1)) (apart lanes X s (chk1_of _ h.1)) = 1#1
      ↔ t2 = true ∧ s.n.toNat + t1.toNat < 1000 := by
    have e : k0_cond2 s.j s.n (take1 lanes s (chk1_of _ h.1)) (mask2 lanes s (chk1_of _ h.1)) (apart lanes X s (chk1_of _ h.1))
      = Scalar.cmpi .ne (Scalar.extui (Scalar.andi (take2 lanes X s (chk1_of _ h.1)) (Scalar.cmpi .slt (Scalar.addi s.n (Scalar.extui (take1 lanes s (chk1_of _ h.1)))) 1000#32)) : BitVec 32) 0#32 := rfl
    have hs := slt_iff (x := Scalar.addi s.n (Scalar.extui (take1 lanes s (chk1_of _ h.1)))) (y := 1000#32)
      (by rw [hn]; have := h.2; have := Bool.toNat_le t1; omega) (by decide)
    rw [hn] at hs
    rw [e, h2]
    have e2 : (s.n.toNat + t1.toNat < 1000) ↔ s.n.toNat + t1.toNat < (1000#32 : BitVec 32).toNat := Iff.rfl
    rw [e2, ← hs]
    exact store_word t2 _
  have ho : k0_off8 s.n (take1 lanes s (chk1_of _ h.1)) = ![s.n.toNat + t1.toNat, 0] := by
    rw [← hn]
    rfl
  have hr : ∀ G : Vec Idealize.ShloMosaic.Ideal S1000x128 .f32, (Memref.whole cc0_stg5_0 : Memref sig .tc _ _ _).view.read (Elt Idealize.ShloMosaic.Ideal) G = G := fun G => rfl
  rw [← hr (out2 lanes X s h)]
  unfold out2
  by_cases ht : t2 = true ∧ s.n.toNat + t1.toNat < 1000
  · rw [dif_pos (hc.mpr ht)]
    by_cases hrn : r.val = s.n.toNat + t1.toNat
    · rw [if_pos ⟨ht.1, hrn⟩]
      refine (View.read_writes_cons_rows_of_mem (Val := Elt Idealize.ShloMosaic.Ideal) (d := ![1000, 128]) (v := (Memref.whole cc0_stg5_0 : Memref sig .tc .vmem S1000x128 .f32).view) (size := ![1, 128]) (o := s.n.toNat + t1.toNat) (f := out1 lanes X s h)
        (inb := k0_off8_inb s.j s.n _ _ _ (chk3_of _ _ _ _ _ h.2) (hc.mpr ht)) (w := _) (L := []) (y := ix2 r l) (x := ix2 0 l) ho (by show r.val = s.n.toNat + t1.toNat + 0; omega) rfl)
    · rw [if_neg (fun hh => hrn hh.2)]
      refine (View.read_writes_cons_rows_of_not_mem (Val := Elt Idealize.ShloMosaic.Ideal) (d := ![1000, 128]) (v := (Memref.whole cc0_stg5_0 : Memref sig .tc .vmem S1000x128 .f32).view) (size := ![1, 128]) (o := s.n.toNat + t1.toNat) (W := 1) (f := out1 lanes X s h)
        (inb := k0_off8_inb s.j s.n _ _ _ (chk3_of _ _ _ _ _ h.2) (hc.mpr ht)) (w := _) (L := []) (y := ix2 r l) ho rfl (by show r.val < s.n.toNat + t1.toNat ∨ s.n.toNat + t1.toNat + 1 ≤ r.val; omega)).trans ?_
      rw [View.writes_nil, hr]
  · rw [dif_neg (fun hh => ht (hc.mp hh)), if_neg (fun hh => ht ⟨hh.1, by have := r.isLt; omega⟩), hr]

/-- A trip keeps what the selection keeps. -/
theorem Going.step (h : Live s) : Going B S (selStep lanes (k0_pay18 k0_pay50) X s h) := by
  have hl := h.1
  have hn := h.2
  have hj : s.j.toNat < 6143 := by have := G.even; omega
  have h1 := take1_eq G (chk1_of _ h.1) h.1
  have h2 := take2_eq R G (chk1_of _ h.1) hj
  have ej := selStep_j lanes (k0_pay18 k0_pay50) X s h
  refine ⟨by rw [ej]; have := G.even; omega, ?_⟩
  generalize ht1 : V B s.n.toNat s.j.toNat = t1 at h1 h2
  generalize ht2 : (V B s.n.toNat (s.j.toNat + 1) && (!t1 || clear (B s.j.toNat) (B (s.j.toNat + 1)))) = t2 at h2
  have en : (selStep lanes (k0_pay18 k0_pay50) X s h).n.toNat = s.n.toNat + t1.toNat + t2.toNat := by
    show (Scalar.addi (Scalar.addi s.n (Scalar.extui (take1 lanes s (chk1_of _ h.1)))) (Scalar.extui (take2 lanes X s (chk1_of _ h.1)))).toNat = _
    have e1 := toNat_add_extui s.n (take1 lanes s (chk1_of _ h.1)) (by omega)
    rw [h1, extui_toNat] at e1
    have := Bool.toNat_le t1
    rw [toNat_add_extui _ _ (by rw [h1]; omega), h1, h2, extui_toNat, e1]
  rw [ej, en]
  refine Inv.step B S G.inv (by omega) hn t1 t2 ht1.symm ht2.symm _ _ ?_ ?_
  · intro i hi
    unfold maskAt
    rw [dif_pos hi, dif_pos hi]
    refine (nextMask_eq R G (chk1_of _ h.1) hj ⟨i / 128, by omega⟩ ⟨i % 128, by omega⟩ t1 t2 h1 h2).trans ?_
    have e : i / 128 * 128 + i % 128 = i := by omega
    simp only [e]
  · intro r hr l hl'
    unfold outAt
    rw [dif_pos ⟨hr, by omega⟩, dif_pos ⟨hr, by omega⟩]
    refine (out2_at h t1 t2 h1 h2 ⟨r, hr⟩ ⟨l, by omega⟩).trans ?_
    rw [out1_at h t1 h1, row1_at R _ h.1, row2_at R _ hj]

end

/-- The selection run to its end. -/
theorem going_run {X : Fixed Idealize.ShloMosaic.Ideal} {S : ℕ → EReal} {B : ℕ → Box} (R : Reads X S B) (k : ℕ) :
    ∀ s : Sel Idealize.ShloMosaic.Ideal, Going B S s → 6144 ≤ s.j.toNat + 2 * k →
      Going B S (selRun lanes (k0_pay18 k0_pay50) X k s) ∧ ¬ Live (selRun lanes (k0_pay18 k0_pay50) X k s) := by
  induction k with
  | zero =>
    intro s G hk
    exact ⟨G, fun h : Live s => by have := h.1; omega⟩
  | succ k ih =>
    intro s G hk
    unfold selRun
    by_cases h : Live s
    · rw [dif_pos h]
      refine ih _ (Going.step R G h) ?_
      rw [selStep_j]
      omega
    · rw [dif_neg h]
      exact ⟨G, h⟩

theorem going_start (B : ℕ → Box) (S : ℕ → EReal) : Going B S (startSel : Sel Idealize.ShloMosaic.Ideal) where
  even := rfl
  inv :=
    { mask := fun i _ hi => by
        unfold maskAt
        rw [dif_pos hi]
        refine (start_mask ⟨i / 128, by omega⟩ ⟨i % 128, by omega⟩).trans ?_
        have e : i / 128 * 128 + i % 128 = i := by omega
        show (if i / 128 * 128 + i % 128 < 6000 then (1 : EReal) else 0) = if decide (i < 6000) = true then 1 else 0
        rw [e]
        simp only [decide_eq_true_eq]
      done := fun i hi => absurd hi (Nat.not_lt_zero i)
      rows := fun r hr => absurd hr (Nat.not_lt_zero r)
      rest := fun r _ hr l hl => by
        unfold outAt
        rw [dif_pos ⟨hr, by omega⟩]
        exact start_out ⟨r, hr⟩ ⟨l, by omega⟩ }

/-- The rows the selection leaves. -/
theorem selected {X : Fixed Idealize.ShloMosaic.Ideal} {S : ℕ → EReal} {B : ℕ → Box} (R : Reads X S B) (r : Fin 1000) (l : Fin 5) :
    (selRun lanes (k0_pay18 k0_pay50) X 3072 startSel).out (ix2 r ⟨l.val, by omega⟩) = rowAt B S (V B r.val) l.val := by
  obtain ⟨G, hl⟩ := going_run R 3072 startSel (going_start B S) (by show 6144 ≤ 0 + 2 * 3072; omega)
  have := Inv.result B S G.inv (by unfold Live at hl; omega) r.val r.isLt l.val l.isLt
  unfold outAt at this
  rw [dif_pos ⟨r.isLt, by omega⟩] at this
  exact this

end Cert.Proof.Value
-- ==== Proof.Value.RefBest.lean ====
/-
  The reference's pick: among the eligible candidates, whose scores never rise along the list, the one of the greatest
  score and least number is the first eligible one.
-/
module

public import Idealize.ShloMosaic.Lib.Pointwise
public import Idealize.ShloMosaic.Lib.WordCmp
public import proofs.«01_k».proof.Proof.Gen.ReferenceIdeal.Step
public import proofs.«01_k».proof.Proof.Value.Greedy

@[expose] public section

noncomputable section

namespace Cert.Proof.Value.Ref

open Idealize.ShloMosaic Cert.ReferenceIdeal Cert.ReferenceIdeal.Gen Cert.ReferenceIdeal.Step Cert.Proof.Value

/-- A fold that keeps one of two values each time ends at one of the values. -/
theorem foldl_mem {α β : Type} (f : α → α → α) (hf : ∀ a b, f a b = a ∨ f a b = b) (g : β → α) (l : List β) (a : α) :
    l.foldl (fun r n => f r (g n)) a = a ∨ ∃ n ∈ l, l.foldl (fun r n => f r (g n)) a = g n := by
  induction l generalizing a with
  | nil => exact Or.inl rfl
  | cons b l ih =>
    rw [List.foldl_cons]
    rcases ih (f a (g b)) with h | ⟨n, hn, h⟩
    · rw [h]
      rcases hf a (g b) with h' | h'
      · exact Or.inl h'
      · exact Or.inr ⟨b, List.mem_cons_self, h'⟩
    · exact Or.inr ⟨n, List.mem_cons_of_mem _ hn, h⟩

/-- A fold that never gets worse ends at least as good as the start and as every value. -/
theorem foldl_best {α β : Type} (f : α → α → α) (R : α → α → Prop) (hr : ∀ a, R a a) (ht : ∀ a b c, R a b → R b c → R a c)
    (h1 : ∀ a b, R (f a b) a) (h2 : ∀ a b, R (f a b) b) (g : β → α) (l : List β) (a : α) :
    R (l.foldl (fun r n => f r (g n)) a) a ∧ ∀ n ∈ l, R (l.foldl (fun r n => f r (g n)) a) (g n) := by
  induction l generalizing a with
  | nil => exact ⟨hr a, fun n hn => absurd hn List.not_mem_nil⟩
  | cons b l ih =>
    rw [List.foldl_cons]
    obtain ⟨i1, i2⟩ := ih (f a (g b))
    refine ⟨ht _ _ _ i1 (h1 a _), fun n hn => ?_⟩
    rcases List.mem_cons.mp hn with rfl | hn
    · exact ht _ _ _ i1 (h2 _ _)
    · exact i2 n hn

section
variable {α : Type} (f : α → α → α) (x : S6000.Idx → α) (init : S_.Idx → α) (h : S6000.ReducesTo [0] S_) (hu : 0 < S_.numel)

theorem reduce_mem (hf : ∀ a b, f a b = a ∨ f a b = b) (y : S_.Idx) :
    Host.reduce f x init h hu y = init (Shape.Idx.first hu) ∨ ∃ i : Fin 6000, Host.reduce f x init h hu y = x (ix1 i) := by
  unfold Host.reduce
  rcases foldl_mem f hf (fun n => x (S6000.rowMajor.symm n))
    ((List.finRange S6000.numel).filter fun n => h.drop (S6000.rowMajor.symm n) = y) (init (Shape.Idx.first hu)) with e | ⟨n, _, e⟩
  · exact Or.inl e
  · refine Or.inr ⟨(S6000.rowMajor.symm n) 0, ?_⟩
    rw [e, ix1_eta]

theorem reduce_best (R : α → α → Prop) (hr : ∀ a, R a a) (ht : ∀ a b c, R a b → R b c → R a c)
    (h1 : ∀ a b, R (f a b) a) (h2 : ∀ a b, R (f a b) b) (y : S_.Idx) (i : Fin 6000) : R (Host.reduce f x init h hu y) (x (ix1 i)) := by
  unfold Host.reduce
  have := (foldl_best f R hr ht h1 h2 (fun n => x (S6000.rowMajor.symm n))
    ((List.finRange S6000.numel).filter fun n => h.drop (S6000.rowMajor.symm n) = y) (init (Shape.Idx.first hu))).2
      (S6000.rowMajor (ix1 i)) (List.mem_filter.mpr ⟨List.mem_finRange _, decide_eq_true (funext fun a => a.elim0)⟩)
  rwa [Equiv.symm_apply_apply] at this
end

theorem toInt_small (n : ℕ) (h : n < 2 ^ 31) : (BitVec.ofNat 32 n).toInt = n := by
  rw [BitVec.toInt_eq_toNat_of_lt (by rw [BitVec.toNat_ofNat]; omega), BitVec.toNat_ofNat]
  omega

theorem minsi_cases (a b : BitVec 32) : IntOp.minsi a b = a ∨ IntOp.minsi a b = b := by
  unfold IntOp.minsi; split <;> simp
theorem minsi_le1 (a b : BitVec 32) : (IntOp.minsi a b).toInt ≤ a.toInt := by
  unfold IntOp.minsi; simp only [BitVec.slt_iff_toInt_lt]; split <;> omega
theorem minsi_le2 (a b : BitVec 32) : (IntOp.minsi a b).toInt ≤ b.toInt := by
  unfold IntOp.minsi; simp only [BitVec.slt_iff_toInt_lt]; split <;> omega

/-- The state holds the eligible candidates, the scores and the boxes. -/
structure At (s : State Ideal) (v : ℕ → Bool) (S : ℕ → EReal) (B : ℕ → Box) : Prop where
  valid : ∀ i : Fin 6000, s.main_v9_3 (ix1 i) = BitVec.ofBool (v i.val)
  score : ∀ i : Fin 6000, s.main_v9_0 (ix1 i) = S i.val
  box : ∀ (i : Fin 6000) (k : Fin 4), s.main_v9_1 (ix2 i k) = B i.val k
  small : ∀ i, v i = true → i < 6000

variable {s : State Ideal} {v : ℕ → Bool} {S : ℕ → EReal} {B : ℕ → Box}

theorem select_ofBool' {α : Type} (b : Bool) (x y : α) : Scalar.select (BitVec.ofBool b) x y = if b = true then x else y := by
  cases b <;> rfl

theorem masked (h : At s v S B) (j : ℕ) (i : Fin 6000) : b3 j s (ix1 i) = if v i.val = true then S i.val else ⊥ := by
  unfold b3 b2 b1 b0
  pointwise
  rw [h.valid, h.score, neg_inf]
  exact select_ofBool' _ _ _

theorem first_lt (h : At s v S B) : first v < 6000 := by
  by_cases hv : ∃ i, v i = true
  · exact h.small _ (first_spec hv)
  · unfold first; rw [dif_neg hv]; omega

theorem first_ge {i : ℕ} (hv : v i = true) : first v ≤ i := by
  by_contra hc
  rw [first_min (by omega : i < first v)] at hv
  exact absurd hv (by decide)

variable (hS : ∀ i j, i ≤ j → j < 6000 → S j ≤ S i) (hS0 : ∀ i, i < 6000 → ⊥ < S i)
include hS hS0

theorem top (h : At s v S B) (j : ℕ) (y : S_.Idx) : b5 j s y = b3 j s (ix1 ⟨first v, first_lt h⟩) := by
  apply le_antisymm
  · unfold b5
    rcases reduce_mem (FloatOps.maximumf (F := Ideal) (φ := .f32)) (b3 j s) (b4 j s) reducesTo_S6000_S_d0 h_S_
      (fun a b => max_choice (a : EReal) b) y with e | ⟨i, e⟩
    · rw [e]
      unfold b4
      pointwise
      rw [neg_inf]
      exact bot_le
    · rw [e, masked h, masked h]
      by_cases hv : v i.val = true
      · rw [if_pos hv, if_pos (first_spec ⟨_, hv⟩)]
        exact hS _ _ (first_ge hv) i.isLt
      · rw [if_neg hv]
        exact bot_le
  · unfold b5
    exact reduce_best (FloatOps.maximumf (F := Ideal) (φ := .f32)) (b3 j s) (b4 j s) reducesTo_S6000_S_d0 h_S_
      (fun a b : EReal => b ≤ a) (fun a => le_refl a) (fun a b c h1 h2 => h2.trans h1) (fun a b => le_max_left (a : EReal) b)
      (fun a b => le_max_right (a : EReal) b) y _

/-- The pick is the first eligible candidate. -/
theorem best (h : At s v S B) (j : ℕ) (y : S_.Idx) : b14 j s y = BitVec.ofNat 32 (first v) := by
  have hf := first_lt h
  have h12 : ∀ i : Fin 6000, b12 j s (ix1 i) = if b3 j s (ix1 i) = b3 j s (ix1 ⟨first v, hf⟩) then BitVec.ofNat 32 i.val else 5999#32 := fun i => by
    unfold b12 b11 b10 b9 b8 b7 b6
    pointwise
    rw [top hS hS0 h]
  have hle : (b14 j s y).toInt ≤ first v := by
    have := reduce_best (IntOp.minsi (w := 32)) (b12 j s) (b13 j s) reducesTo_S6000_S_d0 h_S_ (fun a b => a.toInt ≤ b.toInt)
      (fun a => le_refl _) (fun a b c h1 h2 => h1.trans h2) minsi_le1 minsi_le2 y ⟨first v, hf⟩
    rw [h12, if_pos rfl, toInt_small _ (by omega)] at this
    exact this
  have hge : ∀ i : Fin 6000, (first v : ℤ) ≤ (b12 j s (ix1 i)).toInt := fun i => by
    rw [h12]
    split
    · rename_i he
      rw [toInt_small _ (by have := i.isLt; omega)]
      by_contra hc
      have hlt : i.val < first v := by omega
      have hv : ∃ i, v i = true := by
        by_contra hv
        unfold first at hlt; rw [dif_neg hv] at hlt; omega
      rw [masked h, masked h, if_neg (by rw [first_min hlt]; decide), if_pos (first_spec hv)] at he
      exact absurd he (ne_of_lt (hS0 _ hf))
    · rw [show (5999#32 : BitVec 32).toInt = 5999 by decide]
      omega
  have hge' : (first v : ℤ) ≤ (b14 j s y).toInt := by
    rcases reduce_mem (IntOp.minsi (w := 32)) (b12 j s) (b13 j s) reducesTo_S6000_S_d0 h_S_ minsi_cases y with e | ⟨i, e⟩
    · have e' : b14 j s y = 2147483647#32 := e
      rw [e', show (2147483647#32 : BitVec 32).toInt = 2147483647 by decide]
      omega
    · have e' : b14 j s y = b12 j s (ix1 i) := e
      rw [e']
      exact hge i
  apply BitVec.eq_of_toInt_eq
  rw [toInt_small _ (by omega)]
  omega

end Cert.Proof.Value.Ref
-- ==== Proof.Value.TopK.lean ====
/-
  The reference's choice of candidates: the stable sort by descending score orders the places by score, equal scores by
  place; over the padded places the kernel's sort is the same rearrangement.
-/
module

public import Idealize.ShloMosaic.Lib.SortFacts
public import Idealize.ShloMosaic.Lib.Routing.Ops
public import Mathlib.Order.Fin.Basic
public import proofs.«01_k».proof.Proof.Value.Sort
public import proofs.«01_k».proof.Proof.Value.RefBest

@[expose] public section

noncomputable section

namespace Cert.Proof.Value

open Idealize.ShloMosaic

/-- A position's rank: its score, and of equal scores the earlier position is the higher. -/
def keyOf {n : ℕ} (x : Fin n → EReal) (a : Fin n) : EReal ×ₗ (Fin n)ᵒᵈ := toLex (x a, OrderDual.toDual a)

theorem keyOf_lt {n : ℕ} (x : Fin n → EReal) (a b : Fin n) : keyOf x b < keyOf x a ↔ x b < x a ∨ x b = x a ∧ a < b := by
  unfold keyOf
  rw [Prod.Lex.toLex_lt_toLex]
  rfl

/-- "Sorts strictly before": by score alone. -/
def byScore {n : ℕ} (x : Fin n → EReal) (a b : Fin n) : Bool := decide (x b < x a)
/-- "Sorts strictly before": by score, then by position. -/
def byKey {n : ℕ} (x : Fin n → EReal) (a b : Fin n) : Bool := decide (keyOf x b < keyOf x a)

theorem stableSort_byKey {n : ℕ} (x : Fin n → EReal) (l : List (Fin n)) (hl : l.Pairwise (· < ·)) :
    stableSort (byScore x) l = stableSort (byKey x) l := by
  induction l with
  | nil => rfl
  | cons a l ih =>
    rw [List.pairwise_cons] at hl
    unfold stableSort
    rw [ih hl.2]
    refine insertBefore_congr _ _ a _ fun b hb => ?_
    have hab := hl.1 b ((perm_stableSort _ l).mem_iff.mp hb)
    unfold byScore byKey
    rw [decide_eq_decide, keyOf_lt]
    constructor
    · exact Or.inl
    · rintro (h | ⟨_, h⟩)
      · exact h
      · exact absurd h (not_lt.mpr hab.le)

theorem sortedFrom_byKey {n : ℕ} (x : Fin n → EReal) : sortedFrom (byScore x) = sortedFrom (byKey x) := by
  funext k
  unfold sortedFrom sortPositions
  rw [List.get_of_eq (stableSort_byKey x _ (List.pairwise_lt_finRange n))]
  rfl

/-- The stable sort by descending score goes down in rank. -/
theorem sortedFrom_antitone {n : ℕ} (x : Fin n → EReal) : Antitone (keyOf x ∘ sortedFrom (byScore x)) := by
  rw [sortedFrom_byKey]
  intro i j hij
  rcases hij.lt_or_eq with h | h
  · have := sortedFrom_noInversion (byKey x) (byKey x)
      (fun a b hab => by
        unfold byKey at hab ⊢
        exact decide_eq_false (not_lt.mpr (of_decide_eq_true hab).le))
      (fun a b h => h)
      (fun a b c hab hbc => by
        unfold byKey at hab hbc ⊢
        exact decide_eq_false (not_lt.mpr ((not_lt.mp (of_decide_eq_false hab)).trans (not_lt.mp (of_decide_eq_false hbc))))) i j h
    unfold byKey at this
    exact not_lt.mp (of_decide_eq_false this)
  · rw [h]

theorem keyOf_injective {n : ℕ} (x : Fin n → EReal) : Function.Injective (keyOf x) := fun a b h =>
  OrderDual.toDual.injective (congrArg Prod.snd (toLex.injective h))

/-- Two rearrangements that go down in rank are the same. -/
theorem perm_unique {n : ℕ} (x : Fin n → EReal) (σ τ : Equiv.Perm (Fin n)) (hσ : Antitone (keyOf x ∘ σ)) (hτ : Antitone (keyOf x ∘ τ)) : σ = τ := by
  have sσ : StrictAnti (keyOf x ∘ σ) := hσ.strictAnti_of_injective ((keyOf_injective x).comp σ.injective)
  have sτ : StrictAnti (keyOf x ∘ τ) := hτ.strictAnti_of_injective ((keyOf_injective x).comp τ.injective)
  have hm : StrictMono (τ.trans σ.symm) := by
    intro i j hij
    have := sτ hij
    have e : ∀ k, (keyOf x ∘ τ) k = (keyOf x ∘ σ) ((τ.trans σ.symm) k) := fun k => by simp
    rw [e, e] at this
    exact sσ.lt_iff_gt.mp this
  have : (hm.orderIsoOfSurjective _ (τ.trans σ.symm).surjective) = OrderIso.refl _ := Subsingleton.elim _ _
  apply Equiv.ext
  intro k
  have hk : (τ.trans σ.symm) k = k := congrArg (fun f : Fin n ≃o Fin n => f k) this
  have := congrArg σ hk
  simp only [Equiv.trans_apply, Equiv.apply_symm_apply] at this
  exact this.symm

/-! A rearrangement of the first positions, the identity on the padding. -/

section
variable {n : ℕ} (hn : n ≤ 2 ^ 15) (x : Fin n → EReal) (τ : Fin n → Fin n)

def padded (p : Place) : Place := if h : p.val < n then ⟨(τ ⟨p.val, h⟩).val, lt_of_lt_of_le (τ ⟨p.val, h⟩).isLt hn⟩ else p

theorem padded_lt (p : Place) (h : p.val < n) : (padded hn τ p).val = (τ ⟨p.val, h⟩).val := by
  unfold padded
  rw [dif_pos h]

theorem padded_ge (p : Place) (h : ¬ p.val < n) : padded hn τ p = p := by
  unfold padded
  rw [dif_neg h]

variable (hτ : Function.Injective τ)

include hτ in
theorem padded_injective : Function.Injective (padded hn τ) := by
  intro p q h
  by_cases hp : p.val < n <;> by_cases hq : q.val < n
  · have h' := congrArg Fin.val h
    rw [padded_lt hn τ p hp, padded_lt hn τ q hq] at h'
    have h2 := hτ (Fin.ext h')
    exact Fin.ext (Fin.mk.inj_iff.mp h2)
  · have h' := congrArg Fin.val h
    rw [padded_lt hn τ p hp, padded_ge hn τ q hq] at h'
    exact absurd (h' ▸ (τ ⟨p.val, hp⟩).isLt) hq
  · have h' := congrArg Fin.val h
    rw [padded_lt hn τ q hq, padded_ge hn τ p hp] at h'
    exact absurd (h'.symm ▸ (τ ⟨q.val, hq⟩).isLt) hp
  · rw [padded_ge hn τ p hp, padded_ge hn τ q hq] at h
    exact h

def paddedPerm : Equiv.Perm Place := Equiv.ofBijective (padded hn τ) (Finite.injective_iff_bijective.mp (padded_injective hn τ hτ))

variable (y : Place → EReal) (hy : ∀ (p : Place) (h : p.val < n), y p = x ⟨p.val, h⟩) (hpad : ∀ p : Place, n ≤ p.val → y p = neg1)
  (hx : ∀ i, neg1 ≤ x i) (hdown : Antitone (keyOf x ∘ τ))
include hy hpad hx hdown

theorem padded_antitone : Antitone (keyOf y ∘ padded hn τ) := by
  intro p q hpq
  show keyOf y (padded hn τ q) ≤ keyOf y (padded hn τ p)
  rw [← not_lt, keyOf_lt]
  by_cases hp : p.val < n
  · have ep := padded_lt hn τ p hp
    have lp : (padded hn τ p).val < n := ep ▸ (τ ⟨p.val, hp⟩).isLt
    have xp : y (padded hn τ p) = x (τ ⟨p.val, hp⟩) := (hy _ lp).trans (congrArg x (Fin.ext ep))
    by_cases hq : q.val < n
    · have eq := padded_lt hn τ q hq
      have lq : (padded hn τ q).val < n := eq ▸ (τ ⟨q.val, hq⟩).isLt
      have xq : y (padded hn τ q) = x (τ ⟨q.val, hq⟩) := (hy _ lq).trans (congrArg x (Fin.ext eq))
      have := hdown (show (⟨p.val, hp⟩ : Fin n) ≤ ⟨q.val, hq⟩ from hpq)
      have := not_lt.mpr this
      rw [Function.comp, Function.comp, keyOf_lt] at this
      rw [xp, xq]
      rintro (h | ⟨h, h'⟩)
      · exact this (Or.inl h)
      · refine this (Or.inr ⟨h, ?_⟩)
        have h'' : (padded hn τ q).val < (padded hn τ p).val := h'
        rw [ep, eq] at h''
        exact h''
    · rw [xp, padded_ge hn τ q hq, hpad q (not_lt.mp hq)]
      rintro (h | ⟨_, h⟩)
      · exact absurd (hx _) (not_le.mpr h)
      · have h' : q.val < (padded hn τ p).val := h
        exact hq (h'.trans lp)
  · have hq : ¬ q.val < n := fun h => hp (lt_of_le_of_lt hpq h)
    rw [padded_ge hn τ p hp, padded_ge hn τ q hq, hpad p (not_lt.mp hp), hpad q (not_lt.mp hq)]
    rintro (h | ⟨_, h⟩)
    · exact absurd h (lt_irrefl _)
    · exact absurd h (not_lt.mpr hpq)

include hn hτ in
/-- A rearrangement of the padded places that goes down in rank is the sort of the real ones. -/
theorem sorted_eq (σ : Equiv.Perm Place) (hσ : Antitone (keyOf y ∘ σ)) (p : Place) (hp : p.val < n) : (σ p).val = (τ ⟨p.val, hp⟩).val := by
  have h : σ = paddedPerm hn τ hτ := perm_unique y σ _ hσ (padded_antitone hn x τ y hy hpad hx hdown)
  rw [h]
  exact padded_lt hn τ p hp
end

end Cert.Proof.Value

namespace Cert.Proof.Value.Ref

open Idealize.ShloMosaic Cert.ReferenceIdeal Cert.ReferenceIdeal.Gen Cert.ReferenceIdeal.Step Cert.Proof.Value

variable (arg0 : FVec Ideal S20000x4 .f32) (arg1 : FVec Ideal S20000 .f32)

/-- The scores by position. -/
def scoreAt (i : Fin 20000) : EReal := arg1 (ix1 i)

theorem along_eq (p : Fin 20000) (k : Fin 20000) : Shape.Idx.along (s := S20000) (ix1 p) 0 k = ix1 k := by
  funext a
  fin_cases a
  unfold Shape.Idx.along
  exact Function.update_self _ _ _

/-- The position the `k`-th of the sorted positions comes from. -/
@[irreducible] def rank (x : Fin 20000 → EReal) (k : Fin 20000) : Fin 20000 := sortedFrom (byScore x) k

theorem rank_eq (x : Fin 20000 → EReal) : rank x = sortedFrom (byScore x) := by
  funext k
  unfold rank
  rfl

theorem rank_injective (x : Fin 20000 → EReal) : Function.Injective (rank x) := by
  rw [rank_eq]
  exact sortedFrom_injective _

theorem rank_antitone (x : Fin 20000 → EReal) : Antitone (keyOf x ∘ rank x) := by
  rw [rank_eq]
  exact sortedFrom_antitone x

theorem from_eq (p q : Fin 20000) : sortedFrom (fun k k' : Fin 20000 =>
      FloatOps.cmpfTotal (F := Ideal) (φ := .f32) .gt (arg1 (Shape.Idx.along (s := S20000) (ix1 p) 0 k)) (arg1 (Shape.Idx.along (s := S20000) (ix1 p) 0 k')) == 1#1) q
    = rank (scoreAt arg1) q := by
  rw [rank_eq]
  refine congrArg (fun f => sortedFrom f q) ?_
  funext k k'
  rw [along_eq, along_eq]
  show (BitVec.ofBool (decide (arg1 (ix1 k') < arg1 (ix1 k))) == 1#1) = decide (arg1 (ix1 k') < arg1 (ix1 k))
  cases decide (arg1 (ix1 k') < arg1 (ix1 k)) <;> rfl

theorem values (p : Fin 6000) : (A_main_values (F := Ideal) arg0 arg1 (ix1 p) : EReal) = scoreAt arg1 (rank (scoreAt arg1) ⟨p.val, by omega⟩) := by
  unfold A_main_values Host.topK Host.sort2
  rw [← from_eq arg1 ⟨p.val, by omega⟩ ⟨p.val, by omega⟩]
  pointwise
  exact congrArg arg1 (along_eq ⟨p.val, by omega⟩ _)

theorem indices (p : Fin 6000) : A_main_indices (F := Ideal) arg0 arg1 (ix1 p) = BitVec.ofNat 32 (rank (scoreAt arg1) ⟨p.val, by omega⟩).val := by
  unfold A_main_indices Host.topK Host.sort2
  rw [← from_eq arg1 ⟨p.val, by omega⟩ ⟨p.val, by omega⟩]
  pointwise
  exact congrArg (BitVec.ofNat 32) (congrArg Fin.val (congrFun (along_eq ⟨p.val, by omega⟩ _) 0))

theorem not_neg' (n : ℕ) (h : n < 20000) (c : BitVec 32) :
    Scalar.select (IntOp.cmpi .slt (BitVec.ofNat 32 n) 0#32) c (BitVec.ofNat 32 n) = BitVec.ofNat 32 n := by
  have : IntOp.cmpi .slt (BitVec.ofNat 32 n) 0#32 = 0#1 := by
    show BitVec.ofBool ((BitVec.ofNat 32 n).slt 0#32) = 0#1
    rw [show (BitVec.ofNat 32 n).slt 0#32 = false from ?_]
    · rfl
    · rw [Bool.eq_false_iff, Ne, BitVec.slt_iff_toInt_lt, toInt_small _ (by omega)]
      simp
  rw [this]
  rfl

theorem row_index (p : Fin 6000) : A_main_v5 (F := Ideal) arg0 arg1 (ix2 p 0) = BitVec.ofNat 32 (rank (scoreAt arg1) ⟨p.val, by omega⟩).val := by
  have h := indices arg0 arg1 p
  unfold A_main_v5 A_main_v4 A_main_v1 A_main_v3 K_main_v0 K_main_v2
  pointwise
  rw [h]
  exact not_neg' _ (rank (scoreAt arg1) ⟨p.val, by omega⟩).isLt _

theorem boxes (p : Fin 6000) (k : Fin 4) : A_main_v6 (F := Ideal) arg0 arg1 (ix2 p k) = arg0 (ix2 (rank (scoreAt arg1) ⟨p.val, by omega⟩) k) := by
  unfold A_main_v6
  exact Routing.gather_row _ rfl rfl rfl rfl rfl _ _ p k _ (row_index arg0 arg1 p) (by norm_num)

/-- The state before the first round. -/
theorem init_at (S : ℕ → EReal) (B : ℕ → Box) (hS : ∀ p : Fin 6000, S p.val = scoreAt arg1 (rank (scoreAt arg1) ⟨p.val, by omega⟩))
    (hB : ∀ (p : Fin 6000) (k : Fin 4), B p.val k = arg0 (ix2 (rank (scoreAt arg1) ⟨p.val, by omega⟩) k)) : At (init (F := Ideal) arg0 arg1) (V B 0) S B where
  valid i := by
    show K_main_v7 (F := Ideal) (ix1 i) = BitVec.ofBool (decide (i.val < 6000))
    rw [decide_eq_true i.isLt]
    unfold K_main_v7 K_main_c_1
    pointwise
    rfl
  score i := (values arg0 arg1 i).trans (hS i).symm
  box i k := (boxes arg0 arg1 i k).trans (hB i k).symm
  small i h := V_lt B 0 i h

end Cert.Proof.Value.Ref
-- ==== Proof.Value.RefStep.lean ====
/-
  One trip of the reference, element by element: the row of the first eligible candidate is written, and the candidates
  that overlap it too much are no longer eligible.
-/
module

public import proofs.«01_k».proof.Proof.Value.RefBest

@[expose] public section

noncomputable section

namespace Cert.Proof.Value.Ref

open Idealize.ShloMosaic Cert.ReferenceIdeal Cert.ReferenceIdeal.Gen Cert.ReferenceIdeal.Step Cert.Proof.Value

variable {s : State Ideal} {v : ℕ → Bool} {S : ℕ → EReal} {B : ℕ → Box}

theorem not_neg (n : ℕ) (h : n < 6000) (c : BitVec 32) : Scalar.select (IntOp.cmpi .slt (BitVec.ofNat 32 n) 0#32) c (BitVec.ofNat 32 n) = BitVec.ofNat 32 n := by
  have : IntOp.cmpi .slt (BitVec.ofNat 32 n) 0#32 = 0#1 := by
    show BitVec.ofBool ((BitVec.ofNat 32 n).slt 0#32) = 0#1
    rw [show (BitVec.ofNat 32 n).slt 0#32 = false from ?_]
    · rfl
    · rw [Bool.eq_false_iff, Ne, BitVec.slt_iff_toInt_lt, toInt_small _ (by omega)]
      simp
  rw [this]
  rfl

theorem zero_word (c : BitVec 32) : Scalar.select (IntOp.cmpi .slt (0#32 : BitVec 32) 0#32) c (0#32) = 0#32 := not_neg 0 (by omega) c

section
variable (j f : ℕ) (hf : f < 6000) (hb : ∀ y, b14 j s y = BitVec.ofNat 32 f)
include hf hb

theorem w19 (y : S_.Idx) : b19 j s y = BitVec.ofNat 32 f := by
  unfold b19 b16 b18 b15; pointwise; rw [hb]; exact not_neg f hf _
theorem w28 (y : S_.Idx) : b28 j s y = BitVec.ofNat 32 f := by
  unfold b28 b25 b27 b24; pointwise; rw [hb]; exact not_neg f hf _
theorem w115 (y : S_.Idx) : b115 j s y = BitVec.ofNat 32 f := by
  unfold b115 b112 b114 b111; pointwise; rw [hb]; exact not_neg f hf _
theorem w130 (y : S_.Idx) : b130 j s y = BitVec.ofNat 32 f := by
  unfold b130 b127 b129 b126; pointwise; rw [hb]; exact not_neg f hf _
omit hf hb in
theorem w36 (y : S_.Idx) : b36 j s y = 0#32 := by
  unfold b36 b31 b35 b29 b30; pointwise; exact zero_word _
omit hf hb in
theorem w123 (y : S_.Idx) : b123 j s y = 0#32 := by
  unfold b123 b118 b122 b116 b117; pointwise; exact zero_word _

omit hb in
theorem slice1 (x : FVec Ideal S6000 .f32) (w : IVec S_ 32) (hw : ∀ y, w y = BitVec.ofNat 32 f) (y : S1.Idx) :
    Host.dynamicSlice S1 x (fun k => (((![w] : Fin 1 → (⟨S_, .i32⟩ : BufTy).Contents (Elt Ideal))) k (Shape.Idx.first h_S_)).toInt) sliceFits_S6000_S1 y = x (ix1 ⟨f, hf⟩) := by
  refine (congrFun (WordCmp.dynamicSlice_eq_extract S1 x _ sliceFits_S6000_S1 ![f] ⟨rfl, fun a => by fin_cases a; show f + 1 ≤ 6000; omega⟩
    (fun a => by fin_cases a; show (w _).toInt = (f : ℤ); rw [hw, toInt_small _ (by omega)])) y).trans ?_
  unfold extractStridedSlice
  congr 1
  funext a
  fin_cases a
  apply Fin.ext
  have : (y 0).val < 1 := (y 0).isLt
  show f + (y 0).val = f
  omega

omit hb in
theorem slice4 (x : FVec Ideal S6000x4 .f32) (w z : IVec S_ 32) (hw : ∀ y, w y = BitVec.ofNat 32 f) (hz : ∀ y, z y = 0#32) (y : S1x4.Idx) :
    Host.dynamicSlice S1x4 x (fun k => (((![w, z] : Fin 2 → (⟨S_, .i32⟩ : BufTy).Contents (Elt Ideal))) k (Shape.Idx.first h_S_)).toInt) sliceFits_S6000x4_S1x4 y
      = x (ix2 ⟨f, hf⟩ (y 1)) := by
  refine (congrFun (WordCmp.dynamicSlice_eq_extract S1x4 x _ sliceFits_S6000x4_S1x4 ![f, 0]
    ⟨rfl, fun a => by fin_cases a; (show f + 1 ≤ 6000; omega); (show 0 + 4 ≤ 4; omega)⟩ (fun a => by
      fin_cases a
      · show (w _).toInt = (f : ℤ); rw [hw, toInt_small _ (by omega)]
      · show (z _).toInt = 0; rw [hz]; rfl)) y).trans ?_
  unfold extractStridedSlice
  congr 1
  funext a
  fin_cases a
  · apply Fin.ext
    have : (y 0).val < 1 := (y 0).isLt
    show f + (y 0).val = f
    omega
  · apply Fin.ext
    show 0 + (y 1).val = (y 1).val
    omega

theorem top_score (y : S_.Idx) : b21 j s y = b3 j s (ix1 ⟨f, hf⟩) := by
  unfold b21
  rw [Pointwise.shapeCast_apply]
  unfold b20
  exact slice1 f hf _ _ (w19 j f hf hb) _

theorem pick_score (y : S1.Idx) : b133 j s y = s.main_v9_0 (ix1 ⟨f, hf⟩) := by
  unfold b133 b132
  rw [Pointwise.broadcastInDim_apply, Pointwise.shapeCast_apply]
  unfold b131
  exact slice1 f hf _ _ (w130 j f hf hb) _

theorem pick_box (k : Fin 4) : b38 j s (ix1 k) = s.main_v9_1 (ix2 ⟨f, hf⟩ k) := by
  have : ∀ y, b37 j s y = s.main_v9_1 (ix2 ⟨f, hf⟩ (y 1)) := fun y => by
    unfold b37; exact slice4 f hf _ _ _ (w28 j f hf hb) (w36 j) _
  unfold b38
  pointwise [this]

theorem pick_box' (k : Fin 4) : b125 j s (ix1 k) = s.main_v9_1 (ix2 ⟨f, hf⟩ k) := by
  have : ∀ y, b124 j s y = s.main_v9_1 (ix2 ⟨f, hf⟩ (y 1)) := fun y => by
    unfold b124; exact slice4 f hf _ _ _ (w115 j f hf hb) (w123 j) _
  unfold b125
  pointwise [this]

theorem e40 (y : S_.Idx) : b40 j s y = s.main_v9_1 (ix2 ⟨f, hf⟩ 0) := by
  unfold b40 b39; pointwise; exact pick_box j f hf hb 0
theorem e46 (y : S_.Idx) : b46 j s y = s.main_v9_1 (ix2 ⟨f, hf⟩ 1) := by
  unfold b46 b45; pointwise; exact pick_box j f hf hb 1
theorem e52 (y : S_.Idx) : b52 j s y = s.main_v9_1 (ix2 ⟨f, hf⟩ 2) := by
  unfold b52 b51; pointwise; exact pick_box j f hf hb 2
theorem e58 (y : S_.Idx) : b58 j s y = s.main_v9_1 (ix2 ⟨f, hf⟩ 3) := by
  unfold b58 b57; pointwise; exact pick_box j f hf hb 3
theorem e84 (y : S_.Idx) : b84 j s y = (s.main_v9_1 (ix2 ⟨f, hf⟩ 2) - s.main_v9_1 (ix2 ⟨f, hf⟩ 0)) * (s.main_v9_1 (ix2 ⟨f, hf⟩ 3) - s.main_v9_1 (ix2 ⟨f, hf⟩ 1)) := by
  have e (k : Fin 4) := pick_box j f hf hb k
  unfold b84 b83 b82 b81 b80 b79 b78 b77 b76 b75 b74
  pointwise
  rw [← e 0, ← e 1, ← e 2, ← e 3]

omit hf hb in
theorem c42 (i : Fin 6000) : b42 j s (ix1 i) = s.main_v9_1 (ix2 i 0) := by unfold b42 b41; pointwise
omit hf hb in
theorem c48 (i : Fin 6000) : b48 j s (ix1 i) = s.main_v9_1 (ix2 i 1) := by unfold b48 b47; pointwise
omit hf hb in
theorem c54 (i : Fin 6000) : b54 j s (ix1 i) = s.main_v9_1 (ix2 i 2) := by unfold b54 b53; pointwise
omit hf hb in
theorem c60 (i : Fin 6000) : b60 j s (ix1 i) = s.main_v9_1 (ix2 i 3) := by unfold b60 b59; pointwise
omit hf hb in
theorem c95 (i : Fin 6000) : b95 j s (ix1 i) = (s.main_v9_1 (ix2 i 2) - s.main_v9_1 (ix2 i 0)) * (s.main_v9_1 (ix2 i 3) - s.main_v9_1 (ix2 i 1)) := by
  unfold b95 b94 b93 b92 b91 b90 b89 b88 b87 b86 b85; pointwise

theorem e73 (h : At s v S B) (i : Fin 6000) : b73 j s (ix1 i) = inter (B f) (B i.val) := by
  unfold b73 b72 b71 b70 b69 b68 b67 b66 b65 b64 b63 b62 b61 b56 b55 b50 b49 b44 b43
  pointwise
  rw [e40 j f hf hb, e46 j f hf hb, e52 j f hf hb, e58 j f hf hb, c42, c48, c54, c60]
  simp only [h.box]
  unfold inter
  rw [max_comm (min (B f 2) _ - _), max_comm (min (B f 3) _ - _)]

theorem e105 (h : At s v S B) (i : Fin 6000) : b105 j s (ix1 i) = BitVec.ofBool (clear (B f) (B i.val)) := by
  unfold b105 b104 b103 b102 b101 b100 b99 b98 b97 b96
  pointwise
  rw [e73 j f hf hb h, c95, e84 j f hf hb]
  simp only [h.box]
  rfl

/-- The new candidates. -/
theorem new_valid (h : At s v S B) (i : Fin 6000) : b110 j s (ix1 i) = BitVec.ofBool (v i.val && clear (B f) (B i.val) && decide (i.val ≠ f)) := by
  unfold b110 b109 b108 b107 b106
  pointwise
  rw [e105 j f hf hb h, h.valid, hb]
  have : IntOp.cmpi .ne (BitVec.ofNat 32 i.val) (BitVec.ofNat 32 f) = BitVec.ofBool (decide (i.val ≠ f)) := by
    show BitVec.ofBool (BitVec.ofNat 32 i.val != BitVec.ofNat 32 f) = _
    congr 1
    by_cases e : i.val = f
    · rw [e]; simp
    · rw [decide_eq_true e, bne_iff_ne, Ne, ← BitVec.toNat_inj, BitVec.toNat_ofNat, BitVec.toNat_ofNat]
      have := i.isLt
      omega
  rw [this]
  cases v i.val <;> cases clear (B f) (B i.val) <;> cases decide (i.val ≠ f) <;> rfl

/-- The row that is written. -/
theorem new_row (h : At s v S B) (l : Fin 5) :
    b139 j s (ix2 0 l) = if ⊥ < b3 j s (ix1 ⟨f, hf⟩) then entry (B f) (S f) l.val else neg1 := by
  have h23 : ∀ y, b23 j s y = BitVec.ofBool (decide (⊥ < b3 j s (ix1 ⟨f, hf⟩))) := fun y => by
    unfold b23 b22
    pointwise
    rw [top_score j f hf hb, neg_inf]
  have h134 : b134 j s (ix1 l) = entry (B f) (S f) l.val := by
    unfold b134
    fin_cases l
    · exact ((pick_box' j f hf hb 0).trans (h.box ⟨f, hf⟩ 0))
    · exact ((pick_box' j f hf hb 1).trans (h.box ⟨f, hf⟩ 1))
    · exact ((pick_box' j f hf hb 2).trans (h.box ⟨f, hf⟩ 2))
    · exact ((pick_box' j f hf hb 3).trans (h.box ⟨f, hf⟩ 3))
    · exact ((pick_score j f hf hb (ix1 0)).trans (h.score ⟨f, hf⟩))
  unfold b139 b138 b137 b136 b135
  pointwise
  rw [h23, h134, select_ofBool']
  simp only [decide_eq_true_eq]
  rfl

omit hf hb in
/-- Where the row is written. -/
theorem new_rows (hj : j < 1000) (r : Fin 1000) (l : Fin 5) :
    b141 j s (ix2 r l) = if r.val = j then b139 j s (ix2 0 l) else s.main_v9_4 (ix2 r l) := by
  unfold b141
  refine (congrFun (WordCmp.dynamicUpdateSlice_eq_update s.main_v9_4 (b139 j s) _ updateFits_S1000x5_S1x5 ![j, 0]
    ⟨rfl, fun a => by fin_cases a; (show j + 1 ≤ 1000; omega); (show 0 + 5 ≤ 5; omega)⟩ (fun a => by
      fin_cases a
      · show (BitVec.ofNat 32 j).toInt = (j : ℤ); rw [toInt_small _ (by omega)]
      · show (b140 j s (Shape.Idx.first h_S_)).toInt = 0; unfold b140; rfl)) (ix2 r l)).trans ?_
  unfold updateSlice
  by_cases e : r.val = j
  · rw [if_pos e, dif_pos]
    · congr 1
      funext a
      fin_cases a
      · apply Fin.ext; show r.val - j = 0; omega
      · apply Fin.ext; show l.val - 0 = l.val; omega
    · intro a
      fin_cases a
      · show j ≤ r.val ∧ r.val < j + 1; omega
      · show 0 ≤ l.val ∧ l.val < 0 + 5; have := l.isLt; omega
  · rw [if_neg e, dif_neg]
    intro hin
    have := hin 0
    have : j ≤ r.val ∧ r.val < j + 1 := this
    omega
end

/-- One trip keeps what the state holds. -/
theorem step_at (hS : ∀ i j, i ≤ j → j < 6000 → S j ≤ S i) (hS0 : ∀ i, i < 6000 → ⊥ < S i) (h : At s v S B) (j : ℕ) :
    At (step j s) (next B v) S B where
  valid i := by
    rw [step_main_v9_3, new_valid j (first v) (first_lt h) (best hS hS0 h j) h]
    rfl
  score := h.score
  box := h.box
  small i hi := by
    unfold next at hi
    simp only [Bool.and_eq_true] at hi
    exact h.small i hi.1.1

/-- One trip writes its row. -/
theorem step_rows (hS : ∀ i j, i ≤ j → j < 6000 → S j ≤ S i) (hS0 : ∀ i, i < 6000 → ⊥ < S i) (h : At s v S B) (j : ℕ) (hj : j < 1000)
    (r : Fin 1000) (l : Fin 5) : (step j s).main_v9_4 (ix2 r l) = if r.val = j then rowAt B S v l.val else s.main_v9_4 (ix2 r l) := by
  rw [step_main_v9_4, new_rows j hj, new_row j (first v) (first_lt h) (best hS hS0 h j) h, masked h]
  have : (⊥ < (if v (first v) = true then S (first v) else ⊥)) ↔ ∃ i, v i = true := by
    constructor
    · intro hlt
      by_cases hv : v (first v) = true
      · exact ⟨_, hv⟩
      · rw [if_neg hv] at hlt
        exact absurd hlt (lt_irrefl _)
    · intro hv
      rw [if_pos (first_spec hv)]
      exact hS0 _ (first_lt h)
  unfold rowAt
  split
  · by_cases hv : ∃ i, v i = true
    · rw [if_pos (this.mpr hv), if_pos hv]
    · rw [if_neg (fun hc => hv (this.mp hc)), if_neg hv]
  · rfl

/-- After all the trips every row is its round's. -/
theorem rows_after (hS : ∀ i j, i ≤ j → j < 6000 → S j ≤ S i) (hS0 : ∀ i, i < 6000 → ⊥ < S i) (it : ℕ → State Ideal)
    (h0 : At (it 0) (V B 0) S B) (hs : ∀ n, it (n + 1) = step n (it n)) (n : ℕ) (hn : n ≤ 1000) :
    At (it n) (V B n) S B ∧ ∀ (r : Fin 1000) (l : Fin 5), r.val < n → (it n).main_v9_4 (ix2 r l) = rowAt B S (V B r.val) l.val := by
  induction n with
  | zero => exact ⟨h0, fun r l hr => absurd hr (by omega)⟩
  | succ n ih =>
    obtain ⟨ha, hr⟩ := ih (by omega)
    rw [hs]
    refine ⟨step_at hS hS0 ha n, fun r l hrn => ?_⟩
    rw [step_rows hS hS0 ha n (by omega)]
    by_cases e : r.val = n
    · rw [if_pos e, e]
    · rw [if_neg e]
      exact hr r l (by omega)

end Cert.Proof.Value.Ref
-- ==== Proof.Value.Equal.lean ====
/-
  The two results are the same: the kernel's sorted arrays are the reference's candidates in order, and both go through
  them by the same rule.
-/
module

public import Idealize.ShloMosaic.Lib.Pointwise
public import Idealize.ShloMosaic.Lib.ReduceAll
public import proofs.«01_k».proof.Pre_scores_from_pad
public import proofs.«01_k».proof.Proof.Value.KernelHost
public import proofs.«01_k».proof.Proof.Value.SortRun
public import proofs.«01_k».proof.Proof.Value.SelStep
public import proofs.«01_k».proof.Proof.Value.TopK
public import proofs.«01_k».proof.Proof.Value.RefStep

@[expose] public section

noncomputable section

namespace Cert.Proof.Value

open Idealize.ShloMosaic Idealize.ShloMosaic.TcCoe Cert.KernelIdeal Cert.KernelIdeal.Gen Cert.Proof.KI

/-- The scores of sorted arrays, by place. -/
def sAt (a : Arrs Idealize.ShloMosaic.Ideal) (i : ℕ) : EReal := if h : i < 2 ^ 15 then a.s (ix ⟨i, h⟩) else 0

/-- The boxes of sorted arrays, by place. -/
def bAt (a : Arrs Idealize.ShloMosaic.Ideal) (i : ℕ) : Box := fun k =>
  if h : i < 2 ^ 15 then (![a.x1 (ix ⟨i, h⟩), a.y1 (ix ⟨i, h⟩), a.x2 (ix ⟨i, h⟩), a.y2 (ix ⟨i, h⟩)] : Fin 4 → EReal) k else 0

theorem place_at (r : Fin 48) (l : Fin 128) (h : r.val * 128 + l.val < 2 ^ 15) :
    (Idealize.ShloMosaic.ix2 ⟨r.val, by omega⟩ l : S256x128.Idx) = ix ⟨r.val * 128 + l.val, h⟩ := by
  unfold ix
  rw [ix2_eq_valueIdx]
  congr 1
  · apply Fin.ext; show r.val = (r.val * 128 + l.val) / 128; omega
  · apply Fin.ext; show l.val = (r.val * 128 + l.val) % 128; omega

theorem below (r : Fin 48) (l : Fin 128) : r.val * 128 + l.val < 2 ^ 15 := by omega

theorem sAt_at (a : Arrs Idealize.ShloMosaic.Ideal) (r : Fin 48) (l : Fin 128) :
    sAt a (r.val * 128 + l.val) = a.s (Idealize.ShloMosaic.ix2 ⟨r.val, by omega⟩ l) := by
  unfold sAt
  rw [dif_pos (below r l), place_at r l (below r l)]

theorem bAt_at (a : Arrs Idealize.ShloMosaic.Ideal) (r : Fin 48) (l : Fin 128) (k : Fin 4) :
    bAt a (r.val * 128 + l.val) k = (![a.x1 (Idealize.ShloMosaic.ix2 ⟨r.val, by omega⟩ l), a.y1 (Idealize.ShloMosaic.ix2 ⟨r.val, by omega⟩ l),
      a.x2 (Idealize.ShloMosaic.ix2 ⟨r.val, by omega⟩ l), a.y2 (Idealize.ShloMosaic.ix2 ⟨r.val, by omega⟩ l)] : Fin 4 → EReal) k := by
  unfold bAt
  rw [dif_pos (below r l), place_at r l (below r l)]

theorem pack_as (a : Arrs Idealize.ShloMosaic.Ideal) (y : S384x128.Idx) (q : Fin 256) (k : Fin 8) (hq : (y 0).val / 8 = q.val) (hk : (y 0).val % 8 = k.val) :
    packOf a y = k0_pay21 (rowOf a.x1 q) (rowOf a.y1 q) (rowOf a.x2 q) (rowOf a.y2 q) (rowOf a.s q) (ValueIdx.ix2 k (y 1)) := by
  obtain ⟨q, hq'⟩ := q
  obtain ⟨k, hk'⟩ := k
  subst hq
  subst hk
  rfl

/-- The packed array's rows: five of every eight rows are the coordinates and the score. -/
theorem pack_at (a : Arrs Idealize.ShloMosaic.Ideal) (r : Fin 48) (l : Fin 128) (k : Fin 5) :
    packOf a (Idealize.ShloMosaic.ix2 ⟨8 * r.val + k.val, by omega⟩ l)
      = (![a.x1, a.y1, a.x2, a.y2, a.s] : Fin 5 → FVec Idealize.ShloMosaic.Ideal S256x128 .f32) k (Idealize.ShloMosaic.ix2 ⟨r.val, by omega⟩ l) := by
  have e := packed (fun j => rowOf (F := Idealize.ShloMosaic.Ideal) ((![a.x1, a.y1, a.x2, a.y2, a.s] : Fin 5 → FVec Idealize.ShloMosaic.Ideal S256x128 .f32) j) ⟨r.val, by omega⟩) k l
  refine (pack_as a _ ⟨r.val, by omega⟩ ⟨k.val, by omega⟩ (by show (8 * r.val + k.val) / 8 = r.val; omega)
    (by show (8 * r.val + k.val) % 8 = k.val; omega)).trans (Eq.trans ?_ (e.trans ?_))
  · rw [ix2_eq_valueIdx, ix2_eq_valueIdx]
    rfl
  · unfold rowOf
    rw [ix2_eq_valueIdx, ix2_eq_valueIdx]

theorem reads_of (a : Arrs Idealize.ShloMosaic.Ideal) : Reads (fixedOf a) (sAt a) (bAt a) where
  x1 r l := (bAt_at a r l 0).symm
  y1 r l := (bAt_at a r l 1).symm
  x2 r l := (bAt_at a r l 2).symm
  y2 r l := (bAt_at a r l 3).symm
  area r l := by
    obtain ⟨t0, t1, t2, t3, _⟩ := top_at (fixedOf a) r l
    exact areas _ _ _ _ _ r l (t0.trans (bAt_at a r l 0).symm) (t1.trans (bAt_at a r l 1).symm) (t2.trans (bAt_at a r l 2).symm)
      (t3.trans (bAt_at a r l 3).symm)
  pack r l k := by
    refine (pack_at a r l ⟨k.val, by omega⟩).trans ((?_ : _ = _).trans (bAt_at a r l k).symm)
    fin_cases k <;> rfl
  score r l := (pack_at a r l 4).trans (sAt_at a r l).symm

/-! ## The kernel's candidates are the reference's -/

section

variable (m : (ℓ : Loc nD τ sig) → Buf (Elt Idealize.ShloMosaic.Ideal) ℓ) (c : Dev nD)

/-- The kernel's sorted arrays. -/
abbrev lastArrs := sortedArrs (stg0 m c) (stg1 m c) (stg2 m c) (stg3 m c) (stg4 m c)

/-- The places' order: down in score, and the real ones among them as the reference ranks them. -/
theorem order (hx : ∀ i, neg1 ≤ Ref.scoreAt (scoresOf m c) i) :
    ∃ σ : Equiv.Perm Place, Holds (lastArrs m c) (firstArrs m c) σ ∧ Antitone (key (firstArrs m c) ∘ σ)
      ∧ ∀ (p : Place) (hp : p.val < 20000), (σ p).val = (Ref.rank (Ref.scoreAt (scoresOf m c)) ⟨p.val, hp⟩).val := by
  obtain ⟨σ, hσ, hk⟩ := sorted_holds (firstArrs m c) (start_holds _ _ _ _ _)
  refine ⟨σ, hσ, hk, fun p hp => ?_⟩
  exact sorted_eq (by decide : 20000 ≤ 2 ^ 15) (Ref.scoreAt (scoresOf m c)) (Ref.rank (Ref.scoreAt (scoresOf m c))) (Ref.rank_injective _)
    (fun u => (firstArrs m c).s (ix u)) (fun p h => begin_score m c p h) (fun p h => begin_pad m c p h) hx (Ref.rank_antitone _) σ hk p hp

theorem cand_score (hx : ∀ i, neg1 ≤ Ref.scoreAt (scoresOf m c) i) (p : Fin 6000) :
    sAt (lastArrs m c) p.val = Ref.scoreAt (scoresOf m c) (Ref.rank (Ref.scoreAt (scoresOf m c)) ⟨p.val, by omega⟩) := by
  obtain ⟨σ, hσ, hk, hr⟩ := order m c hx
  unfold sAt
  have hp : p.val < 2 ^ 15 := by omega
  have e := hr ⟨p.val, hp⟩ (by show p.val < 20000; omega)
  rw [dif_pos hp, hσ.s, begin_score m c _ (by rw [e]; exact Fin.isLt _)]
  exact congrArg (Ref.scoreAt (scoresOf m c)) (Fin.ext e)

theorem cand_box (hx : ∀ i, neg1 ≤ Ref.scoreAt (scoresOf m c) i) (p : Fin 6000) (k : Fin 4) :
    bAt (lastArrs m c) p.val k = boxesOf m c (Idealize.ShloMosaic.ix2 (Ref.rank (Ref.scoreAt (scoresOf m c)) ⟨p.val, by omega⟩) k) := by
  obtain ⟨σ, hσ, hk, hr⟩ := order m c hx
  unfold bAt
  have hp : p.val < 2 ^ 15 := by omega
  have e := hr ⟨p.val, hp⟩ (by show p.val < 20000; omega)
  have hl : (σ ⟨p.val, hp⟩).val < 20000 := by rw [e]; exact Fin.isLt _
  have ef : (⟨(σ ⟨p.val, hp⟩).val, hl⟩ : Fin 20000) = Ref.rank (Ref.scoreAt (scoresOf m c)) ⟨p.val, by omega⟩ := Fin.ext e
  rw [dif_pos hp, hσ.x1, hσ.y1, hσ.x2, hσ.y2, begin_x1 m c _ hl, begin_y1 m c _ hl, begin_x2 m c _ hl, begin_y2 m c _ hl, ef]
  fin_cases k <;> rfl

theorem cand_down (hx : ∀ i, neg1 ≤ Ref.scoreAt (scoresOf m c) i) (i j : ℕ) (hij : i ≤ j) (hj : j < 6000) :
    sAt (lastArrs m c) j ≤ sAt (lastArrs m c) i := by
  obtain ⟨σ, hσ, hk, hr⟩ := order m c hx
  unfold sAt
  have hi' : i < 2 ^ 15 := by omega
  have hj' : j < 2 ^ 15 := by omega
  rw [dif_pos hi', dif_pos hj', hσ.s, hσ.s]
  have h := hk (show (⟨i, hi'⟩ : Place) ≤ ⟨j, hj'⟩ from hij)
  exact (Prod.Lex.toLex_le_toLex.1 h).elim (fun h => h.le) fun h => h.1.le

theorem cand_real (hx : ∀ i, neg1 ≤ Ref.scoreAt (scoresOf m c) i) (i : ℕ) (hi : i < 6000) : ⊥ < sAt (lastArrs m c) i :=
  lt_of_lt_of_le bot_lt_neg1 ((cand_score m c hx ⟨i, hi⟩).symm ▸ hx _)

/-- The reference's rows, at the kernel's arguments, are the kernel's. -/
theorem rows_equal (hx : ∀ i, neg1 ≤ Ref.scoreAt (scoresOf m c) i) (it : ℕ → Cert.ReferenceIdeal.Step.State Idealize.ShloMosaic.Ideal)
    (h0 : it 0 = Cert.ReferenceIdeal.Step.init (boxesOf m c) (scoresOf m c)) (hs : ∀ n, it (n + 1) = Cert.ReferenceIdeal.Step.step n (it n)) :
    (it 1000).main_v9_4 = extractStridedSlice S1000x5 ![0, 0] (outStg m c) slices_S1000x128_S1000x5_0_0 := by
  have hat := Ref.init_at (boxesOf m c) (scoresOf m c) (sAt (lastArrs m c)) (bAt (lastArrs m c)) (cand_score m c hx) (cand_box m c hx)
  rw [← h0] at hat
  have hrows := (Ref.rows_after (cand_down m c hx) (cand_real m c hx) it hat hs 1000 (le_refl _)).2
  funext y
  obtain ⟨r, l, rfl⟩ : ∃ (r : Fin 1000) (l : Fin 5), y = Idealize.ShloMosaic.ix2 r l := ⟨y 0, y 1, Idealize.ShloMosaic.eq_ix2 y⟩
  refine (hrows r l r.isLt).trans ?_
  refine (selected (reads_of (lastArrs m c)) r l).symm.trans ?_
  pointwise
  rfl

end

/-- The precondition, read at a place. -/
theorem scores_ge [Cert.Pre_scores_from_pad.Facts] (a0 : FVec Idealize.ShloMosaic.Ideal Cert.Pre_scores_from_pad.S20000x4 .f32) (a1 : FVec Idealize.ShloMosaic.Ideal Cert.Pre_scores_from_pad.S20000 .f32)
    (h : Cert.Pre_scores_from_pad.fn (F := Idealize.ShloMosaic.Ideal) a0 a1 = fun _ => 1#1) (i : Fin 20000) : neg1 ≤ a1 (ix1 i) := by
  have hz : Cert.Pre_scores_from_pad.S_.Idx := fun q => q.elim0
  have e := congrFun h hz
  have := Host.reduce_andi_eq_one _ _ _ _ hz e (ix1 i) (funext fun q => q.elim0)
  have h2 : BitVec.ofBool (decide (neg1 ≤ a1 (ix1 i))) = 1#1 := this
  by_contra hn
  rw [decide_eq_false hn] at h2
  exact absurd h2 (by decide)

end Cert.Proof.Value

end
-- ==== Proof.lean ====
/-
  The claims, assembled: each program's run, weakened to what its claim says.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.K.Result
public import proofs.«01_k».proof.Proof.KI.Result
public import proofs.«01_k».proof.Proof.RefRun
public import proofs.«01_k».proof.Proof.Value.Equal
public import Idealize.ShloMosaic.Lib.Quiescent

@[expose] public section

noncomputable section

namespace Cert.Proof

open Idealize.ShloMosaic Idealize.ShloMosaic.TcCoe Idealize.SL.Sem

/-- The kernel as printed runs, leaves its arguments, and ends with every counter at zero. -/
theorem quiet_kernel : Cert.quiescent_Kernel := fun m g _ =>
  (θ_run Cert.Kernel.defs _ _).mono (fun _ h => ⟨fun c => (h.1 c).2, h.2⟩) (K.run_all m g)

/-- So does its reading over the extended reals. -/
theorem quiet_kernelIdeal : Cert.quiescent_KernelIdeal := fun m g _ =>
  (θ_run Cert.KernelIdeal.defs _ _).mono (fun _ h => ⟨fun c => (h.1 c).2, h.2⟩) (KI.run_all m g)

/-- So does the reference, which has no counter at all. -/
theorem quiet_reference : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run m g)

/-- The precondition's own shape relations. -/
theorem pre_facts : Cert.Pre_scores_from_pad.Facts where
  bcast_S_S20000 := by decide
  reducesTo_S20000_S_d0 := by decide
  h_S_ := by decide

/-- The same two runs, read with the precondition at hand. -/
theorem quiet_kernelIdeal_pre [Cert.Pre_scores_from_pad.Facts] : Cert.quiescent_KernelIdeal_pre_scores_from_pad := fun m g _ =>
  (θ_run Cert.KernelIdeal.defs _ _).mono (fun _ h => ⟨fun c => (h.1 c).2, h.2⟩) (KI.run_all m g)

theorem quiet_reference_pre [Cert.Pre_scores_from_pad.Facts] : Cert.quiescent_ReferenceIdeal_pre_scores_from_pad := fun m g _ =>
  (θ_run Cert.ReferenceIdeal.defs _ _).mono
    (fun r h => ⟨fun c => (h c).2, sem_eq_zero_of_no_sems (by decide) r.2⟩) (Cert.ReferenceIdeal.Value.run m g)

/-- The reference's states, one a trip. -/
def states (m : (ℓ : Loc Cert.ReferenceIdeal.nD Cert.ReferenceIdeal.τ Cert.ReferenceIdeal.sig) → Buf (Elt Idealize.ShloMosaic.Ideal) ℓ)
    (c : Dev Cert.ReferenceIdeal.nD) : ℕ → Cert.ReferenceIdeal.Step.State Idealize.ShloMosaic.Ideal
  | 0 => RefRun.initState m c
  | n + 1 => Cert.ReferenceIdeal.Step.step n (states m c n)

/-- The kernel's rows are the reference's. -/
theorem equal [Cert.Pre_scores_from_pad.Facts] : Cert.algebraic_KernelIdeal_ReferenceIdeal_pre_scores_from_pad := fun m g m' g' hpre hargs => by
  refine ⟨fun c => extractStridedSlice Cert.KernelIdeal.S1000x5 ![0, 0] (KI.outStg m c) Cert.KernelIdeal.Gen.facts.slices_S1000x128_S1000x5_0_0, ?_, ?_⟩
  · exact (θ_run Cert.KernelIdeal.defs _ _).mono (fun _ h => h.1) (KI.run_all m g)
  · refine (θ_run Cert.ReferenceIdeal.defs _ _).mono (fun _ h c => ⟨(h c).1.trans ?_, (h c).2⟩)
      (RefRun.run_iter m' g' (states m') (fun c => rfl) (fun c n => rfl))
    refine Value.rows_equal m c (fun i => Value.scores_ge _ _ (hpre c) i) (states m' c) ?_ (fun n => rfl)
    show Cert.ReferenceIdeal.Step.init _ _ = _
    rw [(hargs c).1, (hargs c).2]

theorem claim : Cert.Claim :=
  ⟨Cert.Kernel.Gen.facts, Cert.KernelIdeal.Gen.facts, Cert.ReferenceIdeal.Gen.facts, pre_facts,
    quiet_kernel, quiet_kernelIdeal, @quiet_kernelIdeal_pre pre_facts, quiet_reference, @quiet_reference_pre pre_facts, trivial, @equal pre_facts⟩

end Cert.Proof

end
